-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rated_once [hPre_rated_once : Cert.Pre_rated_once.Facts] (m : (ℓ : Loc Cert.KernelIdeal.nD Cert.KernelIdeal.τ Cert.KernelIdeal.sig) → Buf (Elt Ideal) ℓ) : Prop :=
  ∀ c : Dev Cert.KernelIdeal.nD,
    (Cert.Pre_rated_once.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).1 = (fun _ => 1#1)
    ∧ (Cert.Pre_rated_once.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.1 = (fun _ => 1#1)
    ∧ (Cert.Pre_rated_once.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.1 = (fun _ => 1#1)
    ∧ (Cert.Pre_rated_once.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.1 = (fun _ => 1#1)
    ∧ (Cert.Pre_rated_once.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.1 = (fun _ => 1#1)
    ∧ (Cert.Pre_rated_once.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.1 = (fun _ => 1#1)
    ∧ (Cert.Pre_rated_once.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.1 = (fun _ => 1#1)
    ∧ (Cert.Pre_rated_once.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rated_once [hPre_rated_once : Cert.Pre_rated_once.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rated_once.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).1 = (fun _ => 1#1)
    ∧ (Cert.Pre_rated_once.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.1 = (fun _ => 1#1)
    ∧ (Cert.Pre_rated_once.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.1 = (fun _ => 1#1)
    ∧ (Cert.Pre_rated_once.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.1 = (fun _ => 1#1)
    ∧ (Cert.Pre_rated_once.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.1 = (fun _ => 1#1)
    ∧ (Cert.Pre_rated_once.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.1 = (fun _ => 1#1)
    ∧ (Cert.Pre_rated_once.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.1 = (fun _ => 1#1)
    ∧ (Cert.Pre_rated_once.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_rated_once [hKernelIdeal : Cert.KernelIdeal.Facts] [hPre_rated_once : Cert.Pre_rated_once.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rated_once m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_rated_once [hReferenceIdeal : Cert.ReferenceIdeal.Facts] [hPre_rated_once : Cert.Pre_rated_once.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rated_once m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_rated_once [hKernelIdeal : Cert.KernelIdeal.Facts] [hReferenceIdeal : Cert.ReferenceIdeal.Facts] [hPre_rated_once : Cert.Pre_rated_once.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rated_once m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v23)) (v2 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_v27) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_v102) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_rated_once : Cert.Pre_rated_once.Facts),
    quiescent_Kernel (hKernel := hKernel)
    ∧ quiescent_KernelIdeal (hKernelIdeal := hKernelIdeal)
    ∧ quiescent_KernelIdeal_pre_rated_once (hKernelIdeal := hKernelIdeal) (hPre_rated_once := hPre_rated_once)
    ∧ quiescent_ReferenceIdeal (hReferenceIdeal := hReferenceIdeal)
    ∧ quiescent_ReferenceIdeal_pre_rated_once (hReferenceIdeal := hReferenceIdeal) (hPre_rated_once := hPre_rated_once)
    ∧ preserves_Kernel_KernelIdeal
    ∧ algebraic_KernelIdeal_ReferenceIdeal_pre_rated_once (hKernelIdeal := hKernelIdeal) (hReferenceIdeal := hReferenceIdeal) (hPre_rated_once := hPre_rated_once)
-- ==== Pre_rated_once.lean ====
abbrev S2000x512 : Shape := ⟨2, ![2000, 512]⟩
abbrev S2000x128 : Shape := ⟨2, ![2000, 128]⟩
abbrev S640x256 : Shape := ⟨2, ![640, 256]⟩
abbrev S256 : Shape := ⟨1, ![256]⟩
abbrev S2x5x256x256 : Shape := ⟨4, ![2, 5, 256, 256]⟩
abbrev S256x128 : Shape := ⟨2, ![256, 128]⟩
abbrev S128 : Shape := ⟨1, ![128]⟩
abbrev S2x128x128 : Shape := ⟨3, ![2, 128, 128]⟩
abbrev S5x2 : Shape := ⟨2, ![5, 2]⟩
abbrev S5x2000x2000 : Shape := ⟨3, ![5, 2000, 2000]⟩
abbrev S_ : Shape := ⟨0, ![]⟩
abbrev S2000x2000 : Shape := ⟨2, ![2000, 2000]⟩

class Facts : Prop where
  bcast_S_S5x2000x2000 : S_.BroadcastsInDim S5x2000x2000 (![] : Fin 0 → Fin S5x2000x2000.rank)
  reducesTo_S5x2000x2000_S2000x2000_d0 : S5x2000x2000.ReducesTo [0] S2000x2000
  h_S_ : 0 < S_.numel
  bcast_S_S2000x2000 : S_.BroadcastsInDim S2000x2000 (![] : Fin 0 → Fin S2000x2000.rank)
  bcast_S_S256x128 : S_.BroadcastsInDim S256x128 (![] : Fin 0 → Fin S256x128.rank)
  bcast_S_S128 : S_.BroadcastsInDim S128 (![] : Fin 0 → Fin S128.rank)
  bcast_S_S2x128x128 : S_.BroadcastsInDim S2x128x128 (![] : Fin 0 → Fin S2x128x128.rank)
  bcast_S_S5x2 : S_.BroadcastsInDim S5x2 (![] : Fin 0 → Fin S5x2.rank)

variable [Facts]

def fn_part1 {F : FTy → Type} [FloatOps F] (main_arg14 : FVec F S128 .f32) (main_arg15 : FVec F S2x128x128 .f32) (main_arg16 : FVec F S5x2 .f32) (main_v4 : IVec S5x2000x2000 1) (main_v7 : IVec S2000x2000 1) (main_v10 : IVec S256x128 1) (main_v13 : IVec S128 1) (main_v16 : IVec S256x128 1) : IVec S5x2000x2000 1 × IVec S2000x2000 1 × IVec S256x128 1 × IVec S128 1 × IVec S256x128 1 × IVec S128 1 × IVec S2x128x128 1 × IVec S5x2 1 :=
  let main_v17 : FVec F S128 .f32 := Host.absf main_arg14
  let main_cst_6 : FVec F S_ .f32 := constant S_ .f32 0x7F800000#32
  let main_v18 : FVec F S128 .f32 := broadcastInDim S128 ![] bcast_S_S128 main_cst_6
  let main_v19 : IVec S128 1 := cmpf .olt main_v17 main_v18
  let main_v20 : FVec F S2x128x128 .f32 := Host.absf main_arg15
  let main_cst_7 : FVec F S_ .f32 := constant S_ .f32 0x7F800000#32
  let main_v21 : FVec F S2x128x128 .f32 := broadcastInDim S2x128x128 ![] bcast_S_S2x128x128 main_cst_7
  let main_v22 : IVec S2x128x128 1 := cmpf .olt main_v20 main_v21
  let main_v23 : FVec F S5x2 .f32 := Host.absf main_arg16
  let main_cst_8 : FVec F S_ .f32 := constant S_ .f32 0x7F800000#32
  let main_v24 : FVec F S5x2 .f32 := broadcastInDim S5x2 ![] bcast_S_S5x2 main_cst_8
  let main_v25 : IVec S5x2 1 := cmpf .olt main_v23 main_v24
  (main_v4, main_v7, main_v10, main_v13, main_v16, main_v19, main_v22, main_v25)

def fn {F : FTy → Type} [FloatOps F] (main_arg0 : FVec F S2000x512 .f32) (main_arg1 : FVec F S2000x512 .f32) (main_arg2 : FVec F S2000x128 .f32) (main_arg3 : FVec F S2000x128 .f32) (main_arg4 : FVec F S640x256 .f32) (main_arg5 : FVec F S256 .f32) (main_arg6 : FVec F S640x256 .f32) (main_arg7 : FVec F S256 .f32) (main_arg8 : FVec F S2x5x256x256 .f32) (main_arg9 : FVec F S256 .f32) (main_arg10 : FVec F S256 .f32) (main_arg11 : FVec F S256x128 .f32) (main_arg12 : FVec F S128 .f32) (main_arg13 : FVec F S256x128 .f32) (main_arg14 : FVec F S128 .f32) (main_arg15 : FVec F S2x128x128 .f32) (main_arg16 : FVec F S5x2 .f32) (main_arg17 : FVec F S5x2000x2000 .f32) : IVec S5x2000x2000 1 × IVec S2000x2000 1 × IVec S256x128 1 × IVec S128 1 × IVec S256x128 1 × IVec S128 1 × IVec S2x128x128 1 × IVec S5x2 1 :=
  let main_cst : FVec F S_ .f32 := constant S_ .f32 0x00000000#32
  let main_v0 : FVec F S5x2000x2000 .f32 := broadcastInDim S5x2000x2000 ![] bcast_S_S5x2000x2000 main_cst
  let main_v1 : IVec S5x2000x2000 1 := cmpf .oeq main_arg17 main_v0
  let main_cst_0 : FVec F S_ .f32 := constant S_ .f32 0x3F800000#32
  let main_v2 : FVec F S5x2000x2000 .f32 := broadcastInDim S5x2000x2000 ![] bcast_S_S5x2000x2000 main_cst_0
  let main_v3 : IVec S5x2000x2000 1 := cmpf .oeq main_arg17 main_v2
  let main_v4 : IVec S5x2000x2000 1 := ori main_v1 main_v3
  let main_cst_1 : FVec F S_ .f32 := constant S_ .f32 0x00000000#32
  let main_v5 : FVec F S2000x2000 .f32 := (fun x v => Host.reduceAdd x v reducesTo_S5x2000x2000_S2000x2000_d0 h_S_) main_arg17 main_cst_1
  let main_cst_2 : FVec F S_ .f32 := constant S_ .f32 0x3F800000#32
  let main_v6 : FVec F S2000x2000 .f32 := broadcastInDim S2000x2000 ![] bcast_S_S2000x2000 main_cst_2
  let main_v7 : IVec S2000x2000 1 := cmpf .ole main_v5 main_v6
  let main_v8 : FVec F S256x128 .f32 := Host.absf main_arg11
  let main_cst_3 : FVec F S_ .f32 := constant S_ .f32 0x7F800000#32
  let main_v9 : FVec F S256x128 .f32 := broadcastInDim S256x128 ![] bcast_S_S256x128 main_cst_3
  let main_v10 : IVec S256x128 1 := cmpf .olt main_v8 main_v9
  let main_v11 : FVec F S128 .f32 := Host.absf main_arg12
  let main_cst_4 : FVec F S_ .f32 := constant S_ .f32 0x7F800000#32
  let main_v12 : FVec F S128 .f32 := broadcastInDim S128 ![] bcast_S_S128 main_cst_4
  let main_v13 : IVec S128 1 := cmpf .olt main_v11 main_v12
  let main_v14 : FVec F S256x128 .f32 := Host.absf main_arg13
  let main_cst_5 : FVec F S_ .f32 := constant S_ .f32 0x7F800000#32
  let main_v15 : FVec F S256x128 .f32 := broadcastInDim S256x128 ![] bcast_S_S256x128 main_cst_5
  let main_v16 : IVec S256x128 1 := cmpf .olt main_v14 main_v15
  fn_part1 (F := F) main_arg14 main_arg15 main_arg16 main_v4 main_v7 main_v10 main_v13 main_v16
-- ==== Kernel.lean ====
abbrev S2000x512 : Shape := ⟨2, ![2000, 512]⟩
abbrev S2000x128 : Shape := ⟨2, ![2000, 128]⟩
abbrev S640x256 : Shape := ⟨2, ![640, 256]⟩
abbrev S256 : Shape := ⟨1, ![256]⟩
abbrev S2x5x256x256 : Shape := ⟨4, ![2, 5, 256, 256]⟩
abbrev S256x128 : Shape := ⟨2, ![256, 128]⟩
abbrev S128 : Shape := ⟨1, ![128]⟩
abbrev S2x128x128 : Shape := ⟨3, ![2, 128, 128]⟩
abbrev S5x2 : Shape := ⟨2, ![5, 2]⟩
abbrev S5x2000x2000 : Shape := ⟨3, ![5, 2000, 2000]⟩
abbrev S2000x5 : Shape := ⟨2, ![2000, 5]⟩
abbrev S2000x2000 : Shape := ⟨2, ![2000, 2000]⟩
abbrev S5x400x2000 : Shape := ⟨3, ![5, 400, 2000]⟩
abbrev S400x5 : Shape := ⟨2, ![400, 5]⟩
abbrev S400x2000 : Shape := ⟨2, ![400, 2000]⟩
abbrev S5x400 : Shape := ⟨2, ![5, 400]⟩
abbrev S5x2000 : Shape := ⟨2, ![5, 2000]⟩
abbrev S1x400x2000 : Shape := ⟨3, ![1, 400, 2000]⟩
abbrev S512x256 : Shape := ⟨2, ![512, 256]⟩
abbrev S128x256 : Shape := ⟨2, ![128, 256]⟩
abbrev S1x256 : Shape := ⟨2, ![1, 256]⟩
abbrev S1x5x256x256 : Shape := ⟨4, ![1, 5, 256, 256]⟩
abbrev S5x256x256 : Shape := ⟨3, ![5, 256, 256]⟩
abbrev S1x128 : Shape := ⟨2, ![1, 128]⟩
abbrev S5x2000x128 : Shape := ⟨3, ![5, 2000, 128]⟩
abbrev S5x400x128 : Shape := ⟨3, ![5, 400, 128]⟩
abbrev S10000x256 : Shape := ⟨2, ![10000, 256]⟩
abbrev S5x2000x256 : Shape := ⟨3, ![5, 2000, 256]⟩
abbrev S2000x256 : Shape := ⟨2, ![2000, 256]⟩
abbrev S256x256 : Shape := ⟨2, ![256, 256]⟩
abbrev S1x256x256 : Shape := ⟨3, ![1, 256, 256]⟩
abbrev S2000x1 : Shape := ⟨2, ![2000, 1]⟩
abbrev S400x256 : Shape := ⟨2, ![400, 256]⟩
abbrev S400x1 : Shape := ⟨2, ![400, 1]⟩
abbrev S1x2000x256 : Shape := ⟨3, ![1, 2000, 256]⟩
abbrev S400x128 : Shape := ⟨2, ![400, 128]⟩
abbrev S1x128x128 : Shape := ⟨3, ![1, 128, 128]⟩
abbrev S128x128 : Shape := ⟨2, ![128, 128]⟩
abbrev S1x1 : Shape := ⟨2, ![1, 1]⟩
abbrev S1x400x128 : Shape := ⟨3, ![1, 400, 128]⟩
abbrev S3x8x128 : Shape := ⟨3, ![3, 8, 128]⟩
abbrev S5x200x128 : Shape := ⟨3, ![5, 200, 128]⟩
abbrev S200x2000 : Shape := ⟨2, ![200, 2000]⟩
abbrev S5x200x2000 : Shape := ⟨3, ![5, 200, 2000]⟩
abbrev S1x200x128 : Shape := ⟨3, ![1, 200, 128]⟩
abbrev S200x128 : Shape := ⟨2, ![200, 128]⟩
abbrev S1x200x2000 : Shape := ⟨3, ![1, 200, 2000]⟩
abbrev S40x2000 : Shape := ⟨2, ![40, 2000]⟩
abbrev S1x40x2000 : Shape := ⟨3, ![1, 40, 2000]⟩
abbrev S1 : Shape := ⟨1, ![1]⟩
abbrev S1x1x1 : Shape := ⟨3, ![1, 1, 1]⟩
abbrev S1x8x128 : Shape := ⟨3, ![1, 8, 128]⟩
abbrev S8x128 : Shape := ⟨2, ![8, 128]⟩
abbrev S_ : Shape := ⟨0, ![]⟩

abbrev nBuf : Space → Nat
  | .hbm => 51
  | .vmem => 47
  | .smem => 0
  | _ => 0

abbrev bufTy : (tb : Table) → Fin (tcTables nBuf tb) → BufTy
  | .hbm, ⟨0, _⟩ => ⟨S2000x512, .f32⟩
  | .hbm, ⟨1, _⟩ => ⟨S2000x512, .f32⟩
  | .hbm, ⟨2, _⟩ => ⟨S2000x128, .f32⟩
  | .hbm, ⟨3, _⟩ => ⟨S2000x128, .f32⟩
  | .hbm, ⟨4, _⟩ => ⟨S640x256, .f32⟩
  | .hbm, ⟨5, _⟩ => ⟨S256, .f32⟩
  | .hbm, ⟨6, _⟩ => ⟨S640x256, .f32⟩
  | .hbm, ⟨7, _⟩ => ⟨S256, .f32⟩
  | .hbm, ⟨8, _⟩ => ⟨S2x5x256x256, .f32⟩
  | .hbm, ⟨9, _⟩ => ⟨S256, .f32⟩
  | .hbm, ⟨10, _⟩ => ⟨S256, .f32⟩
  | .hbm, ⟨11, _⟩ => ⟨S256x128, .f32⟩
  | .hbm, ⟨12, _⟩ => ⟨S128, .f32⟩
  | .hbm, ⟨13, _⟩ => ⟨S256x128, .f32⟩
  | .hbm, ⟨14, _⟩ => ⟨S128, .f32⟩
  | .hbm, ⟨15, _⟩ => ⟨S2x128x128, .f32⟩
  | .hbm, ⟨16, _⟩ => ⟨S5x2, .f32⟩
  | .hbm, ⟨17, _⟩ => ⟨S5x2000x2000, .f32⟩
  | .hbm, ⟨18, _⟩ => ⟨S2000x5, .f32⟩
  | .hbm, ⟨19, _⟩ => ⟨S2000x5, .f32⟩
  | .hbm, ⟨20, _⟩ => ⟨S2000x2000, .bf16⟩
  | .hbm, ⟨21, _⟩ => ⟨S512x256, .f32⟩
  | .hbm, ⟨22, _⟩ => ⟨S128x256, .f32⟩
  | .hbm, ⟨23, _⟩ => ⟨S1x256, .f32⟩
  | .hbm, ⟨24, _⟩ => ⟨S512x256, .f32⟩
  | .hbm, ⟨25, _⟩ => ⟨S128x256, .f32⟩
  | .hbm, ⟨26, _⟩ => ⟨S1x256, .f32⟩
  | .hbm, ⟨27, _⟩ => ⟨S1x5x256x256, .f32⟩
  | .hbm, ⟨28, _⟩ => ⟨S5x256x256, .f32⟩
  | .hbm, ⟨29, _⟩ => ⟨S1x5x256x256, .f32⟩
  | .hbm, ⟨30, _⟩ => ⟨S5x256x256, .f32⟩
  | .hbm, ⟨31, _⟩ => ⟨S1x256, .f32⟩
  | .hbm, ⟨32, _⟩ => ⟨S1x256, .f32⟩
  | .hbm, ⟨33, _⟩ => ⟨S1x128, .f32⟩
  | .hbm, ⟨34, _⟩ => ⟨S1x128, .f32⟩
  | .hbm, ⟨35, _⟩ => ⟨S5x2000x128, .f32⟩
  | .hbm, ⟨36, _⟩ => ⟨S2000x128, .f32⟩
  | .hbm, ⟨37, _⟩ => ⟨S5x2000x2000, .f32⟩
  | .hbm, ⟨38, _⟩ => ⟨S3x8x128, .f32⟩
  | .hbm, ⟨39, _⟩ => ⟨S1x1x1, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S1x1x1, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S1x1x1, .f32⟩
  | .hbm, ⟨48, _⟩ => ⟨S_, .f32⟩
  | .hbm, ⟨49, _⟩ => ⟨S_, .f32⟩
  | .hbm, ⟨50, _⟩ => ⟨S_, .f32⟩
  | .local _ .vmem, ⟨0, _⟩ => ⟨S5x400x2000, .f32⟩
  | .local _ .vmem, ⟨1, _⟩ => ⟨S5x400x2000, .f32⟩
  | .local _ .vmem, ⟨2, _⟩ => ⟨S400x5, .f32⟩
  | .local _ .vmem, ⟨3, _⟩ => ⟨S400x5, .f32⟩
  | .local _ .vmem, ⟨4, _⟩ => ⟨S2000x5, .f32⟩
  | .local _ .vmem, ⟨5, _⟩ => ⟨S400x2000, .bf16⟩
  | .local _ .vmem, ⟨6, _⟩ => ⟨S400x2000, .bf16⟩
  | .local _ .vmem, ⟨7, _⟩ => ⟨S2000x5, .f32⟩
  | .local _ .vmem, ⟨8, _⟩ => ⟨S2000x512, .f32⟩
  | .local _ .vmem, ⟨9, _⟩ => ⟨S2000x128, .f32⟩
  | .local _ .vmem, ⟨10, _⟩ => ⟨S2000x512, .f32⟩
  | .local _ .vmem, ⟨11, _⟩ => ⟨S2000x128, .f32⟩
  | .local _ .vmem, ⟨12, _⟩ => ⟨S512x256, .f32⟩
  | .local _ .vmem, ⟨13, _⟩ => ⟨S128x256, .f32⟩
  | .local _ .vmem, ⟨14, _⟩ => ⟨S1x256, .f32⟩
  | .local _ .vmem, ⟨15, _⟩ => ⟨S512x256, .f32⟩
  | .local _ .vmem, ⟨16, _⟩ => ⟨S128x256, .f32⟩
  | .local _ .vmem, ⟨17, _⟩ => ⟨S1x256, .f32⟩
  | .local _ .vmem, ⟨18, _⟩ => ⟨S5x256x256, .f32⟩
  | .local _ .vmem, ⟨19, _⟩ => ⟨S5x256x256, .f32⟩
  | .local _ .vmem, ⟨20, _⟩ => ⟨S1x256, .f32⟩
  | .local _ .vmem, ⟨21, _⟩ => ⟨S1x256, .f32⟩
  | .local _ .vmem, ⟨22, _⟩ => ⟨S256x128, .f32⟩
  | .local _ .vmem, ⟨23, _⟩ => ⟨S1x128, .f32⟩
  | .local _ .vmem, ⟨24, _⟩ => ⟨S256x128, .f32⟩
  | .local _ .vmem, ⟨25, _⟩ => ⟨S1x128, .f32⟩
  | .local _ .vmem, ⟨26, _⟩ => ⟨S2x128x128, .f32⟩
  | .local _ .vmem, ⟨27, _⟩ => ⟨S5x2, .f32⟩
  | .local _ .vmem, ⟨28, _⟩ => ⟨S400x5, .f32⟩
  | .local _ .vmem, ⟨29, _⟩ => ⟨S400x5, .f32⟩
  | .local _ .vmem, ⟨30, _⟩ => ⟨S2000x5, .f32⟩
  | .local _ .vmem, ⟨31, _⟩ => ⟨S400x2000, .bf16⟩
  | .local _ .vmem, ⟨32, _⟩ => ⟨S400x2000, .bf16⟩
  | .local _ .vmem, ⟨33, _⟩ => ⟨S5x400x128, .f32⟩
  | .local _ .vmem, ⟨34, _⟩ => ⟨S5x400x128, .f32⟩
  | .local _ .vmem, ⟨35, _⟩ => ⟨S2000x128, .f32⟩
  | .local _ .vmem, ⟨36, _⟩ => ⟨S10000x256, .bf16⟩
  | .local _ .vmem, ⟨37, _⟩ => ⟨S10000x256, .bf16⟩
  | .local _ .vmem, ⟨38, _⟩ => ⟨S5x2000x256, .f32⟩
  | .local _ .vmem, ⟨39, _⟩ => ⟨S5x200x128, .f32⟩
  | .local _ .vmem, ⟨40, _⟩ => ⟨S5x200x128, .f32⟩
  | .local _ .vmem, ⟨41, _⟩ => ⟨S2000x128, .f32⟩
  | .local _ .vmem, ⟨42, _⟩ => ⟨S200x2000, .bf16⟩
  | .local _ .vmem, ⟨43, _⟩ => ⟨S200x2000, .bf16⟩
  | .local _ .vmem, ⟨44, _⟩ => ⟨S5x200x2000, .f32⟩
  | .local _ .vmem, ⟨45, _⟩ => ⟨S5x200x2000, .f32⟩
  | .local _ .vmem, ⟨46, _⟩ => ⟨S3x8x128, .f32⟩
  | _, _ => ⟨S2000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0_0 : Ref sig .tc := ⟨.hbm, 18, rfl⟩
abbrev main_v0_1 : Ref sig .tc := ⟨.hbm, 19, rfl⟩
abbrev main_v0_2 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15_0 : Ref sig .tc := ⟨.hbm, 35, rfl⟩
abbrev main_v15_1 : Ref sig .tc := ⟨.hbm, 36, rfl⟩
abbrev main_v16_0 : Ref sig .tc := ⟨.hbm, 37, rfl⟩
abbrev main_v16_1 : Ref sig .tc := ⟨.hbm, 38, rfl⟩
abbrev main_v17 : Ref sig .tc := ⟨.hbm, 39, rfl⟩
abbrev main_v18 : Ref sig .tc := ⟨.hbm, 40, rfl⟩
abbrev main_cst : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg10_0 : Ref sig .tc := ⟨.vmem, 18, rfl⟩
abbrev cc1_stg11_0 : Ref sig .tc := ⟨.vmem, 19, rfl⟩
abbrev cc1_stg12_0 : Ref sig .tc := ⟨.vmem, 20, rfl⟩
abbrev cc1_stg13_0 : Ref sig .tc := ⟨.vmem, 21, rfl⟩
abbrev cc1_stg14_0 : Ref sig .tc := ⟨.vmem, 22, rfl⟩
abbrev cc1_stg15_0 : Ref sig .tc := ⟨.vmem, 23, rfl⟩
abbrev cc1_stg16_0 : Ref sig .tc := ⟨.vmem, 24, rfl⟩
abbrev cc1_stg17_0 : Ref sig .tc := ⟨.vmem, 25, rfl⟩
abbrev cc1_stg18_0 : Ref sig .tc := ⟨.vmem, 26, rfl⟩
abbrev cc1_stg19_0 : Ref sig .tc := ⟨.vmem, 27, rfl⟩
abbrev cc1_stg20_0 : Ref sig .tc := ⟨.vmem, 28, rfl⟩
abbrev cc1_stg20_1 : Ref sig .tc := ⟨.vmem, 29, rfl⟩
abbrev cc1_stg21_0 : Ref sig .tc := ⟨.vmem, 30, rfl⟩
abbrev cc1_stg22_0 : Ref sig .tc := ⟨.vmem, 31, rfl⟩
abbrev cc1_stg22_1 : Ref sig .tc := ⟨.vmem, 32, rfl⟩
abbrev cc1_stg23_0 : Ref sig .tc := ⟨.vmem, 33, rfl⟩
abbrev cc1_stg23_1 : Ref sig .tc := ⟨.vmem, 34, rfl⟩
abbrev cc1_stg24_0 : Ref sig .tc := ⟨.vmem, 35, rfl⟩
abbrev cc1_scratch0 : Ref sig .tc := ⟨.vmem, 36, rfl⟩
abbrev cc1_scratch1 : Ref sig .tc := ⟨.vmem, 37, rfl⟩
abbrev cc1_scratch2 : Ref sig .tc := ⟨.vmem, 38, rfl⟩
abbrev cc2_stg0_0 : Ref sig .tc := ⟨.vmem, 39, rfl⟩
abbrev cc2_stg0_1 : Ref sig .tc := ⟨.vmem, 40, rfl⟩
abbrev cc2_stg1_0 : Ref sig .tc := ⟨.vmem, 41, rfl⟩
abbrev cc2_stg2_0 : Ref sig .tc := ⟨.vmem, 42, rfl⟩
abbrev cc2_stg2_1 : Ref sig .tc := ⟨.vmem, 43, rfl⟩
abbrev cc2_stg3_0 : Ref sig .tc := ⟨.vmem, 44, rfl⟩
abbrev cc2_stg3_1 : Ref sig .tc := ⟨.vmem, 45, rfl⟩
abbrev cc2_stg4_0 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem11_0 : DmaSem sig := 18
abbrev cc1_sem12_0 : DmaSem sig := 19
abbrev cc1_sem13_0 : DmaSem sig := 20
abbrev cc1_sem14_0 : DmaSem sig := 21
abbrev cc1_sem15_0 : DmaSem sig := 22
abbrev cc1_sem16_0 : DmaSem sig := 23
abbrev cc1_sem17_0 : DmaSem sig := 24
abbrev cc1_sem18_0 : DmaSem sig := 25
abbrev cc1_sem19_0 : DmaSem sig := 26
abbrev cc1_sem20_0 : DmaSem sig := 27
abbrev cc1_sem20_1 : DmaSem sig := 28
abbrev cc1_sem21_0 : DmaSem sig := 29
abbrev cc1_sem22_0 : DmaSem sig := 30
abbrev cc1_sem22_1 : DmaSem sig := 31
abbrev cc1_sem23_0 : DmaSem sig := 32
abbrev cc1_sem23_1 : DmaSem sig := 33
abbrev cc1_sem24_0 : DmaSem sig := 34
abbrev cc2_sem0_0 : DmaSem sig := 35
abbrev cc2_sem0_1 : DmaSem sig := 36
abbrev cc2_sem1_0 : DmaSem sig := 37
abbrev cc2_sem2_0 : DmaSem sig := 38
abbrev cc2_sem2_1 : DmaSem sig := 39
abbrev cc2_sem3_0 : DmaSem sig := 40
abbrev cc2_sem3_1 : DmaSem sig := 41
abbrev cc2_sem4_0 : DmaSem sig := 42

abbrev nD : Nat := 1
abbrev τ : Topo := Topo.v7x

variable {F : FTy → Type} [FloatOps F]

abbrev grid0 : Pipeline.Grid := ⟨1, ![5], ![false]⟩

def k0_cond3 (i : grid0.Coords) : BitVec 1 :=
  let arg0 : BitVec 32 := BitVec.ofNat 32 (i 0).val
  let c4_i32 : BitVec 32 := 4#32
  let v19 : BitVec 1 := Scalar.cmpi .eq arg0 c4_i32
  let v20 : BitVec 32 := Scalar.extui v19
  let c0_i32_11 : BitVec 32 := 0#32
  let v21 : BitVec 1 := Scalar.cmpi .ne v20 c0_i32_11
  v21

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5x400x2000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2000x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x2000 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![6], ![false]⟩

def k1_cond2 (i : grid1.Coords) : BitVec 1 :=
  let arg0 : BitVec 32 := BitVec.ofNat 32 (i 0).val
  let c0_i32_2 : BitVec 32 := 0#32
  let v5 : BitVec 1 := Scalar.cmpi .sgt arg0 c0_i32_2
  let v6 : BitVec 32 := Scalar.extui v5
  let c0_i32_3 : BitVec 32 := 0#32
  let v7 : BitVec 1 := Scalar.cmpi .ne v6 c0_i32_3
  v7

def k1_off1 (i : grid1.Coords) (c0_i32_13 : BitVec 32) : Fin 2 → Nat :=
  let arg0 : BitVec 32 := BitVec.ofNat 32 (i 0).val
  let c1_i32 : BitVec 32 := 1#32
  let v3 : BitVec 32 := Scalar.subi arg0 c1_i32
  let c0_i32_1 : BitVec 32 := 0#32
  let v4 : BitVec 32 := Scalar.maxsi v3 c0_i32_1
  let c400_i32 : BitVec 32 := 400#32
  let v26 : BitVec 32 := Scalar.muli v4 c400_i32
  let v27 : BitVec 32 := Scalar.addi c0_i32_13 v26
  let v28 : Index := Scalar.indexCast v27
  let c0_14 : Index := 0#32
  ![v28.toNat, 0]
def k1_cond13 (i : grid1.Coords) : BitVec 1 :=
  let arg0 : BitVec 32 := BitVec.ofNat 32 (i 0).val
  let c5_i32 : BitVec 32 := 5#32
  let v8 : BitVec 1 := Scalar.cmpi .eq arg0 c5_i32
  let v9 : BitVec 32 := Scalar.extui v8
  let c0_i32_4 : BitVec 32 := 0#32
  let v10 : BitVec 1 := Scalar.cmpi .ne v9 c0_i32_4
  v10

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_19 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_20 (i : grid1.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc1_transform_21 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_22 (i : grid1.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc1_transform_23 (i : grid1.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc1_transform_24 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2000x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2000x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2000x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S5x256x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S5x256x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x256 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S256x128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x128 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S256x128 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1x128 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S2x128x128 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 1 → Memref sig .tc .vmem S5x2 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]

abbrev stage1_20 : Fin 2 → Memref sig .tc .vmem S400x5 .f32 := fun | 0 => Memref.whole cc1_stg20_0 | 1 => Memref.whole cc1_stg20_1 | ⟨_ + 2, h⟩ => absurd h (Nat.not_lt.2 (Nat.le_add_left _ _))
abbrev sem1_20 : Fin 2 → DmaSem sig := fun | 0 => cc1_sem20_0 | 1 => cc1_sem20_1 | ⟨_ + 2, h⟩ => absurd h (Nat.not_lt.2 (Nat.le_add_left _ _))
abbrev reads1_20 : Fin grid1.rank → Bool := ![true]

abbrev stage1_21 : Fin 1 → Memref sig .tc .vmem S2000x5 .f32 := fun | 0 => Memref.whole cc1_stg21_0 | ⟨_ + 1, h⟩ => absurd h (Nat.not_lt.2 (Nat.le_add_left _ _))
abbrev sem1_21 : Fin 1 → DmaSem sig := fun | 0 => cc1_sem21_0 | ⟨_ + 1, h⟩ => absurd h (Nat.not_lt.2 (Nat.le_add_left _ _))
abbrev reads1_21 : Fin grid1.rank → Bool := ![false]

abbrev stage1_22 : Fin 2 → Memref sig .tc .vmem S400x2000 .bf16 := fun | 0 => Memref.whole cc1_stg22_0 | 1 => Memref.whole cc1_stg22_1 | ⟨_ + 2, h⟩ => absurd h (Nat.not_lt.2 (Nat.le_add_left _ _))
abbrev sem1_22 : Fin 2 → DmaSem sig := fun | 0 => cc1_sem22_0 | 1 => cc1_sem22_1 | ⟨_ + 2, h⟩ => absurd h (Nat.not_lt.2 (Nat.le_add_left _ _))
abbrev reads1_22 : Fin grid1.rank → Bool := ![true]

abbrev stage1_23 : Fin 2 → Memref sig .tc .vmem S5x400x128 .f32 := fun | 0 => Memref.whole cc1_stg23_0 | 1 => Memref.whole cc1_stg23_1 | ⟨_ + 2, h⟩ => absurd h (Nat.not_lt.2 (Nat.le_add_left _ _))
abbrev sem1_23 : Fin 2 → DmaSem sig := fun | 0 => cc1_sem23_0 | 1 => cc1_sem23_1 | ⟨_ + 2, h⟩ => absurd h (Nat.not_lt.2 (Nat.le_add_left _ _))
abbrev reads1_23 : Fin grid1.rank → Bool := ![true]

abbrev stage1_24 : Fin 1 → Memref sig .tc .vmem S2000x128 .f32 := fun | 0 => Memref.whole cc1_stg24_0 | ⟨_ + 1, h⟩ => absurd h (Nat.not_lt.2 (Nat.le_add_left _ _))
abbrev sem1_24 : Fin 1 → DmaSem sig := fun | 0 => cc1_sem24_0 | ⟨_ + 1, h⟩ => absurd h (Nat.not_lt.2 (Nat.le_add_left _ _))
abbrev reads1_24 : Fin grid1.rank → Bool := ![false]

abbrev grid2 : Pipeline.Grid := ⟨1, ![10], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage2_0 : Fin 2 → Memref sig .tc .vmem S5x200x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2000x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S200x2000 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5x200x2000 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S3x8x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]
-- ==== ReferenceIdeal.lean ====
abbrev S2000x512 : Shape := ⟨2, ![2000, 512]⟩
abbrev S2000x128 : Shape := ⟨2, ![2000, 128]⟩
abbrev S640x256 : Shape := ⟨2, ![640, 256]⟩
abbrev S256 : Shape := ⟨1, ![256]⟩
abbrev S2x5x256x256 : Shape := ⟨4, ![2, 5, 256, 256]⟩
abbrev S256x128 : Shape := ⟨2, ![256, 128]⟩
abbrev S128 : Shape := ⟨1, ![128]⟩
abbrev S2x128x128 : Shape := ⟨3, ![2, 128, 128]⟩
abbrev S5x2 : Shape := ⟨2, ![5, 2]⟩
abbrev S5x2000x2000 : Shape := ⟨3, ![5, 2000, 2000]⟩
abbrev S5 : Shape := ⟨1, ![5]⟩
abbrev S_ : Shape := ⟨0, ![]⟩
abbrev S2000x640 : Shape := ⟨2, ![2000, 640]⟩
abbrev S2000x256 : Shape := ⟨2, ![2000, 256]⟩
abbrev S1x256 : Shape := ⟨2, ![1, 256]⟩
abbrev S5x2000 : Shape := ⟨2, ![5, 2000]⟩
abbrev S5x2000x1 : Shape := ⟨3, ![5, 2000, 1]⟩
abbrev S5x1x2000 : Shape := ⟨3, ![5, 1, 2000]⟩
abbrev S1x5x256x256 : Shape := ⟨4, ![1, 5, 256, 256]⟩
abbrev S5x256x256 : Shape := ⟨3, ![5, 256, 256]⟩
abbrev S5x256x2000 : Shape := ⟨3, ![5, 256, 2000]⟩
abbrev S5x2000x256 : Shape := ⟨3, ![5, 2000, 256]⟩
abbrev S1x128 : Shape := ⟨2, ![1, 128]⟩
abbrev S2x128x2000 : Shape := ⟨3, ![2, 128, 2000]⟩
abbrev S2x2000x2000 : Shape := ⟨3, ![2, 2000, 2000]⟩
abbrev S2000x2000 : Shape := ⟨2, ![2000, 2000]⟩
abbrev S1x2000x2000 : Shape := ⟨3, ![1, 2000, 2000]⟩

abbrev nBuf : Space → Nat
  | .hbm => 168
  | .vmem => 0
  | .smem => 0
  | _ => 0

abbrev hbmTy0_0 (i : Nat) : BufTy := match i % 128 with
  | 0 => ⟨S2000x512, .f32⟩
  | 1 => ⟨S2000x512, .f32⟩
  | 2 => ⟨S2000x128, .f32⟩
  | 3 => ⟨S2000x128, .f32⟩
  | 4 => ⟨S640x256, .f32⟩
  | 5 => ⟨S256, .f32⟩
  | 6 => ⟨S640x256, .f32⟩
  | 7 => ⟨S256, .f32⟩
  | 8 => ⟨S2x5x256x256, .f32⟩
  | 9 => ⟨S256, .f32⟩
  | 10 => ⟨S256, .f32⟩
  | 11 => ⟨S256x128, .f32⟩
  | 12 => ⟨S128, .f32⟩
  | 13 => ⟨S256x128, .f32⟩
  | 14 => ⟨S128, .f32⟩
  | 15 => ⟨S2x128x128, .f32⟩
  | 16 => ⟨S5x2, .f32⟩
  | 17 => ⟨S5x2000x2000, .f32⟩
  | 18 => ⟨S5, .i32⟩
  | 19 => ⟨S5, .f32⟩
  | 20 => ⟨S_, .f32⟩
  | 21 => ⟨S5, .f32⟩
  | 22 => ⟨S5, .f32⟩
  | 23 => ⟨S2000x640, .f32⟩
  | 24 => ⟨S2000x640, .f32⟩
  | 25 => ⟨S2000x256, .f32⟩
  | 26 => ⟨S1x256, .f32⟩
  | 27 => ⟨S2000x256, .f32⟩
  | 28 => ⟨S2000x256, .f32⟩
  | 29 => ⟨S_, .f32⟩
  | 30 => ⟨S2000x256, .f32⟩
  | 31 => ⟨S2000x256, .f32⟩
  | 32 => ⟨S2000x256, .f32⟩
  | 33 => ⟨S1x256, .f32⟩
  | 34 => ⟨S2000x256, .f32⟩
  | 35 => ⟨S2000x256, .f32⟩
  | 36 => ⟨S_, .f32⟩
  | 37 => ⟨S2000x256, .f32⟩
  | 38 => ⟨S2000x256, .f32⟩
  | 39 => ⟨S_, .f32⟩
  | 40 => ⟨S5x2000, .f32⟩
  | 41 => ⟨S_, .f32⟩
  | 42 => ⟨S5x2000, .f32⟩
  | 43 => ⟨S_, .f32⟩
  | 44 => ⟨S5x2000, .f32⟩
  | 45 => ⟨S5x2000, .i1⟩
  | 46 => ⟨S_, .f32⟩
  | 47 => ⟨S5x2000, .f32⟩
  | 48 => ⟨S5x2000, .f32⟩
  | 49 => ⟨S5x2000, .f32⟩
  | 50 => ⟨S_, .f32⟩
  | 51 => ⟨S5x2000, .f32⟩
  | 52 => ⟨S5x2000, .f32⟩
  | 53 => ⟨S_, .f32⟩
  | 54 => ⟨S_, .f32⟩
  | 55 => ⟨S5x2000, .f32⟩
  | 56 => ⟨S5x2000, .f32⟩
  | 57 => ⟨S_, .f32⟩
  | 58 => ⟨S5x2000, .f32⟩
  | 59 => ⟨S5x2000, .i1⟩
  | 60 => ⟨S_, .f32⟩
  | 61 => ⟨S5x2000, .f32⟩
  | 62 => ⟨S5x2000, .f32⟩
  | 63 => ⟨S5x2000, .f32⟩
  | 64 => ⟨S_, .f32⟩
  | 65 => ⟨S5x2000, .f32⟩
  | 66 => ⟨S5x2000, .f32⟩
  | 67 => ⟨S_, .f32⟩
  | 68 => ⟨S_, .f32⟩
  | 69 => ⟨S5x2000, .f32⟩
  | 70 => ⟨S5x2000, .f32⟩
  | 71 => ⟨S5x2000x1, .f32⟩
  | 72 => ⟨S5x2000x2000, .f32⟩
  | 73 => ⟨S5x2000x2000, .f32⟩
  | 74 => ⟨S5x1x2000, .f32⟩
  | 75 => ⟨S5x2000x2000, .f32⟩
  | 76 => ⟨S5x2000x2000, .f32⟩
  | 77 => ⟨S1x5x256x256, .f32⟩
  | 78 => ⟨S5x256x256, .f32⟩
  | 79 => ⟨S_, .f32⟩
  | 80 => ⟨S_, .f32⟩
  | 81 => ⟨S5x256x256, .f32⟩
  | 82 => ⟨S1x5x256x256, .f32⟩
  | 83 => ⟨S5x256x256, .f32⟩
  | 84 => ⟨S_, .f32⟩
  | 85 => ⟨S_, .f32⟩
  | 86 => ⟨S5x256x256, .f32⟩
  | 87 => ⟨S5x256x2000, .f32⟩
  | 88 => ⟨S5x2000x256, .f32⟩
  | 89 => ⟨S5x256x2000, .f32⟩
  | 90 => ⟨S5x2000x256, .f32⟩
  | 91 => ⟨S2000x256, .f32⟩
  | 92 => ⟨S2000x256, .f32⟩
  | 93 => ⟨S1x256, .f32⟩
  | 94 => ⟨S2000x256, .f32⟩
  | 95 => ⟨S2000x256, .f32⟩
  | 96 => ⟨S2000x256, .f32⟩
  | 97 => ⟨S1x256, .f32⟩
  | 98 => ⟨S2000x256, .f32⟩
  | 99 => ⟨S2000x256, .f32⟩
  | 100 => ⟨S2000x256, .f32⟩
  | 101 => ⟨S2000x128, .f32⟩
  | 102 => ⟨S1x128, .f32⟩
  | 103 => ⟨S2000x128, .f32⟩
  | 104 => ⟨S2000x128, .f32⟩
  | 105 => ⟨S2000x128, .f32⟩
  | 106 => ⟨S1x128, .f32⟩
  | 107 => ⟨S2000x128, .f32⟩
  | 108 => ⟨S2000x128, .f32⟩
  | 109 => ⟨S2x128x2000, .f32⟩
  | 110 => ⟨S2x2000x2000, .f32⟩
  | 111 => ⟨S5x2000x2000, .f32⟩
  | 112 => ⟨S_, .f32⟩
  | 113 => ⟨S2000x2000, .f32⟩
  | 114 => ⟨S_, .f32⟩
  | 115 => ⟨S2000x2000, .f32⟩
  | 116 => ⟨S2000x2000, .f32⟩
  | 117 => ⟨S1x2000x2000, .f32⟩
  | 118 => ⟨S5x2000x2000, .f32⟩
  | 119 => ⟨S5x2000x2000, .f32⟩
  | 120 => ⟨S5x2000x2000, .f32⟩
  | 121 => ⟨S_, .f32⟩
  | 122 => ⟨S2000x2000, .f32⟩
  | 123 => ⟨S1x2000x2000, .f32⟩
  | 124 => ⟨S5x2000x2000, .f32⟩
  | 125 => ⟨S5x2000x2000, .f32⟩
  | 126 => ⟨S2000x2000, .f32⟩
  | 127 => ⟨S_, .f32⟩
  | _ => ⟨S2000x512, .f32⟩

abbrev hbmTy0_1 (i : Nat) : BufTy := match i % 128 with
  | 0 => ⟨S2000x2000, .f32⟩
  | 1 => ⟨S_, .f32⟩
  | 2 => ⟨S2000x2000, .f32⟩
  | 3 => ⟨S2000x2000, .i1⟩
  | 4 => ⟨S2000x2000, .f32⟩
  | 5 => ⟨S_, .f32⟩
  | 6 => ⟨S_, .f32⟩
  | 7 => ⟨S_, .f32⟩
  | 8 => ⟨S_, .f32⟩
  | 9 => ⟨S_, .f32⟩
  | 10 => ⟨S2000x2000, .f32⟩
  | 11 => ⟨S_, .f32⟩
  | 12 => ⟨S2000x2000, .f32⟩
  | 13 => ⟨S2000x2000, .f32⟩
  | 14 => ⟨S1x2000x2000, .f32⟩
  | 15 => ⟨S5x2000x2000, .f32⟩
  | 16 => ⟨S5x2000x2000, .f32⟩
  | 17 => ⟨S5x2000x2000, .f32⟩
  | 18 => ⟨S_, .f32⟩
  | 19 => ⟨S2000x2000, .f32⟩
  | 20 => ⟨S1x2000x2000, .f32⟩
  | 21 => ⟨S1x2000x2000, .f32⟩
  | 22 => ⟨S5x2000x2000, .f32⟩
  | 23 => ⟨S5x2000x2000, .f32⟩
  | 24 => ⟨S5x2000x2000, .f32⟩
  | 25 => ⟨S_, .f32⟩
  | 26 => ⟨S2000x2000, .f32⟩
  | 27 => ⟨S2000x2000, .f32⟩
  | 28 => ⟨S_, .f32⟩
  | 29 => ⟨S_, .f32⟩
  | 30 => ⟨S_, .f32⟩
  | 31 => ⟨S_, .f32⟩
  | 32 => ⟨S2000x2000, .f32⟩
  | 33 => ⟨S2000x2000, .f32⟩
  | 34 => ⟨S2000x2000, .f32⟩
  | 35 => ⟨S2000x2000, .f32⟩
  | 36 => ⟨S_, .f32⟩
  | 37 => ⟨S_, .f32⟩
  | 38 => ⟨S_, .f32⟩
  | 39 => ⟨S_, .f32⟩
  | _ => ⟨S2000x512, .f32⟩

abbrev hbmTy (i : Nat) : BufTy := match i / 128 with
  | 0 => hbmTy0_0 i
  | 1 => hbmTy0_1 i
  | _ => ⟨S2000x512, .f32⟩

abbrev bufTy : (tb : Table) → Fin (tcTables nBuf tb) → BufTy
  | .hbm, ⟨i, _⟩ => hbmTy i
  | _, _ => ⟨S2000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_cst : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_call0_cst : Ref sig .tc := ⟨.hbm, 29, rfl⟩
abbrev main_call0_v0 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_call1_cst : Ref sig .tc := ⟨.hbm, 36, rfl⟩
abbrev main_call1_v0 : Ref sig .tc := ⟨.hbm, 37, rfl⟩
abbrev main_v15 : Ref sig .tc := ⟨.hbm, 38, rfl⟩
abbrev main_cst_0 : Ref sig .tc := ⟨.hbm, 39, rfl⟩
abbrev main_v16 : Ref sig .tc := ⟨.hbm, 40, rfl⟩
abbrev main_cst_1 : Ref sig .tc := ⟨.hbm, 41, rfl⟩
abbrev main_v17 : Ref sig .tc := ⟨.hbm, 42, rfl⟩
abbrev main_cst_2 : Ref sig .tc := ⟨.hbm, 43, rfl⟩
abbrev main_v18 : Ref sig .tc := ⟨.hbm, 44, rfl⟩
abbrev main_v19 : Ref sig .tc := ⟨.hbm, 45, rfl⟩
abbrev main_cst_3 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_4 : Ref sig .tc := ⟨.hbm, 50, rfl⟩
abbrev main_v23 : Ref sig .tc := ⟨.hbm, 51, rfl⟩
abbrev main_v24 : Ref sig .tc := ⟨.hbm, 52, rfl⟩
abbrev main_cst_5 : Ref sig .tc := ⟨.hbm, 53, rfl⟩
abbrev main_call2_v0 : Ref sig .tc := ⟨.hbm, 54, rfl⟩
abbrev main_call2_v1 : Ref sig .tc := ⟨.hbm, 55, rfl⟩
abbrev main_v25 : Ref sig .tc := ⟨.hbm, 56, rfl⟩
abbrev main_cst_6 : Ref sig .tc := ⟨.hbm, 57, rfl⟩
abbrev main_v26 : Ref sig .tc := ⟨.hbm, 58, rfl⟩
abbrev main_v27 : Ref sig .tc := ⟨.hbm, 59, rfl⟩
abbrev main_cst_7 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_cst_8 : Ref sig .tc := ⟨.hbm, 64, rfl⟩
abbrev main_v31 : Ref sig .tc := ⟨.hbm, 65, rfl⟩
abbrev main_v32 : Ref sig .tc := ⟨.hbm, 66, rfl⟩
abbrev main_cst_9 : Ref sig .tc := ⟨.hbm, 67, rfl⟩
abbrev main_call3_v0 : Ref sig .tc := ⟨.hbm, 68, rfl⟩
abbrev main_call3_v1 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_call4_call0_cst : Ref sig .tc := ⟨.hbm, 79, rfl⟩
abbrev main_call4_call0_v0 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_call5_call0_cst : Ref sig .tc := ⟨.hbm, 84, rfl⟩
abbrev main_call5_call0_v0 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_cst_10 : Ref sig .tc := ⟨.hbm, 112, rfl⟩
abbrev main_v71 : Ref sig .tc := ⟨.hbm, 113, rfl⟩
abbrev main_cst_11 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_cst_12 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_cst_13 : Ref sig .tc := ⟨.hbm, 127, rfl⟩
abbrev main_v83 : Ref sig .tc := ⟨.hbm, 128, rfl⟩
abbrev main_cst_14 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_cst_15 : Ref sig .tc := ⟨.hbm, 133, rfl⟩
abbrev main_v87 : Ref sig .tc := ⟨.hbm, 134, rfl⟩
abbrev main_cst_16 : Ref sig .tc := ⟨.hbm, 135, rfl⟩
abbrev main_v88 : Ref sig .tc := ⟨.hbm, 136, rfl⟩
abbrev main_call6_cst : Ref sig .tc := ⟨.hbm, 137, rfl⟩
abbrev main_call6_v0 : Ref sig .tc := ⟨.hbm, 138, rfl⟩
abbrev main_call6_cst_0 : Ref sig .tc := ⟨.hbm, 139, rfl⟩
abbrev main_call6_v1 : Ref sig .tc := ⟨.hbm, 140, rfl⟩
abbrev main_call6_v2 : Ref sig .tc := ⟨.hbm, 141, rfl⟩
abbrev main_call6_v3 : Ref sig .tc := ⟨.hbm, 142, rfl⟩
abbrev main_call6_v4 : Ref sig .tc := ⟨.hbm, 143, rfl⟩
abbrev main_call6_v5 : Ref sig .tc := ⟨.hbm, 144, rfl⟩
abbrev main_call6_v6 : Ref sig .tc := ⟨.hbm, 145, rfl⟩
abbrev main_call6_cst_1 : Ref sig .tc := ⟨.hbm, 146, rfl⟩
abbrev main_call6_v7 : Ref sig .tc := ⟨.hbm, 147, rfl⟩
abbrev main_call6_v8 : Ref sig .tc := ⟨.hbm, 148, rfl⟩
abbrev main_call6_v9 : Ref sig .tc := ⟨.hbm, 149, rfl⟩
abbrev main_call6_v10 : Ref sig .tc := ⟨.hbm, 150, rfl⟩
abbrev main_v89 : Ref sig .tc := ⟨.hbm, 151, rfl⟩
abbrev main_v90 : Ref sig .tc := ⟨.hbm, 152, rfl⟩
abbrev main_cst_17 : Ref sig .tc := ⟨.hbm, 153, rfl⟩
abbrev main_v91 : Ref sig .tc := ⟨.hbm, 154, rfl⟩
abbrev main_v92 : Ref sig .tc := ⟨.hbm, 155, rfl⟩
abbrev main_cst_18 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_cst_19 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩

abbrev nD : Nat := 1
abbrev τ : Topo := Topo.v7x

variable {F : FTy → Type} [FloatOps F]
-- ==== Proof.Run.StatsBody.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

/-!
# The statistics kernel's body

One grid point of the first `pallas_call` reads a block of 400 rows of the five rating planes and leaves the row
degrees' inverse roots, the row block of the value plane, and the running column degrees in a scratch buffer the
points share. This module runs the body once for each of its three cases (first point, middle point, last point).
-/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zero2 : (![0, 0] : Fin 2 → Nat) = fun _ => 0 := funext fun a => by fin_cases a <;> rfl
theorem zero3 : (![0, 0, 0] : Fin 3 → Nat) = fun _ => 0 := funext fun a => by fin_cases a <;> rfl

/-- Reading back a buffer whose last store covered it whole gives that store's payload. -/
theorem read_whole_store {sp : Space} {S : Shape} {e : EltTy} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ fun y => ⟨_, List.mem_cons_self, View.mem_set_unit_zero h inb y⟩,
    View.canon_cons_unit_zero h]

/-- Loading the whole of a whole buffer gives its contents. -/
theorem load_whole {sp : Space} {S : Shape} {e : EltTy} {M : Memref sig .tc sp S e} (hM : M.IsWhole) (x : S.Idx → Elt F e)
    {off : Fin S.rank → Nat} (h : off = fun _ => 0) (inb : ∀ a, off a + S.size a ≤ S.size a) :
    View.readAt (Elt F) M.view (Rect.unit off S.size inb).toLoadRect (hM.unread x) = x := by
  rw [View.readAt_eq_ld, hM.read_unread, View.ld_unit_zero h]

/-- Loading the whole of a buffer whose last store covered it gives that store's payload. -/
theorem readCov_whole {sp : Space} {S : Shape} {e : EltTy} (v : View sig .tc sp S e)
    {off : Fin S.rank → Nat} (h : off = fun _ => 0) (inb : ∀ a, off a + S.size a ≤ S.size a) (w : S.Idx → Elt F e) :
    v.readCov [(⟨Rect.unit off S.size inb, w⟩ : View.Piece (Elt F) S e)] (Rect.unit off S.size inb).toLoadRect = w :=
  View.readCov_unit_zero v h inb w

/-! ## The three branch conditions -/

/-- The body is at the first point. -/
abbrev first0 (i : grid0.Coords) : Prop := (Scalar.cmpi .ne (Scalar.extui (Scalar.cmpi .eq (BitVec.ofNat 32 (i 0).val) 0#32)) 0#32) = 1#1
/-- The body is past the first point. -/
abbrev later0 (i : grid0.Coords) : Prop := (Scalar.cmpi .ne (Scalar.extui (Scalar.cmpi .sgt (BitVec.ofNat 32 (i 0).val) 0#32)) 0#32) = 1#1
/-- The body is at the last point. -/
abbrev last0 (i : grid0.Coords) : Prop := k0_cond3 i = 1#1

theorem first0_iff : ∀ t : Fin cfg0.N, first0 (grid0.coords t) ↔ t.val = 0 :=
  (by decide +kernel : ∀ t : Fin grid0.N, first0 (grid0.coords t) ↔ t.val = 0)
theorem later0_iff : ∀ t : Fin cfg0.N, later0 (grid0.coords t) ↔ t.val ≠ 0 :=
  (by decide +kernel : ∀ t : Fin grid0.N, later0 (grid0.coords t) ↔ t.val ≠ 0)
theorem last0_iff : ∀ t : Fin cfg0.N, last0 (grid0.coords t) ↔ t.val = 4 :=
  (by decide +kernel : ∀ t : Fin grid0.N, last0 (grid0.coords t) ↔ t.val = 4)

/-- The row block of the value plane: class number times rating plane, summed over the classes. -/
def valBlock (x0 : Vec F S5x400x2000 .f32) : Vec F S400x2000 .bf16 :=
  k0_pay1 x0 (k0_pay7 x0) (k0_pay8 x0) (Scalar.ofBits .f32 0x40400000#32)

section
variable (c : Dev nD) (i : grid0.Coords)
  (arg1 : Memref sig .tc .vmem S5x400x2000 .f32) (harg1 : arg1.IsWhole)
  (arg2 : Memref sig .tc .vmem S400x5 .f32) (harg2 : arg2.IsWhole)
  (arg3 : Memref sig .tc .vmem S2000x5 .f32) (harg3 : arg3.IsWhole)
  (arg4 : Memref sig .tc .vmem S400x2000 .bf16) (harg4 : arg4.IsWhole)
  (arg5 : Memref sig .tc .vmem S2000x5 .f32) (harg5 : arg5.IsWhole)

set_option maxHeartbeats 1000000 in
/-- The body at the first point: the scratch starts at the block's column sums, the column output is left alone. -/
theorem stats_first (hc0 : first0 i) (hc1 : ¬later0 i) (hc2 : ¬last0 i)
    (x0 : Vec F S5x400x2000 .f32) (xi2 : Vec F S2000x5 .f32) (E : Set ℕ) (K : PUnit → sProp 𝕄) :
    iprop(owns (c : Thread nD τ) arg1 fullShare x0 ∗ (∃ d, owns (c : Thread nD τ) arg2 fullShare d) ∗ owns (c : Thread nD τ) arg3 fullShare xi2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare (k0_pay3 x0) ∗ owns (c : Thread nD τ) arg3 fullShare xi2
            ∗ owns (c : Thread nD τ) arg4 fullShare (valBlock x0) ∗ owns (c : Thread nD τ) arg5 fullShare (k0_pay4 x0)) -∗ K ⟨⟩))
      ⊢ wp frame (wpE (defs₀ (F := F)) Variants.none c none) E (cc0__stats_kernel i arg1 harg1 arg2 harg2 arg3 harg3 arg4 harg4 arg5 harg5) K := by
  simp only [cc0__stats_kernel_eq_skeleton]; unfold cc0__stats_kernel_skel
  simp only [k0_part1_eq_skeleton]
  unfold owns
  iintro ⟨⟨%f0, %hf0, H0⟩, ⟨%d1, %f1, -, H1⟩, ⟨%f2, %hf2, H2⟩, ⟨%d3, %f3, -, H3⟩, ⟨%ds0, %fs0, -, HS0⟩, Hk⟩
  obtain rfl := harg1.eq_unread hf0; obtain rfl := harg3.eq_unread hf2
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr
    swap; · iexact H1
    ipureintro; rw [read_whole_store _ _ zero2, load_whole harg1 _ zero3]
  isplitl [H2]
  · iexists _; isplitr
    swap; · iexact H2
    ipureintro; exact harg3.read_unread _
  isplitl [H3]
  · iexists _; isplitr
    swap; · iexact H3
    ipureintro; rw [read_whole_store _ _ zero2]; sl_unfold_words; rw [load_whole harg1 _ zero3]; rfl
  iexists _; isplitr
  swap; · iexact HS0
  ipureintro; rw [read_whole_store _ _ zero2, load_whole harg1 _ zero3]

set_option maxHeartbeats 1000000 in
/-- The body at a middle point: the block's column sums are added to the scratch, the column output is left alone. -/
theorem stats_mid (hc0 : ¬first0 i) (hc1 : later0 i) (hc2 : ¬last0 i)
    (x0 : Vec F S5x400x2000 .f32) (xs : Vec F S2000x5 .f32) (xi2 : Vec F S2000x5 .f32) (E : Set ℕ) (K : PUnit → sProp 𝕄) :
    iprop(owns (c : Thread nD τ) arg1 fullShare x0 ∗ (∃ d, owns (c : Thread nD τ) arg2 fullShare d) ∗ owns (c : Thread nD τ) arg3 fullShare xi2
        ∗ (∃ d, owns (c : Thread nD τ) arg4 fullShare d) ∗ owns (c : Thread nD τ) arg5 fullShare xs
        ∗ (iprop(owns (c : Thread nD τ) arg1 fullShare x0 ∗ owns (c : Thread nD τ) arg2 fullShare (k0_pay3 x0) ∗ owns (c : Thread nD τ) arg3 fullShare xi2
            ∗ owns (c : Thread nD τ) arg4 fullShare (valBlock x0) ∗ owns (c : Thread nD τ) arg5 fullShare (k0_pay5 x0 xs)) -∗ K ⟨⟩))
      ⊢ wp frame (wpE (defs₀ (F := F)) Variants.none c none) E (cc0__stats_kernel i arg1 harg1 arg2 harg2 arg3 harg3 arg4 harg4 arg5 harg5) K := by
  simp only [cc0__stats_kernel_eq_skeleton]; unfold cc0__stats_kernel_skel
  simp only [k0_part1_eq_skeleton]
  unfold owns
  iintro ⟨⟨%f0, %hf0, H0⟩, ⟨%d1, %f1, -, H1⟩, ⟨%f2, %hf2, H2⟩, ⟨%d3, %f3, -, H3⟩, ⟨%fs0, %hfs0, HS0⟩, Hk⟩
  obtain rfl := harg1.eq_unread hf0; obtain rfl := harg3.eq_unread hf2; obtain rfl := harg5.eq_unread hfs0
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr
    swap; · iexact H1
    ipureintro; rw [read_whole_store _ _ zero2, load_whole harg1 _ zero3]
  isplitl [H2]
  · iexists _; isplitr
    swap; · iexact H2
    ipureintro; exact harg3.read_unread _
  isplitl [H3]
  · iexists _; isplitr
    swap; · iexact H3
    ipureintro; rw [read_whole_store _ _ zero2]; sl_unfold_words; rw [load_whole harg1 _ zero3]; rfl
  iexists _; isplitr
  swap; · iexact HS0
  ipureintro; rw [read_whole_store _ _ zero2, load_whole harg1 _ zero3]; rw [load_whole harg5 _ zero2]

set_option maxHeartbeats 1000000 in
/-- The body at the last point: the scratch is completed, and the column output is computed from it. -/
theorem stats_last (hc0 : ¬first0 i) (hc1 : later0 i) (hc2 : last0 i)
    (x0 : Vec F S5x400x2000 .f32) (xs : Vec F S2000x5 .f32) (E : Set ℕ) (K : PUnit → sProp 𝕄) :
    iprop(owns (c : Thread nD τ) arg1 fullShare x0 ∗ (∃ d, owns (c : Thread nD τ) arg2 fullShare d) ∗ (∃ d, owns (c : Thread nD τ) arg3 fullShare d)
        ∗ (∃ d, owns (c : Thread nD τ) arg4 fullShare d) ∗ owns (c : Thread nD τ) arg5 fullShare xs
        ∗ (iprop(owns (c : Thread nD τ) arg1 fullShare x0 ∗ owns (c : Thread nD τ) arg2 fullShare (k0_pay3 x0) ∗ owns (c : Thread nD τ) arg3 fullShare (k0_pay6 (k0_pay5 x0 xs))
            ∗ owns (c : Thread nD τ) arg4 fullShare (valBlock x0) ∗ owns (c : Thread nD τ) arg5 fullShare (k0_pay5 x0 xs)) -∗ K ⟨⟩))
      ⊢ wp frame (wpE (defs₀ (F := F)) Variants.none c none) E (cc0__stats_kernel i arg1 harg1 arg2 harg2 arg3 harg3 arg4 harg4 arg5 harg5) K := by
  simp only [cc0__stats_kernel_eq_skeleton]; unfold cc0__stats_kernel_skel
  simp only [k0_part1_eq_skeleton]
  unfold owns
  iintro ⟨⟨%f0, %hf0, H0⟩, ⟨%d1, %f1, -, H1⟩, ⟨%d2, %f2, -, H2⟩, ⟨%d3, %f3, -, H3⟩, ⟨%fs0, %hfs0, HS0⟩, Hk⟩
  obtain rfl := harg1.eq_unread hf0; obtain rfl := harg5.eq_unread hfs0
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr
    swap; · iexact H1
    ipureintro; rw [read_whole_store _ _ zero2, load_whole harg1 _ zero3]
  isplitl [H2]
  · iexists _; isplitr
    swap; · iexact H2
    ipureintro; rw [read_whole_store _ _ zero2]; sl_unfold_words; rw [readCov_whole _ zero2, load_whole harg1 _ zero3, load_whole harg5 _ zero2]
  isplitl [H3]
  · iexists _; isplitr
    swap; · iexact H3
    ipureintro; rw [read_whole_store _ _ zero2]; sl_unfold_words; rw [load_whole harg1 _ zero3]; rfl
  iexists _; isplitr
  swap; · iexact HS0
  ipureintro; sl_unfold_words; rw [read_whole_store _ _ zero2, load_whole harg1 _ zero3, load_whole harg5 _ zero2]

end

end Cert.KernelIdeal.Run

end
-- ==== Proof.Run.Stats.lean ====
module

public import proofs.«01_k».proof.Proof.Run.StatsBody

/-!
# The statistics kernel's pipeline

The proof data of the first `pallas_call`: what every window's buffer holds after each of the five points, what the
shared scratch buffer holds between the points, and the body obligation the pipeline rule asks for.
-/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The column sums over the blocks up to the `n`th. -/
def colAcc (b : Fin cfg0.N → Vec F S5x400x2000 .f32) : (n : ℕ) → n < cfg0.N → Vec F S2000x5 .f32
  | 0, h => k0_pay4 (b ⟨0, h⟩)
  | n + 1, h => k0_pay5 (b ⟨n + 1, h⟩) (colAcc b n (Nat.lt_of_succ_lt h))

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rating blocks, point by point. -/
abbrev rBlk (c : Dev nD) (t : Fin cfg0.N) : Vec F S5x400x2000 .f32 := iblk0 V c 0 t

/-- The shared scratch buffer. -/
abbrev scratch0 : Memref sig .tc .vmem S2000x5 .f32 := Memref.whole cc0_scratch0

/-- What is carried before point `n`: at first every scratch buffer at anything, then the shared one at the column sums. -/
def carried0 (c : Dev nD) : (n : ℕ) → n ≤ cfg0.N → sProp 𝕄
  | 0, _ => Pipeline.ΦA spec0 c
  | n + 1, h => iprop((owns (c : Thread nD τ) scratch0 fullShare (colAcc (rBlk V c) n h)
      ∗ Pipeline.scopedRestBut (Ix := Unit) (Name := ℕ) (U := UR sig nD τ) (Lvl := ℕ) (Val := Elt F) spec0 c [cc0_scratch0]) ∗ (∃ r, prngReg c r))

/-- The scratch buffers at anything, the shared one taken out. -/
theorem anything0 (c : Dev nD) : (Pipeline.ΦA spec0 c : sProp 𝕄)
    = iprop(((∃ d, owns (c : Thread nD τ) scratch0 fullShare d)
      ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scratch0, owns_whole]; try rfl

theorem carried0_zero (c : Dev nD) (n : ℕ) (h : n ≤ cfg0.N) (hz : n = 0) : carried0 V c n h = Pipeline.ΦA spec0 c := by
  subst hz; rfl

theorem carried0_pos (c : Dev nD) (n : ℕ) (h : n ≤ cfg0.N) (hz : n ≠ 0) :
    carried0 V c n h = iprop((owns (c : Thread nD τ) scratch0 fullShare (colAcc (rBlk V c) (n - 1) (by omega))
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- The proof data: every window's buffer after the body at point `t`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay3 (rBlk V c t)
    | ⟨2, _⟩ => k0_pay6 (colAcc (rBlk V c) t.val t.isLt)
    | ⟨3, _⟩ => valBlock (rBlk V c t)
  Φ t := carried0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = k0_pay3 (rBlk V c t) := by dsimp only [dat0]
theorem after0_2 (c : Dev nD) (t : Fin cfg0.N) :
    (dat0 V c).after 2 t = k0_pay6 (colAcc (rBlk V c) t.val t.isLt) := by dsimp only [dat0]
theorem after0_3 (c : Dev nD) (t : Fin cfg0.N) : (dat0 V c).after 3 t = valBlock (rBlk V c t) := by dsimp only [dat0]

/-- The rating window's buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_3 : ∀ t : Fin cfg0.N, cfg0.idle 3 (grid0.coords t) = false := fun _ => rfl
theorem idleAt0_2 : ∀ t : Fin cfg0.N, t.val ≠ 4 → cfg0.idle 2 (grid0.coords t) = true := by decide +kernel
theorem noFlush0_2 : ∀ t : Fin cfg0.N, t.val ≠ 4 → (cfg0.win 2).flush t = false := by decide +kernel
theorem liveAt0_2 : ∀ t : Fin cfg0.N, t.val = 4 → cfg0.idle 2 (grid0.coords t) = false := by decide +kernel

/-- What the body is called with at point `t`. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What the body leaves at point `t`. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.castSucc = carried0 V c t.val (Nat.le_of_lt t.isLt) from rfl]
  rw [show (dat0 V c).Φ t.succ = carried0 V c (t.val + 1) t.isLt from rfl, carried0_pos V c (t.val + 1) t.isLt (Nat.succ_ne_zero _)]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 3 t = owns (c : Thread nD τ) (st0_3 t) fullShare ((dat0 V c).after 3 t) from by
    unfold Dat.leavesExact; rw [liveAt0_3 t], after0_3]
  obtain ⟨n, hn⟩ := t
  by_cases h0 : n = 0
  · subst h0
    rw [Dat.leavesExact_idle (dat0 V c) 2 _ (idleAt0_2 _ (show (0 : ℕ) ≠ 4 by decide)) (noFlush0_2 _ (show (0 : ℕ) ≠ 4 by decide))]
    rw [carried0_zero V c _ _ rfl, anything0]
    iintro ⟨⟨⟨HS0, HR⟩, Hg⟩, Ho, ⟨%d0, H0⟩, ⟨%d1, H1⟩, ⟨%d2, H2⟩, ⟨%d3, H3⟩⟩
    iapply (stats_first c (grid0.coords ⟨0, hn⟩) _ _ _ _ _ _ _ _ _ _ ((first0_iff _).mpr rfl) (fun h => (later0_iff _).mp h rfl)
      (fun h => absurd ((last0_iff _).mp h) (show ¬(0 : ℕ) = 4 by decide)) (rBlk V c ⟨0, hn⟩) _ Set.univ _)
    isplitl [H0]; · iexact H0
    isplitl [H1]; · iexists _; iexact H1
    isplitl [H2]; · iexact H2
    isplitl [H3]; · iexists _; iexact H3
    isplitl [HS0]; · iexact HS0
    iintro ⟨H0, H1, H2, H3, HS0⟩
    isplitl [HS0 HR Hg]
    · isplitl [HS0 HR]
      · isplitl [HS0]
        · iexact HS0
        iexact HR
      iexact Hg
    isplitl [Ho]; · iexact Ho
    isplitl [H0]; · iexact H0
    isplitl [H1]; · iexact H1
    isplitl [H2]; · iexists _; iexact H2
    iexact H3
  obtain ⟨k, rfl⟩ : ∃ k, n = k + 1 := ⟨n - 1, by omega⟩
  rw [carried0_pos V c _ _ h0]
  by_cases h4 : k + 1 = 4
  · rw [show (dat0 V c).leavesExact 2 ⟨k + 1, hn⟩ = owns (c : Thread nD τ) (st0_2 ⟨k + 1, hn⟩) fullShare ((dat0 V c).after 2 ⟨k + 1, hn⟩) from by
      unfold Dat.leavesExact; rw [liveAt0_2 _ h4], after0_2]
    iintro ⟨⟨⟨HS0, HR⟩, Hg⟩, Ho, ⟨%d0, H0⟩, ⟨%d1, H1⟩, ⟨%d2, H2⟩, ⟨%d3, H3⟩⟩
    iapply (stats_last c (grid0.coords ⟨k + 1, hn⟩) _ _ _ _ _ _ _ _ _ _ (fun h => h0 ((first0_iff _).mp h)) ((later0_iff _).mpr h0)
      ((last0_iff _).mpr h4) (rBlk V c ⟨k + 1, hn⟩) _ Set.univ _)
    isplitl [H0]; · iexact H0
    isplitl [H1]; · iexists _; iexact H1
    isplitl [H2]; · iexists _; iexact H2
    isplitl [H3]; · iexists _; iexact H3
    isplitl [HS0]; · iexact HS0
    iintro ⟨H0, H1, H2, H3, HS0⟩
    isplitl [HS0 HR Hg]
    · isplitl [HS0 HR]
      · isplitl [HS0]
        · iexact HS0
        iexact HR
      iexact Hg
    isplitl [Ho]; · iexact Ho
    isplitl [H0]; · iexact H0
    isplitl [H1]; · iexact H1
    isplitl [H2]; · iexact H2
    iexact H3
  · rw [Dat.leavesExact_idle (dat0 V c) 2 _ (idleAt0_2 _ h4) (noFlush0_2 _ h4)]
    iintro ⟨⟨⟨HS0, HR⟩, Hg⟩, Ho, ⟨%d0, H0⟩, ⟨%d1, H1⟩, ⟨%d2, H2⟩, ⟨%d3, H3⟩⟩
    iapply (stats_mid c (grid0.coords ⟨k + 1, hn⟩) _ _ _ _ _ _ _ _ _ _ (fun h => h0 ((first0_iff _).mp h)) ((later0_iff _).mpr h0)
      (fun h => h4 ((last0_iff _).mp h)) (rBlk V c ⟨k + 1, hn⟩) _ _ Set.univ _)
    isplitl [H0]; · iexact H0
    isplitl [H1]; · iexists _; iexact H1
    isplitl [H2]; · iexact H2
    isplitl [H3]; · iexists _; iexact H3
    isplitl [HS0]; · iexact HS0
    iintro ⟨H0, H1, H2, H3, HS0⟩
    isplitl [HS0 HR Hg]
    · isplitl [HS0 HR]
      · isplitl [HS0]
        · iexact HS0
        iexact HR
      iexact Hg
    isplitl [Ho]; · iexact Ho
    isplitl [H0]; · iexact H0
    isplitl [H1]; · iexact H1
    isplitl [H2]; · iexists _; iexact H2
    iexact H3

theorem defs₀_row0 (t : Fin cfg0.N) :
    defs₀ (F := F) .tc cfg0.body (cfg0.bodyArgs t (cfg0.slots t)) = bodyAt0 t := by
  unfold defs₀; rw [Defs.onTc_tc]

/-- The pipeline rule's body obligation. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- The region starts with every scratch buffer at anything. -/
theorem entry0 (c : Dev nD) : Pipeline.ΦA spec0 c ⊢ (dat0 V c).Φ 0 := by
  rw [show (dat0 V c).Φ 0 = carried0 V c 0 (Nat.zero_le _) from rfl, carried0_zero V c 0 _ rfl]

/-- The region ends with every scratch buffer at something. -/
theorem exit0 (c : Dev nD) : (dat0 V c).Φ (Fin.last cfg0.N) ⊢ Pipeline.ΦA spec0 c := by
  rw [show (dat0 V c).Φ (Fin.last cfg0.N) = carried0 V c (Fin.last cfg0.N).val (Nat.le_of_lt_succ (Fin.last cfg0.N).isLt) from rfl,
    carried0_pos V c _ _ (by rw [Fin.val_last, show cfg0.N = 5 from N_0]; decide), anything0]
  iintro ⟨⟨HS0, HR⟩, Hg⟩
  isplitl [HS0 HR]
  · isplitl [HS0]
    · iexists _; iexact HS0
    iexact HR
  iexact Hg

end Cert.KernelIdeal.Run

end
-- ==== Proof.Run.MessageBody.lean ====
module

public import proofs.«01_k».proof.Proof.Run.StatsBody
public import Idealize.ShloMosaic.Lib.ValueIdxCore

/-!
# The values of the message passing kernel

The second `pallas_call` encodes both sides at its first point and keeps the two stacks of messages in scratch
buffers; every later point gathers the messages of one tile of 400 users and adds the tile's share to the items'
sums. This module names what the body computes, class by class, and reads the stores back.
-/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]

local notation "𝕄" => MT nD τ sig Unit (Elt F) ℕ (UR sig nD τ) ℕ

/-- A number spread over an array. -/
abbrev filled (S : Shape) (w : BitVec 32) : FVec F S .f32 := broadcast S (Scalar.ofBits .f32 w)

/-- A running sum from zero over the classes up to `k`, in order. -/
def upTo {S : Shape} (f : Fin 5 → FVec F S .f32) : Fin 5 → FVec F S .f32
  | ⟨0, _⟩ => addf (filled S 0x00000000#32) (f 0)
  | ⟨1, _⟩ => addf (addf (filled S 0x00000000#32) (f 0)) (f 1)
  | ⟨2, _⟩ => addf (addf (addf (filled S 0x00000000#32) (f 0)) (f 1)) (f 2)
  | ⟨3, _⟩ => addf (addf (addf (addf (filled S 0x00000000#32) (f 0)) (f 1)) (f 2)) (f 3)
  | ⟨4, _⟩ => addf (addf (addf (addf (addf (filled S 0x00000000#32) (f 0)) (f 1)) (f 2)) (f 3)) (f 4)

/-! ## The encoders -/

/-- The hidden features of the users. -/
def userFeat (x0 : Vec F S2000x512 .f32) (x1 : Vec F S2000x128 .f32) (x4 : Vec F S512x256 .f32) (x5 : Vec F S128x256 .f32) (x6 : Vec F S1x256 .f32) :
    FVec F S2000x256 .f32 := k1_pay4 x0 x4 x1 x5 x6
/-- The hidden features of the items. -/
def itemFeat (x2 : Vec F S2000x512 .f32) (x3 : Vec F S2000x128 .f32) (x7 : Vec F S512x256 .f32) (x8 : Vec F S128x256 .f32) (x9 : Vec F S1x256 .f32) :
    FVec F S2000x256 .f32 := k1_pay5 x2 x7 x3 x8 x9

/-- One class's weights. -/
def weight (g : Vec F S5x256x256 .f32) (k : Fin 5) : FVec F S256x256 .f32 :=
  shapeCast S256x256 (View.ld g (Rect.unit (s := S5x256x256) ![k.val, 0, 0] S1x256x256.size (by intro a; have := k.isLt; fin_cases a <;> simp [Shape.size] <;> omega)) : Vec F S1x256x256 .f32) shapeCasts_S1x256x256_S256x256
/-- One class's column of an array of 2000 rows. -/
def col (d : Vec F S2000x5 .f32) (k : Fin 5) : Vec F S2000x1 .f32 :=
  View.ld d (Rect.unit (s := S2000x5) ![0, k.val] S2000x1.size (by intro a; have := k.isLt; fin_cases a <;> simp [Shape.size] <;> omega))
/-- One class's column of a tile of 400 rows. -/
def tileCol (d : Vec F S400x5 .f32) (k : Fin 5) : Vec F S400x1 .f32 :=
  View.ld d (Rect.unit (s := S400x5) ![0, k.val] S400x1.size (by intro a; have := k.isLt; fin_cases a <;> simp [Shape.size] <;> omega))

/-- A column spread over 256 features. -/
def spread (d : Vec F S2000x5 .f32) (k : Fin 5) : FVec F S2000x256 .f32 :=
  broadcastTo S2000x256 (shapeCast S2000x1 (col d k) shapeCasts_S2000x1_S2000x1) broadcasts_S2000x1_S2000x256

/-- The items' messages of one class, scaled by the items' degrees. -/
def itemMsg (z : FVec F S2000x256 .f32) (g : Vec F S5x256x256 .f32) (d : Vec F S2000x5 .f32) (k : Fin 5) : FVec F S2000x256 .bf16 :=
  shapeCast S2000x256 (truncf .bf16 (mulf (matmul dot_S2000x256_S256x256_S2000x256_1_0_0_1_n_n none z (upTo (weight g) k) (constant S2000x256 .f32 0x00000000#32))
    (spread d k)) bitsLt_bf16_f32) shapeCasts_S2000x256_S2000x256
/-- The users' messages of one class. -/
def userMsg (z : FVec F S2000x256 .f32) (g : Vec F S5x256x256 .f32) (k : Fin 5) : FVec F S2000x256 .bf16 :=
  shapeCast S2000x256 (truncf .bf16 (matmul dot_S2000x256_S256x256_S2000x256_1_0_0_1_n_n none z (upTo (weight g) k) (constant S2000x256 .f32 0x00000000#32))
    bitsLt_bf16_f32) shapeCasts_S2000x256_S2000x256

/-- Five blocks of 2000 rows, one under another. -/
def stackRows {e : EltTy} (w : Fin 5 → Vec F S2000x256 e) : Vec F S10000x256 e := fun y =>
  w ⟨(y 0).val / 2000, by have : (y 0).val < 10000 := (y 0).isLt; omega⟩ (ix2 ⟨(y 0).val % 2000, Nat.mod_lt _ (by decide)⟩ (y 1))

/-- Five planes of 2000 rows. -/
def stackItems (w : Fin 5 → Vec F S2000x256 .f32) : Vec F S5x2000x256 .f32 := fun y => w (y 0) (ix2 (y 1) (y 2))
/-- Five planes of 400 rows. -/
def stackTile (w : Fin 5 → Vec F S400x128 .f32) : Vec F S5x400x128 .f32 := fun y => w (y 0) (ix2 (y 1) (y 2))

/-! ## One tile of users -/

/-- The number of a class as a half precision word. -/
def classWord : Fin 5 → BitVec 16
  | ⟨0, _⟩ => 0x3F80#16 | ⟨1, _⟩ => 0x4000#16 | ⟨2, _⟩ => 0x4040#16 | ⟨3, _⟩ => 0x4080#16 | ⟨4, _⟩ => 0x40A0#16

/-- The users' degrees where the class was observed, zero elsewhere. -/
def mask (v : Vec F S400x2000 .bf16) (d : Vec F S400x5 .f32) (k : Fin 5) : FVec F S400x2000 .bf16 :=
  select (cmpf .oeq (shapeCast S400x2000 v shapeCasts_S400x2000_S400x2000 : FVec F S400x2000 .bf16) (broadcast S400x2000 (Scalar.ofBits .bf16 (classWord k))))
    (broadcastTo S400x2000 (shapeCast S400x1 (truncf .bf16 (shapeCast S400x1 (tileCol d k) shapeCasts_S400x1_S400x1 : FVec F S400x1 .f32) bitsLt_bf16_f32) shapeCasts_S400x1_S400x1) broadcasts_S400x1_S400x2000)
    (broadcast S400x2000 (Scalar.ofBits .bf16 0x0000#16))

/-- One class's block of a stack of messages. -/
def block (m : Vec F S10000x256 .bf16) (k : Fin 5) : Vec F S2000x256 .bf16 :=
  View.ld m (Rect.unit (s := S10000x256) ![2000 * k.val, 0] S2000x256.size (by intro a; have := k.isLt; fin_cases a <;> simp [Shape.size] <;> omega))
/-- The rows of the `n`th tile in one class's block. -/
def tile (m : Vec F S10000x256 .bf16) (n k : Fin 5) : Vec F S400x256 .bf16 :=
  View.ld m (Rect.unit (s := S10000x256) ![2000 * k.val + 400 * n.val, 0] S400x256.size (by intro a; have := k.isLt; have := n.isLt; fin_cases a <;> simp [Shape.size] <;> omega))

/-- One class's share of the users' sums. -/
def userShare (v : Vec F S400x2000 .bf16) (d : Vec F S400x5 .f32) (m : Vec F S10000x256 .bf16) (k : Fin 5) : FVec F S400x256 .f32 :=
  matmul dot_S400x2000_S2000x256_S400x256_1_0_0_1_n_n none (mask v d k) (block m k) (constant S400x256 .f32 0x00000000#32)
/-- One class's share of the items' sums. -/
def itemShare (v : Vec F S400x2000 .bf16) (d : Vec F S400x5 .f32) (m : Vec F S10000x256 .bf16) (n k : Fin 5) : FVec F S2000x256 .f32 :=
  matmul dot_S400x2000_S400x256_S2000x256_0_0_1_1_n_n none (mask v d k) (tile m n k) (constant S2000x256 .f32 0x00000000#32)

/-- The users' second layer. -/
def userHid (v : Vec F S400x2000 .bf16) (d : Vec F S400x5 .f32) (m : Vec F S10000x256 .bf16) (b : Vec F S1x256 .f32) (w : Vec F S256x128 .f32) (b2 : Vec F S1x128 .f32) :
    FVec F S400x128 .f32 :=
  addf (matmul dot_S400x256_S256x128_S400x128_1_0_0_1_n_n none
      (tanh (addf (upTo (userShare v d m) 4) (broadcastTo S400x256 (shapeCast S1x256 b shapeCasts_S1x256_S1x256) broadcasts_S1x256_S400x256)))
      w (constant S400x128 .f32 0x00000000#32))
    (broadcastTo S400x128 (shapeCast S1x128 b2 shapeCasts_S1x128_S1x128) broadcasts_S1x128_S400x128)

/-- One basis matrix. -/
def basisMat (p : Vec F S2x128x128 .f32) (r : Fin 2) : FVec F S128x128 .f32 :=
  shapeCast S128x128 (View.ld p (Rect.unit (s := S2x128x128) ![r.val, 0, 0] S1x128x128.size (by intro a; have := r.isLt; fin_cases a <;> simp [Shape.size] <;> omega)) : Vec F S1x128x128 .f32) shapeCasts_S1x128x128_S128x128
/-- The users' vectors under one basis matrix. -/
def userBasis (h : FVec F S400x128 .f32) (p : Vec F S2x128x128 .f32) (r : Fin 2) : FVec F S400x128 .f32 :=
  matmul dot_S400x128_S128x128_S400x128_1_0_0_1_n_n none h (basisMat p r) (constant S400x128 .f32 0x00000000#32)
/-- The coefficients of a class. -/
def coef0 (a : Vec F S5x2 .f32) : Fin 5 → F .f32
  | ⟨0, _⟩ => extractAt ![0, 0] (extractStridedSlice S1x1 ![0, 0] a slices_S5x2_o0_0_S1x1) inpos_S1x1_p0_0
  | ⟨1, _⟩ => extractAt ![0, 0] (extractStridedSlice S1x1 ![1, 0] a slices_S5x2_o1_0_S1x1) inpos_S1x1_p0_0
  | ⟨2, _⟩ => extractAt ![0, 0] (extractStridedSlice S1x1 ![2, 0] a slices_S5x2_o2_0_S1x1) inpos_S1x1_p0_0
  | ⟨3, _⟩ => extractAt ![0, 0] (extractStridedSlice S1x1 ![3, 0] a slices_S5x2_o3_0_S1x1) inpos_S1x1_p0_0
  | ⟨4, _⟩ => extractAt ![0, 0] (extractStridedSlice S1x1 ![4, 0] a slices_S5x2_o4_0_S1x1) inpos_S1x1_p0_0
def coef1 (a : Vec F S5x2 .f32) : Fin 5 → F .f32
  | ⟨0, _⟩ => extractAt ![0, 0] (extractStridedSlice S1x1 ![0, 1] a slices_S5x2_o0_1_S1x1) inpos_S1x1_p0_0
  | ⟨1, _⟩ => extractAt ![0, 0] (extractStridedSlice S1x1 ![1, 1] a slices_S5x2_o1_1_S1x1) inpos_S1x1_p0_0
  | ⟨2, _⟩ => extractAt ![0, 0] (extractStridedSlice S1x1 ![2, 1] a slices_S5x2_o2_1_S1x1) inpos_S1x1_p0_0
  | ⟨3, _⟩ => extractAt ![0, 0] (extractStridedSlice S1x1 ![3, 1] a slices_S5x2_o3_1_S1x1) inpos_S1x1_p0_0
  | ⟨4, _⟩ => extractAt ![0, 0] (extractStridedSlice S1x1 ![4, 1] a slices_S5x2_o4_1_S1x1) inpos_S1x1_p0_0
/-- A class's query vectors. -/
def queryOf (h : FVec F S400x128 .f32) (p : Vec F S2x128x128 .f32) (a : Vec F S5x2 .f32) (k : Fin 5) : FVec F S400x128 .f32 :=
  addf (mulf (userBasis h p 0) (broadcast S400x128 (coef0 a k))) (mulf (userBasis h p 1) (broadcast S400x128 (coef1 a k)))

/-- The tile's block of query vectors. -/
def queries (v : Vec F S400x2000 .bf16) (d : Vec F S400x5 .f32) (m : Vec F S10000x256 .bf16) (b : Vec F S1x256 .f32) (w : Vec F S256x128 .f32) (b2 : Vec F S1x128 .f32)
    (p : Vec F S2x128x128 .f32) (a : Vec F S5x2 .f32) : Vec F S5x400x128 .f32 := stackTile (queryOf (userHid v d m b w b2) p a)

/-! ## The items' sums -/

/-- The items' sums after the first tile, and after a later one. -/
def sumsFirst (v : Vec F S400x2000 .bf16) (d : Vec F S400x5 .f32) (m : Vec F S10000x256 .bf16) (n : Fin 5) : Vec F S5x2000x256 .f32 := stackItems (itemShare v d m n)
def itemPlane (s : Vec F S5x2000x256 .f32) (k : Fin 5) : FVec F S2000x256 .f32 :=
  shapeCast S2000x256 (View.ld s (Rect.unit (s := S5x2000x256) ![k.val, 0, 0] S1x2000x256.size (by intro a; have := k.isLt; fin_cases a <;> simp [Shape.size] <;> omega)) : Vec F S1x2000x256 .f32) shapeCasts_S1x2000x256_S2000x256
def sumsNext (v : Vec F S400x2000 .bf16) (d : Vec F S400x5 .f32) (m : Vec F S10000x256 .bf16) (n : Fin 5) (s : Vec F S5x2000x256 .f32) : Vec F S5x2000x256 .f32 :=
  stackItems fun k => addf (itemPlane s k) (itemShare v d m n k)

/-- The items' second layer. -/
def itemHid (s : Vec F S5x2000x256 .f32) (d : Vec F S2000x5 .f32) (b : Vec F S1x256 .f32) (w : Vec F S256x128 .f32) (b2 : Vec F S1x128 .f32) : Vec F S2000x128 .f32 :=
  addf (matmul dot_S2000x256_S256x128_S2000x128_1_0_0_1_n_n none
      (tanh (addf (upTo (fun k => mulf (itemPlane s k) (spread d k)) 4) (broadcastTo S2000x256 (shapeCast S1x256 b shapeCasts_S1x256_S1x256) broadcasts_S1x256_S2000x256)))
      w (constant S2000x128 .f32 0x00000000#32))
    (broadcastTo S2000x128 (shapeCast S1x128 b2 shapeCasts_S1x128_S1x128) broadcasts_S1x128_S2000x128)

/-! ## Reading the stores back -/

/-- Five stored blocks read back as the stack. -/
theorem read_rows {e : EltTy} (v : View sig .tc .vmem S10000x256 e) (f : v.ty.Contents (Elt F)) (w : Fin 5 → Vec F S2000x256 e)
    (i0 : ∀ a, (![0, 0] : Fin 2 → ℕ) a + S2000x256.size a ≤ S10000x256.size a) (i1 : ∀ a, (![2000, 0] : Fin 2 → ℕ) a + S2000x256.size a ≤ S10000x256.size a) (i2 : ∀ a, (![4000, 0] : Fin 2 → ℕ) a + S2000x256.size a ≤ S10000x256.size a) (i3 : ∀ a, (![6000, 0] : Fin 2 → ℕ) a + S2000x256.size a ≤ S10000x256.size a) (i4 : ∀ a, (![8000, 0] : Fin 2 → ℕ) a + S2000x256.size a ≤ S10000x256.size a)
    (p0 p1 p2 p3 p4 : S2000x256.Idx → Elt F e) (h0 : p0 = w 0) (h1 : p1 = w 1) (h2 : p2 = w 2) (h3 : p3 = w 3) (h4 : p4 = w 4) :
    v.read (Elt F) (v.writes (Elt F) f
      [⟨Rect.unit ![8000, 0] S2000x256.size i4, p4⟩,
       ⟨Rect.unit ![6000, 0] S2000x256.size i3, p3⟩,
       ⟨Rect.unit ![4000, 0] S2000x256.size i2, p2⟩,
       ⟨Rect.unit ![2000, 0] S2000x256.size i1, p1⟩,
       ⟨Rect.unit ![0, 0] S2000x256.size i0, p0⟩]) = stackRows w := by
  subst h0 h1 h2 h3 h4
  have piece : ∀ (k : Fin 5) (ik : ∀ a, (![2000 * k.val, 0] : Fin 2 → ℕ) a + S2000x256.size a ≤ S10000x256.size a) (x : S2000x256.Idx),
      w k x = stackRows w ((Rect.unit (s := S10000x256) ![2000 * k.val, 0] S2000x256.size ik).emb x) := by
    intro k ik x
    have hx : (x 0).val < 2000 := (x 0).isLt
    have h0 : (((Rect.unit (s := S10000x256) ![2000 * k.val, 0] S2000x256.size ik).emb x) 0).val = 2000 * k.val + (x 0).val := by simp [Rect.unit, Rect.emb]
    have h1 : (((Rect.unit (s := S10000x256) ![2000 * k.val, 0] S2000x256.size ik).emb x) 1).val = (x 1).val := by simp [Rect.unit, Rect.emb]
    unfold stackRows
    refine congr (congrArg w (Fin.ext ?_)) (funext fun a => Fin.ext ?_)
    · show k.val = _ / 2000
      rw [h0]; omega
    · match a with
      | ⟨0, _⟩ => show (x 0).val = _ % 2000; rw [h0]; omega
      | ⟨1, _⟩ => exact h1.symm
  have cover : ∀ y : S10000x256.Idx, ∃ p ∈ ([⟨Rect.unit ![8000, 0] S2000x256.size i4, w 4⟩,
       ⟨Rect.unit ![6000, 0] S2000x256.size i3, w 3⟩,
       ⟨Rect.unit ![4000, 0] S2000x256.size i2, w 2⟩,
       ⟨Rect.unit ![2000, 0] S2000x256.size i1, w 1⟩,
       ⟨Rect.unit ![0, 0] S2000x256.size i0, w 0⟩] : List (View.Piece (Elt F) S10000x256 e)), y ∈ p.1.set :=
    View.cover_of_tiledL _ S2000x256.size (by sl_kernel_rfl)
  rw [View.read_writes_eq_canon _ _ _ cover]
  funext y
  refine View.canon_apply_of_pieces (stackRows w) _ ?_ y (cover y)
  intro p hp
  simp only [List.mem_cons, List.not_mem_nil, _root_.or_false] at hp
  rcases hp with rfl | rfl | rfl | rfl | rfl
  · exact piece 4 i4
  · exact piece 3 i3
  · exact piece 2 i2
  · exact piece 1 i1
  · exact piece 0 i0

/-- Five stored planes read back as the stack. -/
theorem read_items (v : View sig .tc .vmem S5x2000x256 .f32) (f : v.ty.Contents (Elt F)) (w : Fin 5 → Vec F S2000x256 .f32)
    (i0 : ∀ a, (![0, 0, 0] : Fin 3 → ℕ) a + S1x2000x256.size a ≤ S5x2000x256.size a) (i1 : ∀ a, (![1, 0, 0] : Fin 3 → ℕ) a + S1x2000x256.size a ≤ S5x2000x256.size a) (i2 : ∀ a, (![2, 0, 0] : Fin 3 → ℕ) a + S1x2000x256.size a ≤ S5x2000x256.size a) (i3 : ∀ a, (![3, 0, 0] : Fin 3 → ℕ) a + S1x2000x256.size a ≤ S5x2000x256.size a) (i4 : ∀ a, (![4, 0, 0] : Fin 3 → ℕ) a + S1x2000x256.size a ≤ S5x2000x256.size a)
    (p0 p1 p2 p3 p4 : S1x2000x256.Idx → Elt F .f32) (h0 : p0 = shapeCast S1x2000x256 (w 0) shapeCasts_S2000x256_S1x2000x256) (h1 : p1 = shapeCast S1x2000x256 (w 1) shapeCasts_S2000x256_S1x2000x256) (h2 : p2 = shapeCast S1x2000x256 (w 2) shapeCasts_S2000x256_S1x2000x256) (h3 : p3 = shapeCast S1x2000x256 (w 3) shapeCasts_S2000x256_S1x2000x256) (h4 : p4 = shapeCast S1x2000x256 (w 4) shapeCasts_S2000x256_S1x2000x256) :
    v.read (Elt F) (v.writes (Elt F) f
      [⟨Rect.unit ![4, 0, 0] S1x2000x256.size i4, p4⟩,
       ⟨Rect.unit ![3, 0, 0] S1x2000x256.size i3, p3⟩,
       ⟨Rect.unit ![2, 0, 0] S1x2000x256.size i2, p2⟩,
       ⟨Rect.unit ![1, 0, 0] S1x2000x256.size i1, p1⟩,
       ⟨Rect.unit ![0, 0, 0] S1x2000x256.size i0, p0⟩]) = stackItems w := by
  subst h0 h1 h2 h3 h4
  have piece : ∀ (k : Fin 5) (ik : ∀ a, (![k.val, 0, 0] : Fin 3 → ℕ) a + S1x2000x256.size a ≤ S5x2000x256.size a) (x : S1x2000x256.Idx),
      shapeCast S1x2000x256 (w k) shapeCasts_S2000x256_S1x2000x256 x = stackItems w ((Rect.unit (s := S5x2000x256) ![k.val, 0, 0] S1x2000x256.size ik).emb x) := by
    intro k ik x
    unfold stackItems
    have hx : (x 0).val = 0 := by have := (x 0).isLt; simp [Shape.size] at this; omega
    rw [show ((Rect.unit (s := S5x2000x256) ![k.val, 0, 0] S1x2000x256.size ik).emb x) 0 = k from Fin.ext (by simp [Rect.unit, Rect.emb, hx])]
    refine shapeCast_apply _ _ _ _ ?_
    refine (Shape.rowMajor_val_two _).trans ((Shape.rowMajor_val_three _).trans ?_).symm
    have h1 : (((Rect.unit (s := S5x2000x256) ![k.val, 0, 0] S1x2000x256.size ik).emb x) 1).val = (x 1).val := by simp [Rect.unit, Rect.emb]
    have h2 : (((Rect.unit (s := S5x2000x256) ![k.val, 0, 0] S1x2000x256.size ik).emb x) 2).val = (x 2).val := by simp [Rect.unit, Rect.emb]
    show ((x 0).val * 2000 + (x 1).val) * 256 + (x 2).val = (((Rect.unit (s := S5x2000x256) ![k.val, 0, 0] S1x2000x256.size ik).emb x) 1).val * 256 + (((Rect.unit (s := S5x2000x256) ![k.val, 0, 0] S1x2000x256.size ik).emb x) 2).val
    rw [hx, h1, h2, Nat.zero_mul, Nat.zero_add]
  have cover : ∀ y : S5x2000x256.Idx, ∃ p ∈ ([⟨Rect.unit ![4, 0, 0] S1x2000x256.size i4, shapeCast S1x2000x256 (w 4) shapeCasts_S2000x256_S1x2000x256⟩,
       ⟨Rect.unit ![3, 0, 0] S1x2000x256.size i3, shapeCast S1x2000x256 (w 3) shapeCasts_S2000x256_S1x2000x256⟩,
       ⟨Rect.unit ![2, 0, 0] S1x2000x256.size i2, shapeCast S1x2000x256 (w 2) shapeCasts_S2000x256_S1x2000x256⟩,
       ⟨Rect.unit ![1, 0, 0] S1x2000x256.size i1, shapeCast S1x2000x256 (w 1) shapeCasts_S2000x256_S1x2000x256⟩,
       ⟨Rect.unit ![0, 0, 0] S1x2000x256.size i0, shapeCast S1x2000x256 (w 0) shapeCasts_S2000x256_S1x2000x256⟩] : List (View.Piece (Elt F) S5x2000x256 .f32)), y ∈ p.1.set :=
    View.cover_of_tiledL _ S1x2000x256.size (by sl_kernel_rfl)
  rw [View.read_writes_eq_canon _ _ _ cover]
  funext y
  refine View.canon_apply_of_pieces (stackItems w) _ ?_ y (cover y)
  intro p hp
  simp only [List.mem_cons, List.not_mem_nil, _root_.or_false] at hp
  rcases hp with rfl | rfl | rfl | rfl | rfl
  · exact piece 4 i4
  · exact piece 3 i3
  · exact piece 2 i2
  · exact piece 1 i1
  · exact piece 0 i0

/-- Five stored planes of a tile read back as the stack. -/
theorem read_tile (v : View sig .tc .vmem S5x400x128 .f32) (f : v.ty.Contents (Elt F)) (w : Fin 5 → Vec F S400x128 .f32)
    (i0 : ∀ a, (![0, 0, 0] : Fin 3 → ℕ) a + S1x400x128.size a ≤ S5x400x128.size a) (i1 : ∀ a, (![1, 0, 0] : Fin 3 → ℕ) a + S1x400x128.size a ≤ S5x400x128.size a) (i2 : ∀ a, (![2, 0, 0] : Fin 3 → ℕ) a + S1x400x128.size a ≤ S5x400x128.size a) (i3 : ∀ a, (![3, 0, 0] : Fin 3 → ℕ) a + S1x400x128.size a ≤ S5x400x128.size a) (i4 : ∀ a, (![4, 0, 0] : Fin 3 → ℕ) a + S1x400x128.size a ≤ S5x400x128.size a)
    (p0 p1 p2 p3 p4 : S1x400x128.Idx → Elt F .f32) (h0 : p0 = shapeCast S1x400x128 (w 0) shapeCasts_S400x128_S1x400x128) (h1 : p1 = shapeCast S1x400x128 (w 1) shapeCasts_S400x128_S1x400x128) (h2 : p2 = shapeCast S1x400x128 (w 2) shapeCasts_S400x128_S1x400x128) (h3 : p3 = shapeCast S1x400x128 (w 3) shapeCasts_S400x128_S1x400x128) (h4 : p4 = shapeCast S1x400x128 (w 4) shapeCasts_S400x128_S1x400x128) :
    v.read (Elt F) (v.writes (Elt F) f
      [⟨Rect.unit ![4, 0, 0] S1x400x128.size i4, p4⟩,
       ⟨Rect.unit ![3, 0, 0] S1x400x128.size i3, p3⟩,
       ⟨Rect.unit ![2, 0, 0] S1x400x128.size i2, p2⟩,
       ⟨Rect.unit ![1, 0, 0] S1x400x128.size i1, p1⟩,
       ⟨Rect.unit ![0, 0, 0] S1x400x128.size i0, p0⟩]) = stackTile w := by
  subst h0 h1 h2 h3 h4
  have piece : ∀ (k : Fin 5) (ik : ∀ a, (![k.val, 0, 0] : Fin 3 → ℕ) a + S1x400x128.size a ≤ S5x400x128.size a) (x : S1x400x128.Idx),
      shapeCast S1x400x128 (w k) shapeCasts_S400x128_S1x400x128 x = stackTile w ((Rect.unit (s := S5x400x128) ![k.val, 0, 0] S1x400x128.size ik).emb x) := by
    intro k ik x
    unfold stackTile
    have hx : (x 0).val = 0 := by have := (x 0).isLt; simp [Shape.size] at this; omega
    rw [show ((Rect.unit (s := S5x400x128) ![k.val, 0, 0] S1x400x128.size ik).emb x) 0 = k from Fin.ext (by simp [Rect.unit, Rect.emb, hx])]
    refine shapeCast_apply _ _ _ _ ?_
    refine (Shape.rowMajor_val_two _).trans ((Shape.rowMajor_val_three _).trans ?_).symm
    have h1 : (((Rect.unit (s := S5x400x128) ![k.val, 0, 0] S1x400x128.size ik).emb x) 1).val = (x 1).val := by simp [Rect.unit, Rect.emb]
    have h2 : (((Rect.unit (s := S5x400x128) ![k.val, 0, 0] S1x400x128.size ik).emb x) 2).val = (x 2).val := by simp [Rect.unit, Rect.emb]
    show ((x 0).val * 400 + (x 1).val) * 128 + (x 2).val = (((Rect.unit (s := S5x400x128) ![k.val, 0, 0] S1x400x128.size ik).emb x) 1).val * 128 + (((Rect.unit (s := S5x400x128) ![k.val, 0, 0] S1x400x128.size ik).emb x) 2).val
    rw [hx, h1, h2, Nat.zero_mul, Nat.zero_add]
  have cover : ∀ y : S5x400x128.Idx, ∃ p ∈ ([⟨Rect.unit ![4, 0, 0] S1x400x128.size i4, shapeCast S1x400x128 (w 4) shapeCasts_S400x128_S1x400x128⟩,
       ⟨Rect.unit ![3, 0, 0] S1x400x128.size i3, shapeCast S1x400x128 (w 3) shapeCasts_S400x128_S1x400x128⟩,
       ⟨Rect.unit ![2, 0, 0] S1x400x128.size i2, shapeCast S1x400x128 (w 2) shapeCasts_S400x128_S1x400x128⟩,
       ⟨Rect.unit ![1, 0, 0] S1x400x128.size i1, shapeCast S1x400x128 (w 1) shapeCasts_S400x128_S1x400x128⟩,
       ⟨Rect.unit ![0, 0, 0] S1x400x128.size i0, shapeCast S1x400x128 (w 0) shapeCasts_S400x128_S1x400x128⟩] : List (View.Piece (Elt F) S5x400x128 .f32)), y ∈ p.1.set :=
    View.cover_of_tiledL _ S1x400x128.size (by sl_kernel_rfl)
  rw [View.read_writes_eq_canon _ _ _ cover]
  funext y
  refine View.canon_apply_of_pieces (stackTile w) _ ?_ y (cover y)
  intro p hp
  simp only [List.mem_cons, List.not_mem_nil, _root_.or_false] at hp
  rcases hp with rfl | rfl | rfl | rfl | rfl
  · exact piece 4 i4
  · exact piece 3 i3
  · exact piece 2 i2
  · exact piece 1 i1
  · exact piece 0 i0

/-- A load after five stored planes reads the stack. -/
theorem readCov_items (v : View sig .tc .vmem S5x2000x256 .f32) (w : Fin 5 → Vec F S2000x256 .f32) (r : Rect S5x2000x256)
    (i0 : ∀ a, (![0, 0, 0] : Fin 3 → ℕ) a + S1x2000x256.size a ≤ S5x2000x256.size a) (i1 : ∀ a, (![1, 0, 0] : Fin 3 → ℕ) a + S1x2000x256.size a ≤ S5x2000x256.size a) (i2 : ∀ a, (![2, 0, 0] : Fin 3 → ℕ) a + S1x2000x256.size a ≤ S5x2000x256.size a) (i3 : ∀ a, (![3, 0, 0] : Fin 3 → ℕ) a + S1x2000x256.size a ≤ S5x2000x256.size a) (i4 : ∀ a, (![4, 0, 0] : Fin 3 → ℕ) a + S1x2000x256.size a ≤ S5x2000x256.size a)
    (p0 p1 p2 p3 p4 : S1x2000x256.Idx → Elt F .f32) (h0 : p0 = shapeCast S1x2000x256 (w 0) shapeCasts_S2000x256_S1x2000x256) (h1 : p1 = shapeCast S1x2000x256 (w 1) shapeCasts_S2000x256_S1x2000x256) (h2 : p2 = shapeCast S1x2000x256 (w 2) shapeCasts_S2000x256_S1x2000x256) (h3 : p3 = shapeCast S1x2000x256 (w 3) shapeCasts_S2000x256_S1x2000x256) (h4 : p4 = shapeCast S1x2000x256 (w 4) shapeCasts_S2000x256_S1x2000x256) :
    v.readCov
      [⟨Rect.unit ![4, 0, 0] S1x2000x256.size i4, p4⟩,
       ⟨Rect.unit ![3, 0, 0] S1x2000x256.size i3, p3⟩,
       ⟨Rect.unit ![2, 0, 0] S1x2000x256.size i2, p2⟩,
       ⟨Rect.unit ![1, 0, 0] S1x2000x256.size i1, p1⟩,
       ⟨Rect.unit ![0, 0, 0] S1x2000x256.size i0, p0⟩] r.toLoadRect = View.ld (stackItems w) r :=
  (View.readAt_eq_ld v _ r).trans (congrArg (fun X => View.ld X r) (read_items v v.junk w i0 i1 i2 i3 i4 p0 p1 p2 p3 p4 h0 h1 h2 h3 h4))

end Cert.KernelIdeal.Run

end
-- ==== Proof.Run.MessageWords.lean ====
module

public import proofs.«01_k».proof.Proof.Run.MessageBody

/-!
# The message passing kernel's stored words

Each value the body stores at its first point, as the class's block of messages.
-/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]

local notation "𝕄" => MT nD τ sig Unit (Elt F) ℕ (UR sig nD τ) ℕ

section
variable (z : FVec F S2000x256 .f32) (g : Vec F S5x256x256 .f32) (d : Vec F S2000x5 .f32)

theorem item_word0 : k1_pay10 z k1_pay6 (View.ld g (Rect.unit (s := S5x256x256) ![0, 0, 0] S1x256x256.size inb_S5x256x256_S1x256x256_0_0_0)) (View.ld d (Rect.unit (s := S2000x5) ![0, 0] S2000x1.size inb_S2000x5_S2000x1_0_0)) = itemMsg z g d 0 := rfl
theorem item_word1 : k1_pay15 (k1_pay14 z k1_pay6 (View.ld g (Rect.unit (s := S5x256x256) ![0, 0, 0] S1x256x256.size inb_S5x256x256_S1x256x256_0_0_0)) (View.ld g (Rect.unit (s := S5x256x256) ![1, 0, 0] S1x256x256.size inb_S5x256x256_S1x256x256_1_0_0)) (View.ld d (Rect.unit (s := S2000x5) ![0, 1] S2000x1.size inb_S2000x5_S2000x1_0_1))) = itemMsg z g d 1 := rfl
theorem item_word2 : k1_pay19 z (k1_pay12 k1_pay6 (View.ld g (Rect.unit (s := S5x256x256) ![0, 0, 0] S1x256x256.size inb_S5x256x256_S1x256x256_0_0_0)) (View.ld g (Rect.unit (s := S5x256x256) ![1, 0, 0] S1x256x256.size inb_S5x256x256_S1x256x256_1_0_0))) (View.ld g (Rect.unit (s := S5x256x256) ![2, 0, 0] S1x256x256.size inb_S5x256x256_S1x256x256_2_0_0)) (View.ld d (Rect.unit (s := S2000x5) ![0, 2] S2000x1.size inb_S2000x5_S2000x1_0_2)) = itemMsg z g d 2 := rfl
theorem item_word3 : k1_pay23 z (k1_pay21 (k1_pay12 k1_pay6 (View.ld g (Rect.unit (s := S5x256x256) ![0, 0, 0] S1x256x256.size inb_S5x256x256_S1x256x256_0_0_0)) (View.ld g (Rect.unit (s := S5x256x256) ![1, 0, 0] S1x256x256.size inb_S5x256x256_S1x256x256_1_0_0))) (View.ld g (Rect.unit (s := S5x256x256) ![2, 0, 0] S1x256x256.size inb_S5x256x256_S1x256x256_2_0_0)) (View.ld g (Rect.unit (s := S5x256x256) ![3, 0, 0] S1x256x256.size inb_S5x256x256_S1x256x256_3_0_0))) (View.ld d (Rect.unit (s := S2000x5) ![0, 3] S2000x1.size inb_S2000x5_S2000x1_0_3)) = itemMsg z g d 3 := rfl
theorem item_word4 : k1_pay25 z (k1_pay21 (k1_pay12 k1_pay6 (View.ld g (Rect.unit (s := S5x256x256) ![0, 0, 0] S1x256x256.size inb_S5x256x256_S1x256x256_0_0_0)) (View.ld g (Rect.unit (s := S5x256x256) ![1, 0, 0] S1x256x256.size inb_S5x256x256_S1x256x256_1_0_0))) (View.ld g (Rect.unit (s := S5x256x256) ![2, 0, 0] S1x256x256.size inb_S5x256x256_S1x256x256_2_0_0)) (View.ld g (Rect.unit (s := S5x256x256) ![3, 0, 0] S1x256x256.size inb_S5x256x256_S1x256x256_3_0_0))) (View.ld g (Rect.unit (s := S5x256x256) ![4, 0, 0] S1x256x256.size inb_S5x256x256_S1x256x256_4_0_0)) (View.ld d (Rect.unit (s := S2000x5) ![0, 4] S2000x1.size inb_S2000x5_S2000x1_0_4)) = itemMsg z g d 4 := rfl
theorem user_word0 : k1_pay11 z k1_pay7 (View.ld g (Rect.unit (s := S5x256x256) ![0, 0, 0] S1x256x256.size inb_S5x256x256_S1x256x256_0_0_0)) = userMsg z g 0 := rfl
theorem user_word1 : k1_pay16 z (k1_pay13 k1_pay7 (View.ld g (Rect.unit (s := S5x256x256) ![0, 0, 0] S1x256x256.size inb_S5x256x256_S1x256x256_0_0_0)) (View.ld g (Rect.unit (s := S5x256x256) ![1, 0, 0] S1x256x256.size inb_S5x256x256_S1x256x256_1_0_0))) = userMsg z g 1 := rfl
theorem user_word2 : k1_pay20 z (k1_pay13 k1_pay7 (View.ld g (Rect.unit (s := S5x256x256) ![0, 0, 0] S1x256x256.size inb_S5x256x256_S1x256x256_0_0_0)) (View.ld g (Rect.unit (s := S5x256x256) ![1, 0, 0] S1x256x256.size inb_S5x256x256_S1x256x256_1_0_0))) (View.ld g (Rect.unit (s := S5x256x256) ![2, 0, 0] S1x256x256.size inb_S5x256x256_S1x256x256_2_0_0)) = userMsg z g 2 := rfl
theorem user_word3 : k1_pay24 z (k1_pay22 (k1_pay13 k1_pay7 (View.ld g (Rect.unit (s := S5x256x256) ![0, 0, 0] S1x256x256.size inb_S5x256x256_S1x256x256_0_0_0)) (View.ld g (Rect.unit (s := S5x256x256) ![1, 0, 0] S1x256x256.size inb_S5x256x256_S1x256x256_1_0_0))) (View.ld g (Rect.unit (s := S5x256x256) ![2, 0, 0] S1x256x256.size inb_S5x256x256_S1x256x256_2_0_0)) (View.ld g (Rect.unit (s := S5x256x256) ![3, 0, 0] S1x256x256.size inb_S5x256x256_S1x256x256_3_0_0))) = userMsg z g 3 := rfl
theorem user_word4 : k1_pay26 z (k1_pay22 (k1_pay13 k1_pay7 (View.ld g (Rect.unit (s := S5x256x256) ![0, 0, 0] S1x256x256.size inb_S5x256x256_S1x256x256_0_0_0)) (View.ld g (Rect.unit (s := S5x256x256) ![1, 0, 0] S1x256x256.size inb_S5x256x256_S1x256x256_1_0_0))) (View.ld g (Rect.unit (s := S5x256x256) ![2, 0, 0] S1x256x256.size inb_S5x256x256_S1x256x256_2_0_0)) (View.ld g (Rect.unit (s := S5x256x256) ![3, 0, 0] S1x256x256.size inb_S5x256x256_S1x256x256_3_0_0))) (View.ld g (Rect.unit (s := S5x256x256) ![4, 0, 0] S1x256x256.size inb_S5x256x256_S1x256x256_4_0_0)) = userMsg z g 4 := rfl
end

/-! ## The tile's words -/

section
variable (v : Vec F S400x2000 .bf16) (d : Vec F S400x5 .f32) (m : Vec F S10000x256 .bf16) (n : Fin 5)

theorem start_word0 (off : Fin 2 → ℕ) (h : off = ![2000 * (0 : Fin 5).val + 400 * n.val, 0]) (inb : ∀ a, off a + S400x256.size a ≤ S10000x256.size a) :
    k1_pay31 v (View.ld d (Rect.unit (s := S400x5) ![0, 0] S400x1.size inb_S400x5_S400x1_0_0)) (View.ld m (Rect.unit (s := S10000x256) off S400x256.size inb)) = shapeCast S1x2000x256 (itemShare v d m n 0) shapeCasts_S2000x256_S1x2000x256 := by
  subst h; rfl
theorem start_word1 (off : Fin 2 → ℕ) (h : off = ![2000 * (1 : Fin 5).val + 400 * n.val, 0]) (inb : ∀ a, off a + S400x256.size a ≤ S10000x256.size a) :
    k1_pay35 (k1_pay33 v (View.ld d (Rect.unit (s := S400x5) ![0, 1] S400x1.size inb_S400x5_S400x1_0_1))) (View.ld m (Rect.unit (s := S10000x256) off S400x256.size inb)) = shapeCast S1x2000x256 (itemShare v d m n 1) shapeCasts_S2000x256_S1x2000x256 := by
  subst h; rfl
theorem start_word2 (off : Fin 2 → ℕ) (h : off = ![2000 * (2 : Fin 5).val + 400 * n.val, 0]) (inb : ∀ a, off a + S400x256.size a ≤ S10000x256.size a) :
    k1_pay40 (k1_pay27 v) (View.ld d (Rect.unit (s := S400x5) ![0, 2] S400x1.size inb_S400x5_S400x1_0_2)) (View.ld m (Rect.unit (s := S10000x256) off S400x256.size inb)) = shapeCast S1x2000x256 (itemShare v d m n 2) shapeCasts_S2000x256_S1x2000x256 := by
  subst h; rfl
theorem start_word3 (off : Fin 2 → ℕ) (h : off = ![2000 * (3 : Fin 5).val + 400 * n.val, 0]) (inb : ∀ a, off a + S400x256.size a ≤ S10000x256.size a) :
    k1_pay45 (k1_pay27 v) (View.ld d (Rect.unit (s := S400x5) ![0, 3] S400x1.size inb_S400x5_S400x1_0_3)) (View.ld m (Rect.unit (s := S10000x256) off S400x256.size inb)) = shapeCast S1x2000x256 (itemShare v d m n 3) shapeCasts_S2000x256_S1x2000x256 := by
  subst h; rfl
theorem start_word4 (off : Fin 2 → ℕ) (h : off = ![2000 * (4 : Fin 5).val + 400 * n.val, 0]) (inb : ∀ a, off a + S400x256.size a ≤ S10000x256.size a) :
    k1_pay49 (k1_pay47 (k1_pay27 v) (View.ld d (Rect.unit (s := S400x5) ![0, 4] S400x1.size inb_S400x5_S400x1_0_4))) (View.ld m (Rect.unit (s := S10000x256) off S400x256.size inb)) = shapeCast S1x2000x256 (itemShare v d m n 4) shapeCasts_S2000x256_S1x2000x256 := by
  subst h; rfl
theorem grow_word0 (s : Vec F S5x2000x256 .f32) (off : Fin 2 → ℕ) (h : off = ![2000 * (0 : Fin 5).val + 400 * n.val, 0]) (inb : ∀ a, off a + S400x256.size a ≤ S10000x256.size a) :
    k1_pay32 v (View.ld d (Rect.unit (s := S400x5) ![0, 0] S400x1.size inb_S400x5_S400x1_0_0)) (View.ld m (Rect.unit (s := S10000x256) off S400x256.size inb)) (View.ld s (Rect.unit (s := S5x2000x256) ![0, 0, 0] S1x2000x256.size inb_S5x2000x256_S1x2000x256_0_0_0)) = shapeCast S1x2000x256 (addf (itemPlane s 0) (itemShare v d m n 0)) shapeCasts_S2000x256_S1x2000x256 := by
  subst h; rfl
theorem grow_word1 (s : Vec F S5x2000x256 .f32) (off : Fin 2 → ℕ) (h : off = ![2000 * (1 : Fin 5).val + 400 * n.val, 0]) (inb : ∀ a, off a + S400x256.size a ≤ S10000x256.size a) :
    k1_pay36 (k1_pay33 v (View.ld d (Rect.unit (s := S400x5) ![0, 1] S400x1.size inb_S400x5_S400x1_0_1))) (View.ld m (Rect.unit (s := S10000x256) off S400x256.size inb)) (View.ld s (Rect.unit (s := S5x2000x256) ![1, 0, 0] S1x2000x256.size inb_S5x2000x256_S1x2000x256_1_0_0)) = shapeCast S1x2000x256 (addf (itemPlane s 1) (itemShare v d m n 1)) shapeCasts_S2000x256_S1x2000x256 := by
  subst h; rfl
theorem grow_word2 (s : Vec F S5x2000x256 .f32) (off : Fin 2 → ℕ) (h : off = ![2000 * (2 : Fin 5).val + 400 * n.val, 0]) (inb : ∀ a, off a + S400x256.size a ≤ S10000x256.size a) :
    k1_pay41 (k1_pay39 (k1_pay27 v) (View.ld d (Rect.unit (s := S400x5) ![0, 2] S400x1.size inb_S400x5_S400x1_0_2)) (View.ld m (Rect.unit (s := S10000x256) off S400x256.size inb))) (View.ld s (Rect.unit (s := S5x2000x256) ![2, 0, 0] S1x2000x256.size inb_S5x2000x256_S1x2000x256_2_0_0)) = shapeCast S1x2000x256 (addf (itemPlane s 2) (itemShare v d m n 2)) shapeCasts_S2000x256_S1x2000x256 := by
  subst h; rfl
theorem grow_word3 (s : Vec F S5x2000x256 .f32) (off : Fin 2 → ℕ) (h : off = ![2000 * (3 : Fin 5).val + 400 * n.val, 0]) (inb : ∀ a, off a + S400x256.size a ≤ S10000x256.size a) :
    k1_pay46 (k1_pay27 v) (View.ld d (Rect.unit (s := S400x5) ![0, 3] S400x1.size inb_S400x5_S400x1_0_3)) (View.ld m (Rect.unit (s := S10000x256) off S400x256.size inb)) (View.ld s (Rect.unit (s := S5x2000x256) ![3, 0, 0] S1x2000x256.size inb_S5x2000x256_S1x2000x256_3_0_0)) = shapeCast S1x2000x256 (addf (itemPlane s 3) (itemShare v d m n 3)) shapeCasts_S2000x256_S1x2000x256 := by
  subst h; rfl
theorem grow_word4 (s : Vec F S5x2000x256 .f32) (off : Fin 2 → ℕ) (h : off = ![2000 * (4 : Fin 5).val + 400 * n.val, 0]) (inb : ∀ a, off a + S400x256.size a ≤ S10000x256.size a) :
    k1_pay50 (k1_pay47 (k1_pay27 v) (View.ld d (Rect.unit (s := S400x5) ![0, 4] S400x1.size inb_S400x5_S400x1_0_4))) (View.ld m (Rect.unit (s := S10000x256) off S400x256.size inb)) (View.ld s (Rect.unit (s := S5x2000x256) ![4, 0, 0] S1x2000x256.size inb_S5x2000x256_S1x2000x256_4_0_0)) = shapeCast S1x2000x256 (addf (itemPlane s 4) (itemShare v d m n 4)) shapeCasts_S2000x256_S1x2000x256 := by
  subst h; rfl

variable (b : Vec F S1x256 .f32) (w : Vec F S256x128 .f32) (b2 : Vec F S1x128 .f32) (p : Vec F S2x128x128 .f32) (a : Vec F S5x2 .f32)

theorem basis_word0 : k1_pay52 (k1_pay43 (k1_pay27 v) (k1_pay38 (k1_pay27 v) (k1_pay29 v (View.ld d (Rect.unit (s := S400x5) ![0, 0] S400x1.size inb_S400x5_S400x1_0_0)) (View.ld m (Rect.unit (s := S10000x256) ![0, 0] S2000x256.size inb_S10000x256_S2000x256_0_0))) (k1_pay33 v (View.ld d (Rect.unit (s := S400x5) ![0, 1] S400x1.size inb_S400x5_S400x1_0_1))) (View.ld m (Rect.unit (s := S10000x256) ![2000, 0] S2000x256.size inb_S10000x256_S2000x256_2000_0)) (View.ld d (Rect.unit (s := S400x5) ![0, 2] S400x1.size inb_S400x5_S400x1_0_2)) (View.ld m (Rect.unit (s := S10000x256) ![4000, 0] S2000x256.size inb_S10000x256_S2000x256_4000_0))) (View.ld d (Rect.unit (s := S400x5) ![0, 3] S400x1.size inb_S400x5_S400x1_0_3)) (View.ld m (Rect.unit (s := S10000x256) ![6000, 0] S2000x256.size inb_S10000x256_S2000x256_6000_0))) (k1_pay47 (k1_pay27 v) (View.ld d (Rect.unit (s := S400x5) ![0, 4] S400x1.size inb_S400x5_S400x1_0_4))) (View.ld m (Rect.unit (s := S10000x256) ![8000, 0] S2000x256.size inb_S10000x256_S2000x256_8000_0)) b w b2 (View.ld p (Rect.unit (s := S2x128x128) ![0, 0, 0] S1x128x128.size inb_S2x128x128_S1x128x128_0_0_0)) = userBasis (userHid v d m b w b2) p 0 := rfl
theorem basis_word1 : k1_pay53 (k1_pay43 (k1_pay27 v) (k1_pay38 (k1_pay27 v) (k1_pay29 v (View.ld d (Rect.unit (s := S400x5) ![0, 0] S400x1.size inb_S400x5_S400x1_0_0)) (View.ld m (Rect.unit (s := S10000x256) ![0, 0] S2000x256.size inb_S10000x256_S2000x256_0_0))) (k1_pay33 v (View.ld d (Rect.unit (s := S400x5) ![0, 1] S400x1.size inb_S400x5_S400x1_0_1))) (View.ld m (Rect.unit (s := S10000x256) ![2000, 0] S2000x256.size inb_S10000x256_S2000x256_2000_0)) (View.ld d (Rect.unit (s := S400x5) ![0, 2] S400x1.size inb_S400x5_S400x1_0_2)) (View.ld m (Rect.unit (s := S10000x256) ![4000, 0] S2000x256.size inb_S10000x256_S2000x256_4000_0))) (View.ld d (Rect.unit (s := S400x5) ![0, 3] S400x1.size inb_S400x5_S400x1_0_3)) (View.ld m (Rect.unit (s := S10000x256) ![6000, 0] S2000x256.size inb_S10000x256_S2000x256_6000_0))) (k1_pay47 (k1_pay27 v) (View.ld d (Rect.unit (s := S400x5) ![0, 4] S400x1.size inb_S400x5_S400x1_0_4))) (View.ld m (Rect.unit (s := S10000x256) ![8000, 0] S2000x256.size inb_S10000x256_S2000x256_8000_0)) b w b2 (View.ld p (Rect.unit (s := S2x128x128) ![1, 0, 0] S1x128x128.size inb_S2x128x128_S1x128x128_1_0_0)) = userBasis (userHid v d m b w b2) p 1 := rfl
end

section
variable (h : FVec F S400x128 .f32) (p : Vec F S2x128x128 .f32) (a : Vec F S5x2 .f32) (q0 q1 : FVec F S400x128 .f32) (h0 : q0 = userBasis h p 0) (h1 : q1 = userBasis h p 1)
include h0 h1

theorem query_word0 : k1_pay54 q0 q1 a = shapeCast S1x400x128 (queryOf h p a 0) shapeCasts_S400x128_S1x400x128 := by
  subst h0 h1; rfl
theorem query_word1 : k1_pay55 q0 q1 a = shapeCast S1x400x128 (queryOf h p a 1) shapeCasts_S400x128_S1x400x128 := by
  subst h0 h1; rfl
theorem query_word2 : k1_pay56 q0 q1 a = shapeCast S1x400x128 (queryOf h p a 2) shapeCasts_S400x128_S1x400x128 := by
  subst h0 h1; rfl
theorem query_word3 : k1_pay1 (k1_pay57 q0 q1 a) = shapeCast S1x400x128 (queryOf h p a 3) shapeCasts_S400x128_S1x400x128 := by
  subst h0 h1; rfl
theorem query_word4 : k1_pay2 q0 q1 a = shapeCast S1x400x128 (queryOf h p a 4) shapeCasts_S400x128_S1x400x128 := by
  subst h0 h1; rfl
end

/-- The items' second layer, from the five planes of sums. -/
theorem last_word (s : Vec F S5x2000x256 .f32) (d : Vec F S2000x5 .f32) (b : Vec F S1x256 .f32) (w : Vec F S256x128 .f32) (b2 : Vec F S1x128 .f32)
    (q0 q1 q2 q3 q4 : Vec F S1x2000x256 .f32) (h0 : q0 = (View.ld s (Rect.unit (s := S5x2000x256) ![0, 0, 0] S1x2000x256.size inb_S5x2000x256_S1x2000x256_0_0_0))) (h1 : q1 = (View.ld s (Rect.unit (s := S5x2000x256) ![1, 0, 0] S1x2000x256.size inb_S5x2000x256_S1x2000x256_1_0_0))) (h2 : q2 = (View.ld s (Rect.unit (s := S5x2000x256) ![2, 0, 0] S1x2000x256.size inb_S5x2000x256_S1x2000x256_2_0_0))) (h3 : q3 = (View.ld s (Rect.unit (s := S5x2000x256) ![3, 0, 0] S1x2000x256.size inb_S5x2000x256_S1x2000x256_3_0_0))) (h4 : q4 = (View.ld s (Rect.unit (s := S5x2000x256) ![4, 0, 0] S1x2000x256.size inb_S5x2000x256_S1x2000x256_4_0_0))) :
    k1_pay3 (k1_pay58 q0 (View.ld d (Rect.unit (s := S2000x5) ![0, 0] S2000x1.size inb_S2000x5_S2000x1_0_0)) q1 (View.ld d (Rect.unit (s := S2000x5) ![0, 1] S2000x1.size inb_S2000x5_S2000x1_0_1)) q2 (View.ld d (Rect.unit (s := S2000x5) ![0, 2] S2000x1.size inb_S2000x5_S2000x1_0_2)) q3 (View.ld d (Rect.unit (s := S2000x5) ![0, 3] S2000x1.size inb_S2000x5_S2000x1_0_3))) (k1_pay59 q4) (k1_pay60 (View.ld d (Rect.unit (s := S2000x5) ![0, 4] S2000x1.size inb_S2000x5_S2000x1_0_4))) b w b2 = itemHid s d b w b2 := by
  subst h0 h1 h2 h3 h4; rfl

end Cert.KernelIdeal.Run

end
-- ==== Proof.Run.MessagePoints.lean ====
module

public import proofs.«01_k».proof.Proof.Run.MessageBody

/-!
# The message passing kernel's points

Which case each grid point is, and where its tile of users starts.
-/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]

local notation "𝕄" => MT nD τ sig Unit (Elt F) ℕ (UR sig nD τ) ℕ

/-- The body is at the first point. -/
abbrev first1 (i : grid1.Coords) : Prop := (Scalar.cmpi .ne (Scalar.extui (Scalar.cmpi .eq (BitVec.ofNat 32 (i 0).val) 0#32)) 0#32) = 1#1
/-- The body is at the first tile. -/
abbrev firstTile (i : grid1.Coords) : Prop := (Scalar.cmpi .ne (Scalar.extui (Scalar.cmpi .eq (BitVec.ofNat 32 (i 0).val) 1#32)) 0#32) = 1#1
/-- The body is past the first tile. -/
abbrev laterTile (i : grid1.Coords) : Prop := (Scalar.cmpi .ne (Scalar.extui (Scalar.cmpi .sgt (BitVec.ofNat 32 (i 0).val) 1#32)) 0#32) = 1#1

theorem first1_iff : ∀ t : Fin cfg1.N, first1 (grid1.coords t) ↔ t.val = 0 :=
  (by decide +kernel : ∀ t : Fin grid1.N, first1 (grid1.coords t) ↔ t.val = 0)
theorem anyTile_iff : ∀ t : Fin cfg1.N, k1_cond2 (grid1.coords t) = 1#1 ↔ t.val ≠ 0 :=
  (by decide +kernel : ∀ t : Fin grid1.N, k1_cond2 (grid1.coords t) = 1#1 ↔ t.val ≠ 0)
theorem firstTile_iff : ∀ t : Fin cfg1.N, firstTile (grid1.coords t) ↔ t.val = 1 :=
  (by decide +kernel : ∀ t : Fin grid1.N, firstTile (grid1.coords t) ↔ t.val = 1)
theorem laterTile_iff : ∀ t : Fin cfg1.N, laterTile (grid1.coords t) ↔ 1 < t.val :=
  (by decide +kernel : ∀ t : Fin grid1.N, laterTile (grid1.coords t) ↔ 1 < t.val)
theorem lastTile_iff : ∀ t : Fin cfg1.N, k1_cond13 (grid1.coords t) = 1#1 ↔ t.val = 5 :=
  (by decide +kernel : ∀ t : Fin grid1.N, k1_cond13 (grid1.coords t) = 1#1 ↔ t.val = 5)

/-- The tile a point works on. -/
def tileOf (t : Fin cfg1.N) : Fin 5 := ⟨t.val - 1, by have : t.val < 6 := lt_of_lt_of_eq t.isLt (show cfg1.N = 6 from N_1); omega⟩
/-- Where a tile's rows start in a class's block of messages. -/
theorem tile_offset : ∀ (t : Fin cfg1.N) (k : Fin 5), t.val ≠ 0 → k1_off1 (grid1.coords t) (BitVec.ofNat 32 (2000 * k.val)) = ![2000 * k.val + 400 * (tileOf t).val, 0] :=
  (by decide +kernel : ∀ (t : Fin grid1.N) (k : Fin 5), t.val ≠ 0 → k1_off1 (grid1.coords t) (BitVec.ofNat 32 (2000 * k.val)) = ![2000 * k.val + 400 * (t.val - 1), 0])

/-- Loading a part of a whole buffer. -/
theorem load_part {sp : Space} {S : Shape} {e : EltTy} {M : Memref sig .tc sp S e} (hM : M.IsWhole) (x : S.Idx → Elt F e) (r : Rect S) :
    View.readAt (Elt F) M.view r.toLoadRect (hM.unread x) = View.ld x r := by
  rw [View.readAt_eq_ld, hM.read_unread]

end Cert.KernelIdeal.Run

end
-- ==== Proof.Run.MessageFirst.lean ====
module

public import proofs.«01_k».proof.Proof.Run.MessageWords
public import proofs.«01_k».proof.Proof.Run.MessagePoints

/-!
# The message passing kernel's first point

The encoders.
-/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid1.Coords)
  (arg1 : Memref sig .tc .vmem S2000x512 .f32) (harg1 : arg1.IsWhole) (arg2 : Memref sig .tc .vmem S2000x128 .f32) (harg2 : arg2.IsWhole) (arg3 : Memref sig .tc .vmem S2000x512 .f32) (harg3 : arg3.IsWhole) (arg4 : Memref sig .tc .vmem S2000x128 .f32) (harg4 : arg4.IsWhole) (arg5 : Memref sig .tc .vmem S512x256 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S512x256 .f32) (harg8 : arg8.IsWhole) (arg9 : Memref sig .tc .vmem S128x256 .f32) (harg9 : arg9.IsWhole) (arg10 : Memref sig .tc .vmem S1x256 .f32) (harg10 : arg10.IsWhole) (arg11 : Memref sig .tc .vmem S5x256x256 .f32) (harg11 : arg11.IsWhole) (arg12 : Memref sig .tc .vmem S5x256x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S256x128 .f32) (harg15 : arg15.IsWhole) (arg16 : Memref sig .tc .vmem S1x128 .f32) (harg16 : arg16.IsWhole) (arg17 : Memref sig .tc .vmem S256x128 .f32) (harg17 : arg17.IsWhole) (arg18 : Memref sig .tc .vmem S1x128 .f32) (harg18 : arg18.IsWhole) (arg19 : Memref sig .tc .vmem S2x128x128 .f32) (harg19 : arg19.IsWhole) (arg20 : Memref sig .tc .vmem S5x2 .f32) (harg20 : arg20.IsWhole) (arg21 : Memref sig .tc .vmem S400x5 .f32) (harg21 : arg21.IsWhole) (arg22 : Memref sig .tc .vmem S2000x5 .f32) (harg22 : arg22.IsWhole) (arg23 : Memref sig .tc .vmem S400x2000 .bf16) (harg23 : arg23.IsWhole) (arg24 : Memref sig .tc .vmem S5x400x128 .f32) (harg24 : arg24.IsWhole) (arg25 : Memref sig .tc .vmem S2000x128 .f32) (harg25 : arg25.IsWhole) (arg26 : Memref sig .tc .vmem S10000x256 .bf16) (harg26 : arg26.IsWhole) (arg27 : Memref sig .tc .vmem S10000x256 .bf16) (harg27 : arg27.IsWhole) (arg28 : Memref sig .tc .vmem S5x2000x256 .f32) (harg28 : arg28.IsWhole)

set_option maxHeartbeats 4000000 in
/-- The body at the first point: both stacks of messages. -/
theorem message_first (h1 : first1 i) (h2 : ¬k1_cond2 i = 1#1) (h13 : ¬k1_cond13 i = 1#1)
    (x1 : Vec F S2000x512 .f32) (x2 : Vec F S2000x128 .f32) (x3 : Vec F S2000x512 .f32) (x4 : Vec F S2000x128 .f32) (x5 : Vec F S512x256 .f32) (x6 : Vec F S128x256 .f32) (x7 : Vec F S1x256 .f32) (x8 : Vec F S512x256 .f32) (x9 : Vec F S128x256 .f32) (x10 : Vec F S1x256 .f32) (x11 : Vec F S5x256x256 .f32) (x12 : Vec F S5x256x256 .f32) (x22 : Vec F S2000x5 .f32) (E : Set ℕ) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg22 fullShare x22
        ∗ (∃ d, owns (c : Thread nD τ) arg26 fullShare d)
        ∗ (∃ d, owns (c : Thread nD τ) arg27 fullShare d)
        ∗ (iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare x12
            ∗ owns (c : Thread nD τ) arg22 fullShare x22
            ∗ owns (c : Thread nD τ) arg26 fullShare (stackRows (itemMsg (itemFeat x3 x4 x8 x9 x10) x11 x22))
            ∗ owns (c : Thread nD τ) arg27 fullShare (stackRows (userMsg (userFeat x1 x2 x5 x6 x7) x12))) -∗ K ⟨⟩))
      ⊢ wp frame (wpE (defs₀ (F := F)) Variants.none c none) E (cc1__body_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  simp only [cc1__body_kernel_eq_skeleton]; unfold cc1__body_kernel_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f22, %hf22, H22⟩, ⟨%d26, %f26, -, H26⟩, ⟨%d27, %f27, -, H27⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg22.eq_unread hf22
  sl_exec (disch := first | sl_exact h1 | sl_exact h2 | sl_exact h13)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H22]
  · iexists _; isplitr; · ipureintro; exact harg22.read_unread _
    iexact H22
  isplitl [H26]
  · iexists _; isplitr; swap; · iexact H26
    ipureintro
    sl_unfold_run_names
    rw [load_whole harg3 _ zero2, load_whole harg4 _ zero2, load_whole harg8 _ zero2, load_whole harg9 _ zero2, load_whole harg10 _ zero2]
    simp only [load_part harg11, load_part harg22]
    refine read_rows (F := F) (e := .bf16) _ _ (itemMsg (itemFeat x3 x4 x8 x9 x10) x11 x22) _ _ _ _ _ _ _ _ _ _ ?_ ?_ ?_ ?_ ?_
    · exact item_word0 _ _ _
    · exact item_word1 _ _ _
    · exact item_word2 _ _ _
    · exact item_word3 _ _ _
    · exact item_word4 _ _ _
  iexists _; isplitr; swap; · iexact H27
  ipureintro
  sl_unfold_run_names
  rw [load_whole harg1 _ zero2, load_whole harg2 _ zero2, load_whole harg5 _ zero2, load_whole harg6 _ zero2, load_whole harg7 _ zero2]
  simp only [load_part harg12]
  refine read_rows (F := F) (e := .bf16) _ _ (userMsg (userFeat x1 x2 x5 x6 x7) x12) _ _ _ _ _ _ _ _ _ _ ?_ ?_ ?_ ?_ ?_
  · exact user_word0 _ _
  · exact user_word1 _ _
  · exact user_word2 _ _
  · exact user_word3 _ _
  · exact user_word4 _ _

end

end Cert.KernelIdeal.Run

end
-- ==== Proof.Run.MessageStart.lean ====
module

public import proofs.«01_k».proof.Proof.Run.MessageWords
public import proofs.«01_k».proof.Proof.Run.MessagePoints

/-!
# The message passing kernel's first tile

The items' sums start.
-/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid1.Coords)
  (arg1 : Memref sig .tc .vmem S2000x512 .f32) (harg1 : arg1.IsWhole) (arg2 : Memref sig .tc .vmem S2000x128 .f32) (harg2 : arg2.IsWhole) (arg3 : Memref sig .tc .vmem S2000x512 .f32) (harg3 : arg3.IsWhole) (arg4 : Memref sig .tc .vmem S2000x128 .f32) (harg4 : arg4.IsWhole) (arg5 : Memref sig .tc .vmem S512x256 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S512x256 .f32) (harg8 : arg8.IsWhole) (arg9 : Memref sig .tc .vmem S128x256 .f32) (harg9 : arg9.IsWhole) (arg10 : Memref sig .tc .vmem S1x256 .f32) (harg10 : arg10.IsWhole) (arg11 : Memref sig .tc .vmem S5x256x256 .f32) (harg11 : arg11.IsWhole) (arg12 : Memref sig .tc .vmem S5x256x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S256x128 .f32) (harg15 : arg15.IsWhole) (arg16 : Memref sig .tc .vmem S1x128 .f32) (harg16 : arg16.IsWhole) (arg17 : Memref sig .tc .vmem S256x128 .f32) (harg17 : arg17.IsWhole) (arg18 : Memref sig .tc .vmem S1x128 .f32) (harg18 : arg18.IsWhole) (arg19 : Memref sig .tc .vmem S2x128x128 .f32) (harg19 : arg19.IsWhole) (arg20 : Memref sig .tc .vmem S5x2 .f32) (harg20 : arg20.IsWhole) (arg21 : Memref sig .tc .vmem S400x5 .f32) (harg21 : arg21.IsWhole) (arg22 : Memref sig .tc .vmem S2000x5 .f32) (harg22 : arg22.IsWhole) (arg23 : Memref sig .tc .vmem S400x2000 .bf16) (harg23 : arg23.IsWhole) (arg24 : Memref sig .tc .vmem S5x400x128 .f32) (harg24 : arg24.IsWhole) (arg25 : Memref sig .tc .vmem S2000x128 .f32) (harg25 : arg25.IsWhole) (arg26 : Memref sig .tc .vmem S10000x256 .bf16) (harg26 : arg26.IsWhole) (arg27 : Memref sig .tc .vmem S10000x256 .bf16) (harg27 : arg27.IsWhole) (arg28 : Memref sig .tc .vmem S5x2000x256 .f32) (harg28 : arg28.IsWhole)

set_option maxHeartbeats 4000000 in
/-- The body at the first tile: the items' sums start. -/
theorem message_start (n : Fin 5) (hoff : ∀ k : Fin 5, k1_off1 i (BitVec.ofNat 32 (2000 * k.val)) = ![2000 * k.val + 400 * n.val, 0]) (h1 : ¬first1 i) (h2 : k1_cond2 i = 1#1) (h3 : firstTile i) (h4 : ¬laterTile i) (h13 : ¬k1_cond13 i = 1#1)
    (x13 : Vec F S1x256 .f32) (x15 : Vec F S256x128 .f32) (x16 : Vec F S1x128 .f32) (x19 : Vec F S2x128x128 .f32) (x20 : Vec F S5x2 .f32) (x21 : Vec F S400x5 .f32) (x23 : Vec F S400x2000 .bf16) (x26 : Vec F S10000x256 .bf16) (x27 : Vec F S10000x256 .bf16) (E : Set ℕ) (K : PUnit → sProp 𝕄) :
    iprop(owns (c : Thread nD τ) arg13 fullShare x13
        ∗ owns (c : Thread nD τ) arg15 fullShare x15
        ∗ owns (c : Thread nD τ) arg16 fullShare x16
        ∗ owns (c : Thread nD τ) arg19 fullShare x19
        ∗ owns (c : Thread nD τ) arg20 fullShare x20
        ∗ owns (c : Thread nD τ) arg21 fullShare x21
        ∗ owns (c : Thread nD τ) arg23 fullShare x23
        ∗ owns (c : Thread nD τ) arg26 fullShare x26
        ∗ owns (c : Thread nD τ) arg27 fullShare x27
        ∗ (∃ d, owns (c : Thread nD τ) arg24 fullShare d)
        ∗ (∃ d, owns (c : Thread nD τ) arg28 fullShare d)
        ∗ (iprop(owns (c : Thread nD τ) arg13 fullShare x13
            ∗ owns (c : Thread nD τ) arg15 fullShare x15
            ∗ owns (c : Thread nD τ) arg16 fullShare x16
            ∗ owns (c : Thread nD τ) arg19 fullShare x19
            ∗ owns (c : Thread nD τ) arg20 fullShare x20
            ∗ owns (c : Thread nD τ) arg21 fullShare x21
            ∗ owns (c : Thread nD τ) arg23 fullShare x23
            ∗ owns (c : Thread nD τ) arg26 fullShare x26
            ∗ owns (c : Thread nD τ) arg27 fullShare x27
            ∗ owns (c : Thread nD τ) arg24 fullShare (queries x23 x21 x26 x13 x15 x16 x19 x20)
            ∗ owns (c : Thread nD τ) arg28 fullShare (sumsFirst x23 x21 x27 n)) -∗ K ⟨⟩))
      ⊢ wp frame (wpE (defs₀ (F := F)) Variants.none c none) E (cc1__body_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  simp only [cc1__body_kernel_eq_skeleton]; unfold cc1__body_kernel_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton]
  unfold owns
  iintro ⟨⟨%f13, %hf13, H13⟩, ⟨%f15, %hf15, H15⟩, ⟨%f16, %hf16, H16⟩, ⟨%f19, %hf19, H19⟩, ⟨%f20, %hf20, H20⟩, ⟨%f21, %hf21, H21⟩, ⟨%f23, %hf23, H23⟩, ⟨%f26, %hf26, H26⟩, ⟨%f27, %hf27, H27⟩, ⟨%d24, %f24, -, H24⟩, ⟨%d28, %f28, -, H28⟩, Hk⟩
  obtain rfl := harg13.eq_unread hf13; obtain rfl := harg15.eq_unread hf15; obtain rfl := harg16.eq_unread hf16; obtain rfl := harg19.eq_unread hf19; obtain rfl := harg20.eq_unread hf20; obtain rfl := harg21.eq_unread hf21; obtain rfl := harg23.eq_unread hf23; obtain rfl := harg26.eq_unread hf26; obtain rfl := harg27.eq_unread hf27
  sl_exec (disch := first | sl_exact h1 | sl_exact h2 | sl_exact h3 | sl_exact h4 | sl_exact h13)
  sl_step
  iapply Hk
  isplitl [H13]
  · iexists _; isplitr; · ipureintro; exact harg13.read_unread _
    iexact H13
  isplitl [H15]
  · iexists _; isplitr; · ipureintro; exact harg15.read_unread _
    iexact H15
  isplitl [H16]
  · iexists _; isplitr; · ipureintro; exact harg16.read_unread _
    iexact H16
  isplitl [H19]
  · iexists _; isplitr; · ipureintro; exact harg19.read_unread _
    iexact H19
  isplitl [H20]
  · iexists _; isplitr; · ipureintro; exact harg20.read_unread _
    iexact H20
  isplitl [H21]
  · iexists _; isplitr; · ipureintro; exact harg21.read_unread _
    iexact H21
  isplitl [H23]
  · iexists _; isplitr; · ipureintro; exact harg23.read_unread _
    iexact H23
  isplitl [H26]
  · iexists _; isplitr; · ipureintro; exact harg26.read_unread _
    iexact H26
  isplitl [H27]
  · iexists _; isplitr; · ipureintro; exact harg27.read_unread _
    iexact H27
  isplitl [H24]
  · iexists _; isplitr; swap; · iexact H24
    ipureintro
    sl_unfold_run_names
    rw [load_whole harg13 _ zero2, load_whole harg15 _ zero2, load_whole harg16 _ zero2, load_whole harg20 _ zero2, load_whole harg23 _ zero2]
    simp only [load_part harg19, load_part harg21, load_part harg26]
    refine read_tile (F := F) _ _ (queryOf (userHid x23 x21 x26 x13 x15 x16) x19 x20) _ _ _ _ _ _ _ _ _ _ ?_ ?_ ?_ ?_ ?_
    · exact query_word0 (userHid x23 x21 x26 x13 x15 x16) x19 x20 _ _ (basis_word0 _ _ _ _ _ _ _) (basis_word1 _ _ _ _ _ _ _)
    · exact query_word1 (userHid x23 x21 x26 x13 x15 x16) x19 x20 _ _ (basis_word0 _ _ _ _ _ _ _) (basis_word1 _ _ _ _ _ _ _)
    · exact query_word2 (userHid x23 x21 x26 x13 x15 x16) x19 x20 _ _ (basis_word0 _ _ _ _ _ _ _) (basis_word1 _ _ _ _ _ _ _)
    · exact query_word3 (userHid x23 x21 x26 x13 x15 x16) x19 x20 _ _ (basis_word0 _ _ _ _ _ _ _) (basis_word1 _ _ _ _ _ _ _)
    · exact query_word4 (userHid x23 x21 x26 x13 x15 x16) x19 x20 _ _ (basis_word0 _ _ _ _ _ _ _) (basis_word1 _ _ _ _ _ _ _)
  iexists _; isplitr; swap; · iexact H28
  ipureintro
  sl_unfold_run_names
  rw [load_whole harg23 _ zero2]
  simp only [load_part harg21, load_part harg27]
  refine read_items (F := F) _ _ (itemShare x23 x21 x27 n) _ _ _ _ _ _ _ _ _ _ ?_ ?_ ?_ ?_ ?_
  · exact start_word0 _ _ _ n _ (hoff 0) _
  · exact start_word1 _ _ _ n _ (hoff 1) _
  · exact start_word2 _ _ _ n _ (hoff 2) _
  · exact start_word3 _ _ _ n _ (hoff 3) _
  · exact start_word4 _ _ _ n _ (hoff 4) _

end

end Cert.KernelIdeal.Run

end
-- ==== Proof.Run.MessageGrow.lean ====
module

public import proofs.«01_k».proof.Proof.Run.MessageWords
public import proofs.«01_k».proof.Proof.Run.MessagePoints

/-!
# The message passing kernel's middle tiles

The items' sums grow.
-/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid1.Coords)
  (arg1 : Memref sig .tc .vmem S2000x512 .f32) (harg1 : arg1.IsWhole) (arg2 : Memref sig .tc .vmem S2000x128 .f32) (harg2 : arg2.IsWhole) (arg3 : Memref sig .tc .vmem S2000x512 .f32) (harg3 : arg3.IsWhole) (arg4 : Memref sig .tc .vmem S2000x128 .f32) (harg4 : arg4.IsWhole) (arg5 : Memref sig .tc .vmem S512x256 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S512x256 .f32) (harg8 : arg8.IsWhole) (arg9 : Memref sig .tc .vmem S128x256 .f32) (harg9 : arg9.IsWhole) (arg10 : Memref sig .tc .vmem S1x256 .f32) (harg10 : arg10.IsWhole) (arg11 : Memref sig .tc .vmem S5x256x256 .f32) (harg11 : arg11.IsWhole) (arg12 : Memref sig .tc .vmem S5x256x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S256x128 .f32) (harg15 : arg15.IsWhole) (arg16 : Memref sig .tc .vmem S1x128 .f32) (harg16 : arg16.IsWhole) (arg17 : Memref sig .tc .vmem S256x128 .f32) (harg17 : arg17.IsWhole) (arg18 : Memref sig .tc .vmem S1x128 .f32) (harg18 : arg18.IsWhole) (arg19 : Memref sig .tc .vmem S2x128x128 .f32) (harg19 : arg19.IsWhole) (arg20 : Memref sig .tc .vmem S5x2 .f32) (harg20 : arg20.IsWhole) (arg21 : Memref sig .tc .vmem S400x5 .f32) (harg21 : arg21.IsWhole) (arg22 : Memref sig .tc .vmem S2000x5 .f32) (harg22 : arg22.IsWhole) (arg23 : Memref sig .tc .vmem S400x2000 .bf16) (harg23 : arg23.IsWhole) (arg24 : Memref sig .tc .vmem S5x400x128 .f32) (harg24 : arg24.IsWhole) (arg25 : Memref sig .tc .vmem S2000x128 .f32) (harg25 : arg25.IsWhole) (arg26 : Memref sig .tc .vmem S10000x256 .bf16) (harg26 : arg26.IsWhole) (arg27 : Memref sig .tc .vmem S10000x256 .bf16) (harg27 : arg27.IsWhole) (arg28 : Memref sig .tc .vmem S5x2000x256 .f32) (harg28 : arg28.IsWhole)

set_option maxHeartbeats 4000000 in
/-- The body at a middle tile: the items' sums grow. -/
theorem message_grow (n : Fin 5) (hoff : ∀ k : Fin 5, k1_off1 i (BitVec.ofNat 32 (2000 * k.val)) = ![2000 * k.val + 400 * n.val, 0]) (h1 : ¬first1 i) (h2 : k1_cond2 i = 1#1) (h3 : ¬firstTile i) (h4 : laterTile i) (h13 : ¬k1_cond13 i = 1#1)
    (x13 : Vec F S1x256 .f32) (x15 : Vec F S256x128 .f32) (x16 : Vec F S1x128 .f32) (x19 : Vec F S2x128x128 .f32) (x20 : Vec F S5x2 .f32) (x21 : Vec F S400x5 .f32) (x23 : Vec F S400x2000 .bf16) (x26 : Vec F S10000x256 .bf16) (x27 : Vec F S10000x256 .bf16) (x28 : Vec F S5x2000x256 .f32) (E : Set ℕ) (K : PUnit → sProp 𝕄) :
    iprop(owns (c : Thread nD τ) arg13 fullShare x13
        ∗ owns (c : Thread nD τ) arg15 fullShare x15
        ∗ owns (c : Thread nD τ) arg16 fullShare x16
        ∗ owns (c : Thread nD τ) arg19 fullShare x19
        ∗ owns (c : Thread nD τ) arg20 fullShare x20
        ∗ owns (c : Thread nD τ) arg21 fullShare x21
        ∗ owns (c : Thread nD τ) arg23 fullShare x23
        ∗ owns (c : Thread nD τ) arg26 fullShare x26
        ∗ owns (c : Thread nD τ) arg27 fullShare x27
        ∗ owns (c : Thread nD τ) arg28 fullShare x28
        ∗ (∃ d, owns (c : Thread nD τ) arg24 fullShare d)
        ∗ (iprop(owns (c : Thread nD τ) arg13 fullShare x13
            ∗ owns (c : Thread nD τ) arg15 fullShare x15
            ∗ owns (c : Thread nD τ) arg16 fullShare x16
            ∗ owns (c : Thread nD τ) arg19 fullShare x19
            ∗ owns (c : Thread nD τ) arg20 fullShare x20
            ∗ owns (c : Thread nD τ) arg21 fullShare x21
            ∗ owns (c : Thread nD τ) arg23 fullShare x23
            ∗ owns (c : Thread nD τ) arg26 fullShare x26
            ∗ owns (c : Thread nD τ) arg27 fullShare x27
            ∗ owns (c : Thread nD τ) arg28 fullShare (sumsNext x23 x21 x27 n x28)
            ∗ owns (c : Thread nD τ) arg24 fullShare (queries x23 x21 x26 x13 x15 x16 x19 x20)) -∗ K ⟨⟩))
      ⊢ wp frame (wpE (defs₀ (F := F)) Variants.none c none) E (cc1__body_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  simp only [cc1__body_kernel_eq_skeleton]; unfold cc1__body_kernel_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton]
  unfold owns
  iintro ⟨⟨%f13, %hf13, H13⟩, ⟨%f15, %hf15, H15⟩, ⟨%f16, %hf16, H16⟩, ⟨%f19, %hf19, H19⟩, ⟨%f20, %hf20, H20⟩, ⟨%f21, %hf21, H21⟩, ⟨%f23, %hf23, H23⟩, ⟨%f26, %hf26, H26⟩, ⟨%f27, %hf27, H27⟩, ⟨%f28, %hf28, H28⟩, ⟨%d24, %f24, -, H24⟩, Hk⟩
  obtain rfl := harg13.eq_unread hf13; obtain rfl := harg15.eq_unread hf15; obtain rfl := harg16.eq_unread hf16; obtain rfl := harg19.eq_unread hf19; obtain rfl := harg20.eq_unread hf20; obtain rfl := harg21.eq_unread hf21; obtain rfl := harg23.eq_unread hf23; obtain rfl := harg26.eq_unread hf26; obtain rfl := harg27.eq_unread hf27; obtain rfl := harg28.eq_unread hf28
  sl_exec (disch := first | sl_exact h1 | sl_exact h2 | sl_exact h3 | sl_exact h4 | sl_exact h13)
  sl_step
  iapply Hk
  isplitl [H13]
  · iexists _; isplitr; · ipureintro; exact harg13.read_unread _
    iexact H13
  isplitl [H15]
  · iexists _; isplitr; · ipureintro; exact harg15.read_unread _
    iexact H15
  isplitl [H16]
  · iexists _; isplitr; · ipureintro; exact harg16.read_unread _
    iexact H16
  isplitl [H19]
  · iexists _; isplitr; · ipureintro; exact harg19.read_unread _
    iexact H19
  isplitl [H20]
  · iexists _; isplitr; · ipureintro; exact harg20.read_unread _
    iexact H20
  isplitl [H21]
  · iexists _; isplitr; · ipureintro; exact harg21.read_unread _
    iexact H21
  isplitl [H23]
  · iexists _; isplitr; · ipureintro; exact harg23.read_unread _
    iexact H23
  isplitl [H26]
  · iexists _; isplitr; · ipureintro; exact harg26.read_unread _
    iexact H26
  isplitl [H27]
  · iexists _; isplitr; · ipureintro; exact harg27.read_unread _
    iexact H27
  isplitl [H28]
  · iexists _; isplitr; swap; · iexact H28
    ipureintro
    sl_unfold_run_names
    rw [load_whole harg23 _ zero2]
    simp only [load_part harg21, load_part harg27, load_part harg28]
    refine read_items (F := F) _ _ (fun k => addf (itemPlane x28 k) (itemShare x23 x21 x27 n k)) _ _ _ _ _ _ _ _ _ _ ?_ ?_ ?_ ?_ ?_
    · exact grow_word0 _ _ _ n x28 _ (hoff 0) _
    · exact grow_word1 _ _ _ n x28 _ (hoff 1) _
    · exact grow_word2 _ _ _ n x28 _ (hoff 2) _
    · exact grow_word3 _ _ _ n x28 _ (hoff 3) _
    · exact grow_word4 _ _ _ n x28 _ (hoff 4) _
  iexists _; isplitr; swap; · iexact H24
  ipureintro
  sl_unfold_run_names
  rw [load_whole harg13 _ zero2, load_whole harg15 _ zero2, load_whole harg16 _ zero2, load_whole harg20 _ zero2, load_whole harg23 _ zero2]
  simp only [load_part harg19, load_part harg21, load_part harg26]
  refine read_tile (F := F) _ _ (queryOf (userHid x23 x21 x26 x13 x15 x16) x19 x20) _ _ _ _ _ _ _ _ _ _ ?_ ?_ ?_ ?_ ?_
  · exact query_word0 (userHid x23 x21 x26 x13 x15 x16) x19 x20 _ _ (basis_word0 _ _ _ _ _ _ _) (basis_word1 _ _ _ _ _ _ _)
  · exact query_word1 (userHid x23 x21 x26 x13 x15 x16) x19 x20 _ _ (basis_word0 _ _ _ _ _ _ _) (basis_word1 _ _ _ _ _ _ _)
  · exact query_word2 (userHid x23 x21 x26 x13 x15 x16) x19 x20 _ _ (basis_word0 _ _ _ _ _ _ _) (basis_word1 _ _ _ _ _ _ _)
  · exact query_word3 (userHid x23 x21 x26 x13 x15 x16) x19 x20 _ _ (basis_word0 _ _ _ _ _ _ _) (basis_word1 _ _ _ _ _ _ _)
  · exact query_word4 (userHid x23 x21 x26 x13 x15 x16) x19 x20 _ _ (basis_word0 _ _ _ _ _ _ _) (basis_word1 _ _ _ _ _ _ _)

end

end Cert.KernelIdeal.Run

end
-- ==== Proof.Run.MessageLast.lean ====
module

public import proofs.«01_k».proof.Proof.Run.MessageWords
public import proofs.«01_k».proof.Proof.Run.MessagePoints

/-!
# The message passing kernel's last tile

The items' second layer.
-/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid1.Coords)
  (arg1 : Memref sig .tc .vmem S2000x512 .f32) (harg1 : arg1.IsWhole) (arg2 : Memref sig .tc .vmem S2000x128 .f32) (harg2 : arg2.IsWhole) (arg3 : Memref sig .tc .vmem S2000x512 .f32) (harg3 : arg3.IsWhole) (arg4 : Memref sig .tc .vmem S2000x128 .f32) (harg4 : arg4.IsWhole) (arg5 : Memref sig .tc .vmem S512x256 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S512x256 .f32) (harg8 : arg8.IsWhole) (arg9 : Memref sig .tc .vmem S128x256 .f32) (harg9 : arg9.IsWhole) (arg10 : Memref sig .tc .vmem S1x256 .f32) (harg10 : arg10.IsWhole) (arg11 : Memref sig .tc .vmem S5x256x256 .f32) (harg11 : arg11.IsWhole) (arg12 : Memref sig .tc .vmem S5x256x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S256x128 .f32) (harg15 : arg15.IsWhole) (arg16 : Memref sig .tc .vmem S1x128 .f32) (harg16 : arg16.IsWhole) (arg17 : Memref sig .tc .vmem S256x128 .f32) (harg17 : arg17.IsWhole) (arg18 : Memref sig .tc .vmem S1x128 .f32) (harg18 : arg18.IsWhole) (arg19 : Memref sig .tc .vmem S2x128x128 .f32) (harg19 : arg19.IsWhole) (arg20 : Memref sig .tc .vmem S5x2 .f32) (harg20 : arg20.IsWhole) (arg21 : Memref sig .tc .vmem S400x5 .f32) (harg21 : arg21.IsWhole) (arg22 : Memref sig .tc .vmem S2000x5 .f32) (harg22 : arg22.IsWhole) (arg23 : Memref sig .tc .vmem S400x2000 .bf16) (harg23 : arg23.IsWhole) (arg24 : Memref sig .tc .vmem S5x400x128 .f32) (harg24 : arg24.IsWhole) (arg25 : Memref sig .tc .vmem S2000x128 .f32) (harg25 : arg25.IsWhole) (arg26 : Memref sig .tc .vmem S10000x256 .bf16) (harg26 : arg26.IsWhole) (arg27 : Memref sig .tc .vmem S10000x256 .bf16) (harg27 : arg27.IsWhole) (arg28 : Memref sig .tc .vmem S5x2000x256 .f32) (harg28 : arg28.IsWhole)

set_option maxHeartbeats 4000000 in
/-- The body at the last tile: the items' second layer. -/
theorem message_last (n : Fin 5) (hoff : ∀ k : Fin 5, k1_off1 i (BitVec.ofNat 32 (2000 * k.val)) = ![2000 * k.val + 400 * n.val, 0]) (h1 : ¬first1 i) (h2 : k1_cond2 i = 1#1) (h3 : ¬firstTile i) (h4 : laterTile i) (h13 : k1_cond13 i = 1#1)
    (x14 : Vec F S1x256 .f32) (x17 : Vec F S256x128 .f32) (x18 : Vec F S1x128 .f32) (x22 : Vec F S2000x5 .f32) (x13 : Vec F S1x256 .f32) (x15 : Vec F S256x128 .f32) (x16 : Vec F S1x128 .f32) (x19 : Vec F S2x128x128 .f32) (x20 : Vec F S5x2 .f32) (x21 : Vec F S400x5 .f32) (x23 : Vec F S400x2000 .bf16) (x26 : Vec F S10000x256 .bf16) (x27 : Vec F S10000x256 .bf16) (x28 : Vec F S5x2000x256 .f32) (E : Set ℕ) (K : PUnit → sProp 𝕄) :
    iprop(owns (c : Thread nD τ) arg14 fullShare x14
        ∗ owns (c : Thread nD τ) arg17 fullShare x17
        ∗ owns (c : Thread nD τ) arg18 fullShare x18
        ∗ owns (c : Thread nD τ) arg22 fullShare x22
        ∗ owns (c : Thread nD τ) arg13 fullShare x13
        ∗ owns (c : Thread nD τ) arg15 fullShare x15
        ∗ owns (c : Thread nD τ) arg16 fullShare x16
        ∗ owns (c : Thread nD τ) arg19 fullShare x19
        ∗ owns (c : Thread nD τ) arg20 fullShare x20
        ∗ owns (c : Thread nD τ) arg21 fullShare x21
        ∗ owns (c : Thread nD τ) arg23 fullShare x23
        ∗ owns (c : Thread nD τ) arg26 fullShare x26
        ∗ owns (c : Thread nD τ) arg27 fullShare x27
        ∗ owns (c : Thread nD τ) arg28 fullShare x28
        ∗ (∃ d, owns (c : Thread nD τ) arg24 fullShare d)
        ∗ (∃ d, owns (c : Thread nD τ) arg25 fullShare d)
        ∗ (iprop(owns (c : Thread nD τ) arg14 fullShare x14
            ∗ owns (c : Thread nD τ) arg17 fullShare x17
            ∗ owns (c : Thread nD τ) arg18 fullShare x18
            ∗ owns (c : Thread nD τ) arg22 fullShare x22
            ∗ owns (c : Thread nD τ) arg13 fullShare x13
            ∗ owns (c : Thread nD τ) arg15 fullShare x15
            ∗ owns (c : Thread nD τ) arg16 fullShare x16
            ∗ owns (c : Thread nD τ) arg19 fullShare x19
            ∗ owns (c : Thread nD τ) arg20 fullShare x20
            ∗ owns (c : Thread nD τ) arg21 fullShare x21
            ∗ owns (c : Thread nD τ) arg23 fullShare x23
            ∗ owns (c : Thread nD τ) arg26 fullShare x26
            ∗ owns (c : Thread nD τ) arg27 fullShare x27
            ∗ owns (c : Thread nD τ) arg28 fullShare (sumsNext x23 x21 x27 n x28)
            ∗ owns (c : Thread nD τ) arg24 fullShare (queries x23 x21 x26 x13 x15 x16 x19 x20)
            ∗ owns (c : Thread nD τ) arg25 fullShare (itemHid (sumsNext x23 x21 x27 n x28) x22 x14 x17 x18)) -∗ K ⟨⟩))
      ⊢ wp frame (wpE (defs₀ (F := F)) Variants.none c none) E (cc1__body_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  simp only [cc1__body_kernel_eq_skeleton]; unfold cc1__body_kernel_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton]
  unfold owns
  iintro ⟨⟨%f14, %hf14, H14⟩, ⟨%f17, %hf17, H17⟩, ⟨%f18, %hf18, H18⟩, ⟨%f22, %hf22, H22⟩, ⟨%f13, %hf13, H13⟩, ⟨%f15, %hf15, H15⟩, ⟨%f16, %hf16, H16⟩, ⟨%f19, %hf19, H19⟩, ⟨%f20, %hf20, H20⟩, ⟨%f21, %hf21, H21⟩, ⟨%f23, %hf23, H23⟩, ⟨%f26, %hf26, H26⟩, ⟨%f27, %hf27, H27⟩, ⟨%f28, %hf28, H28⟩, ⟨%d24, %f24, -, H24⟩, ⟨%d25, %f25, -, H25⟩, Hk⟩
  obtain rfl := harg14.eq_unread hf14; obtain rfl := harg17.eq_unread hf17; obtain rfl := harg18.eq_unread hf18; obtain rfl := harg22.eq_unread hf22; obtain rfl := harg13.eq_unread hf13; obtain rfl := harg15.eq_unread hf15; obtain rfl := harg16.eq_unread hf16; obtain rfl := harg19.eq_unread hf19; obtain rfl := harg20.eq_unread hf20; obtain rfl := harg21.eq_unread hf21; obtain rfl := harg23.eq_unread hf23; obtain rfl := harg26.eq_unread hf26; obtain rfl := harg27.eq_unread hf27; obtain rfl := harg28.eq_unread hf28
  sl_exec (disch := first | sl_exact h1 | sl_exact h2 | sl_exact h3 | sl_exact h4 | sl_exact h13)
  sl_step
  iapply Hk
  isplitl [H14]
  · iexists _; isplitr; · ipureintro; exact harg14.read_unread _
    iexact H14
  isplitl [H17]
  · iexists _; isplitr; · ipureintro; exact harg17.read_unread _
    iexact H17
  isplitl [H18]
  · iexists _; isplitr; · ipureintro; exact harg18.read_unread _
    iexact H18
  isplitl [H22]
  · iexists _; isplitr; · ipureintro; exact harg22.read_unread _
    iexact H22
  isplitl [H13]
  · iexists _; isplitr; · ipureintro; exact harg13.read_unread _
    iexact H13
  isplitl [H15]
  · iexists _; isplitr; · ipureintro; exact harg15.read_unread _
    iexact H15
  isplitl [H16]
  · iexists _; isplitr; · ipureintro; exact harg16.read_unread _
    iexact H16
  isplitl [H19]
  · iexists _; isplitr; · ipureintro; exact harg19.read_unread _
    iexact H19
  isplitl [H20]
  · iexists _; isplitr; · ipureintro; exact harg20.read_unread _
    iexact H20
  isplitl [H21]
  · iexists _; isplitr; · ipureintro; exact harg21.read_unread _
    iexact H21
  isplitl [H23]
  · iexists _; isplitr; · ipureintro; exact harg23.read_unread _
    iexact H23
  isplitl [H26]
  · iexists _; isplitr; · ipureintro; exact harg26.read_unread _
    iexact H26
  isplitl [H27]
  · iexists _; isplitr; · ipureintro; exact harg27.read_unread _
    iexact H27
  isplitl [H28]
  · iexists _; isplitr; swap; · iexact H28
    ipureintro
    sl_unfold_run_names
    rw [load_whole harg23 _ zero2]
    simp only [load_part harg21, load_part harg27, load_part harg28]
    refine read_items (F := F) _ _ (fun k => addf (itemPlane x28 k) (itemShare x23 x21 x27 n k)) _ _ _ _ _ _ _ _ _ _ ?_ ?_ ?_ ?_ ?_
    · exact grow_word0 _ _ _ n x28 _ (hoff 0) _
    · exact grow_word1 _ _ _ n x28 _ (hoff 1) _
    · exact grow_word2 _ _ _ n x28 _ (hoff 2) _
    · exact grow_word3 _ _ _ n x28 _ (hoff 3) _
    · exact grow_word4 _ _ _ n x28 _ (hoff 4) _
  isplitl [H24]
  · iexists _; isplitr; swap; · iexact H24
    ipureintro
    sl_unfold_run_names
    rw [load_whole harg13 _ zero2, load_whole harg15 _ zero2, load_whole harg16 _ zero2, load_whole harg20 _ zero2, load_whole harg23 _ zero2]
    simp only [load_part harg19, load_part harg21, load_part harg26]
    refine read_tile (F := F) _ _ (queryOf (userHid x23 x21 x26 x13 x15 x16) x19 x20) _ _ _ _ _ _ _ _ _ _ ?_ ?_ ?_ ?_ ?_
    · exact query_word0 (userHid x23 x21 x26 x13 x15 x16) x19 x20 _ _ (basis_word0 _ _ _ _ _ _ _) (basis_word1 _ _ _ _ _ _ _)
    · exact query_word1 (userHid x23 x21 x26 x13 x15 x16) x19 x20 _ _ (basis_word0 _ _ _ _ _ _ _) (basis_word1 _ _ _ _ _ _ _)
    · exact query_word2 (userHid x23 x21 x26 x13 x15 x16) x19 x20 _ _ (basis_word0 _ _ _ _ _ _ _) (basis_word1 _ _ _ _ _ _ _)
    · exact query_word3 (userHid x23 x21 x26 x13 x15 x16) x19 x20 _ _ (basis_word0 _ _ _ _ _ _ _) (basis_word1 _ _ _ _ _ _ _)
    · exact query_word4 (userHid x23 x21 x26 x13 x15 x16) x19 x20 _ _ (basis_word0 _ _ _ _ _ _ _) (basis_word1 _ _ _ _ _ _ _)
  iexists _; isplitr; swap; · iexact H25
  ipureintro
  sl_unfold_run_names
  rw [load_whole harg14 _ zero2, load_whole harg17 _ zero2, load_whole harg18 _ zero2, load_whole harg23 _ zero2]
  simp only [load_part harg21, load_part harg22, load_part harg27, load_part harg28]
  rw [read_whole_store _ _ zero2]
  refine last_word (stackItems (fun k => addf (itemPlane x28 k) (itemShare x23 x21 x27 n k))) _ _ _ _ _ _ _ _ _ ?_ ?_ ?_ ?_ ?_
  · refine readCov_items _ (fun k => addf (itemPlane x28 k) (itemShare x23 x21 x27 n k)) _ _ _ _ _ _ _ _ _ _ _ ?_ ?_ ?_ ?_ ?_
    · exact grow_word0 _ _ _ n x28 _ (hoff 0) _
    · exact grow_word1 _ _ _ n x28 _ (hoff 1) _
    · exact grow_word2 _ _ _ n x28 _ (hoff 2) _
    · exact grow_word3 _ _ _ n x28 _ (hoff 3) _
    · exact grow_word4 _ _ _ n x28 _ (hoff 4) _
  · refine readCov_items _ (fun k => addf (itemPlane x28 k) (itemShare x23 x21 x27 n k)) _ _ _ _ _ _ _ _ _ _ _ ?_ ?_ ?_ ?_ ?_
    · exact grow_word0 _ _ _ n x28 _ (hoff 0) _
    · exact grow_word1 _ _ _ n x28 _ (hoff 1) _
    · exact grow_word2 _ _ _ n x28 _ (hoff 2) _
    · exact grow_word3 _ _ _ n x28 _ (hoff 3) _
    · exact grow_word4 _ _ _ n x28 _ (hoff 4) _
  · refine readCov_items _ (fun k => addf (itemPlane x28 k) (itemShare x23 x21 x27 n k)) _ _ _ _ _ _ _ _ _ _ _ ?_ ?_ ?_ ?_ ?_
    · exact grow_word0 _ _ _ n x28 _ (hoff 0) _
    · exact grow_word1 _ _ _ n x28 _ (hoff 1) _
    · exact grow_word2 _ _ _ n x28 _ (hoff 2) _
    · exact grow_word3 _ _ _ n x28 _ (hoff 3) _
    · exact grow_word4 _ _ _ n x28 _ (hoff 4) _
  · refine readCov_items _ (fun k => addf (itemPlane x28 k) (itemShare x23 x21 x27 n k)) _ _ _ _ _ _ _ _ _ _ _ ?_ ?_ ?_ ?_ ?_
    · exact grow_word0 _ _ _ n x28 _ (hoff 0) _
    · exact grow_word1 _ _ _ n x28 _ (hoff 1) _
    · exact grow_word2 _ _ _ n x28 _ (hoff 2) _
    · exact grow_word3 _ _ _ n x28 _ (hoff 3) _
    · exact grow_word4 _ _ _ n x28 _ (hoff 4) _
  · refine readCov_items _ (fun k => addf (itemPlane x28 k) (itemShare x23 x21 x27 n k)) _ _ _ _ _ _ _ _ _ _ _ ?_ ?_ ?_ ?_ ?_
    · exact grow_word0 _ _ _ n x28 _ (hoff 0) _
    · exact grow_word1 _ _ _ n x28 _ (hoff 1) _
    · exact grow_word2 _ _ _ n x28 _ (hoff 2) _
    · exact grow_word3 _ _ _ n x28 _ (hoff 3) _
    · exact grow_word4 _ _ _ n x28 _ (hoff 4) _

end

end Cert.KernelIdeal.Run

end
-- ==== Proof.Run.Message.lean ====
module

public import proofs.«01_k».proof.Proof.Run.MessageFirst
public import proofs.«01_k».proof.Proof.Run.MessageStart
public import proofs.«01_k».proof.Proof.Run.MessageGrow
public import proofs.«01_k».proof.Proof.Run.MessageLast

/-!
# The message passing kernel over its grid

Point 0 makes the two stacks of messages, each later point runs one tile of 400 users. The stacks and the
items' sums live in scratch buffers carried from point to point.
-/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! The input windows' blocks at their shapes. -/

abbrev in1_0 (c : Dev nD) (t : Fin cfg1.N) : Vec F S2000x512 .f32 := iblk1 V c 0 t
abbrev in1_1 (c : Dev nD) (t : Fin cfg1.N) : Vec F S2000x128 .f32 := iblk1 V c 1 t
abbrev in1_2 (c : Dev nD) (t : Fin cfg1.N) : Vec F S2000x512 .f32 := iblk1 V c 2 t
abbrev in1_3 (c : Dev nD) (t : Fin cfg1.N) : Vec F S2000x128 .f32 := iblk1 V c 3 t
abbrev in1_4 (c : Dev nD) (t : Fin cfg1.N) : Vec F S512x256 .f32 := iblk1 V c 4 t
abbrev in1_5 (c : Dev nD) (t : Fin cfg1.N) : Vec F S128x256 .f32 := iblk1 V c 5 t
abbrev in1_6 (c : Dev nD) (t : Fin cfg1.N) : Vec F S1x256 .f32 := iblk1 V c 6 t
abbrev in1_7 (c : Dev nD) (t : Fin cfg1.N) : Vec F S512x256 .f32 := iblk1 V c 7 t
abbrev in1_8 (c : Dev nD) (t : Fin cfg1.N) : Vec F S128x256 .f32 := iblk1 V c 8 t
abbrev in1_9 (c : Dev nD) (t : Fin cfg1.N) : Vec F S1x256 .f32 := iblk1 V c 9 t
abbrev in1_10 (c : Dev nD) (t : Fin cfg1.N) : Vec F S5x256x256 .f32 := iblk1 V c 10 t
abbrev in1_11 (c : Dev nD) (t : Fin cfg1.N) : Vec F S5x256x256 .f32 := iblk1 V c 11 t
abbrev in1_12 (c : Dev nD) (t : Fin cfg1.N) : Vec F S1x256 .f32 := iblk1 V c 12 t
abbrev in1_13 (c : Dev nD) (t : Fin cfg1.N) : Vec F S1x256 .f32 := iblk1 V c 13 t
abbrev in1_14 (c : Dev nD) (t : Fin cfg1.N) : Vec F S256x128 .f32 := iblk1 V c 14 t
abbrev in1_15 (c : Dev nD) (t : Fin cfg1.N) : Vec F S1x128 .f32 := iblk1 V c 15 t
abbrev in1_16 (c : Dev nD) (t : Fin cfg1.N) : Vec F S256x128 .f32 := iblk1 V c 16 t
abbrev in1_17 (c : Dev nD) (t : Fin cfg1.N) : Vec F S1x128 .f32 := iblk1 V c 17 t
abbrev in1_18 (c : Dev nD) (t : Fin cfg1.N) : Vec F S2x128x128 .f32 := iblk1 V c 18 t
abbrev in1_19 (c : Dev nD) (t : Fin cfg1.N) : Vec F S5x2 .f32 := iblk1 V c 19 t
abbrev in1_20 (c : Dev nD) (t : Fin cfg1.N) : Vec F S400x5 .f32 := iblk1 V c 20 t
abbrev in1_21 (c : Dev nD) (t : Fin cfg1.N) : Vec F S2000x5 .f32 := iblk1 V c 21 t
abbrev in1_22 (c : Dev nD) (t : Fin cfg1.N) : Vec F S400x2000 .bf16 := iblk1 V c 22 t

/-- The first point. -/
abbrev t0 : Fin cfg1.N := ⟨0, by rw [show cfg1.N = 6 from N_1]; decide⟩

/-- The stack of the items' messages. -/
def itemStack (c : Dev nD) : Vec F S10000x256 .bf16 :=
  stackRows (itemMsg (itemFeat (in1_2 V c t0) (in1_3 V c t0) (in1_7 V c t0) (in1_8 V c t0) (in1_9 V c t0)) (in1_10 V c t0) (in1_21 V c t0))
/-- The stack of the users' messages. -/
def userStack (c : Dev nD) : Vec F S10000x256 .bf16 :=
  stackRows (userMsg (userFeat (in1_0 V c t0) (in1_1 V c t0) (in1_4 V c t0) (in1_5 V c t0) (in1_6 V c t0)) (in1_11 V c t0))

/-- The items' sums after tile `k`, that is after point `k + 1`. -/
def sumsAt (v : Fin cfg1.N → Vec F S400x2000 .bf16) (d : Fin cfg1.N → Vec F S400x5 .f32) (m : Vec F S10000x256 .bf16) :
    (k : ℕ) → k + 1 < cfg1.N → Vec F S5x2000x256 .f32
  | 0, h => sumsFirst (v ⟨1, h⟩) (d ⟨1, h⟩) m (tileOf ⟨1, h⟩)
  | k + 1, h => sumsNext (v ⟨k + 2, h⟩) (d ⟨k + 2, h⟩) m (tileOf ⟨k + 2, h⟩) (sumsAt v d m k (Nat.lt_of_succ_lt h))
/-- The items' sums over this region's blocks. -/
abbrev sums1 (c : Dev nD) (k : ℕ) (h : k + 1 < cfg1.N) : Vec F S5x2000x256 .f32 := sumsAt (in1_22 V c) (in1_20 V c) (userStack V c) k h

abbrev itemsBuf : Memref sig .tc .vmem S10000x256 .bf16 := Memref.whole cc1_scratch0
abbrev usersBuf : Memref sig .tc .vmem S10000x256 .bf16 := Memref.whole cc1_scratch1
abbrev sumsBuf : Memref sig .tc .vmem S5x2000x256 .f32 := Memref.whole cc1_scratch2

/-- The scratch buffers the region does not name. -/
abbrev rest1 (c : Dev nD) : sProp 𝕄 :=
  Pipeline.scopedRestBut (Ix := Unit) (Name := ℕ) (U := UR sig nD τ) (Lvl := ℕ) (Val := Elt F) spec1 c [cc1_scratch0, cc1_scratch1, cc1_scratch2]

/-- What is carried before point `n`: at first every scratch buffer at anything, then the two stacks, and from the first tile on the items' sums. -/
def carried1 (c : Dev nD) : (n : ℕ) → n ≤ cfg1.N → sProp 𝕄
  | 0, _ => Pipeline.ΦA spec1 c
  | 1, _ => iprop((iprop(owns (c : Thread nD τ) itemsBuf fullShare (itemStack V c) ∗ owns (c : Thread nD τ) usersBuf fullShare (userStack V c)
      ∗ (∃ d, owns (c : Thread nD τ) sumsBuf fullShare d)) ∗ rest1 c) ∗ (∃ r, prngReg c r))
  | k + 2, h => iprop((iprop(owns (c : Thread nD τ) itemsBuf fullShare (itemStack V c) ∗ owns (c : Thread nD τ) usersBuf fullShare (userStack V c)
      ∗ owns (c : Thread nD τ) sumsBuf fullShare (sums1 V c k h)) ∗ rest1 c) ∗ (∃ r, prngReg c r))

/-- The scratch buffers at anything, the three named ones taken out. -/
theorem anything1 (c : Dev nD) : (Pipeline.ΦA spec1 c : sProp 𝕄)
    = iprop((iprop((∃ d, owns (c : Thread nD τ) itemsBuf fullShare d) ∗ (∃ d, owns (c : Thread nD τ) usersBuf fullShare d)
      ∗ (∃ d, owns (c : Thread nD τ) sumsBuf fullShare d)) ∗ rest1 c) ∗ (∃ r, prngReg c r)) := by
  unfold Pipeline.ΦA
  rw [Pipeline.scopedRest_split_of_list spec1 c [cc1_scratch0, cc1_scratch1, cc1_scratch2] (by decide) (by decide)]
  simp only [itemsBuf, usersBuf, sumsBuf, owns_whole]; try rfl

/-- The proof data: every window's buffer after the body at point `t`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => iblk1 V c 17 t
    | ⟨18, _⟩ => iblk1 V c 18 t
    | ⟨19, _⟩ => iblk1 V c 19 t
    | ⟨20, _⟩ => iblk1 V c 20 t
    | ⟨21, _⟩ => iblk1 V c 21 t
    | ⟨22, _⟩ => iblk1 V c 22 t
    | ⟨23, _⟩ => queries (in1_22 V c t) (in1_20 V c t) (itemStack V c) (in1_12 V c t) (in1_14 V c t) (in1_15 V c t) (in1_18 V c t) (in1_19 V c t)
    | ⟨24, _⟩ => itemHid (sums1 V c 4 (by rw [show cfg1.N = 6 from N_1]; decide)) (in1_21 V c t) (in1_13 V c t) (in1_16 V c t) (in1_17 V c t)
    | ⟨_ + 25, h⟩ => absurd h (by show ¬ _ < 25; omega)
  Φ t := carried1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = iblk1 V c 16 t := by dsimp only [dat1]
theorem after1_17 (c : Dev nD) (t : Fin cfg1.N) : (dat1 V c).after 17 t = iblk1 V c 17 t := by dsimp only [dat1]
theorem after1_18 (c : Dev nD) (t : Fin cfg1.N) : (dat1 V c).after 18 t = iblk1 V c 18 t := by dsimp only [dat1]
theorem after1_19 (c : Dev nD) (t : Fin cfg1.N) : (dat1 V c).after 19 t = iblk1 V c 19 t := by dsimp only [dat1]
theorem after1_20 (c : Dev nD) (t : Fin cfg1.N) : (dat1 V c).after 20 t = iblk1 V c 20 t := by dsimp only [dat1]
theorem after1_21 (c : Dev nD) (t : Fin cfg1.N) : (dat1 V c).after 21 t = iblk1 V c 21 t := by dsimp only [dat1]
theorem after1_22 (c : Dev nD) (t : Fin cfg1.N) : (dat1 V c).after 22 t = iblk1 V c 22 t := by dsimp only [dat1]
theorem after1_23 (c : Dev nD) (t : Fin cfg1.N) : (dat1 V c).after 23 t = queries (in1_22 V c t) (in1_20 V c t) (itemStack V c) (in1_12 V c t) (in1_14 V c t) (in1_15 V c t) (in1_18 V c t) (in1_19 V c t) := by dsimp only [dat1]
theorem after1_24 (c : Dev nD) (t : Fin cfg1.N) : (dat1 V c).after 24 t = itemHid (sums1 V c 4 (by rw [show cfg1.N = 6 from N_1]; decide)) (in1_21 V c t) (in1_13 V c t) (in1_16 V c t) (in1_17 V c t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)
theorem before1_8 (c : Dev nD) (t : Fin cfg1.N) (d) : (dat1 V c).before 8 t d = iblk1 V c 8 t :=
  ((dat1 V c).before_in_eq_fetched 8 rfl (fun _ => rfl) (fun _ _ _ => rfl)
    (fun t => by rw [after1_8]; unfold Dat.blockOf iblk1; rw [A_eq1]; try rfl) t d).trans
    (by unfold Dat.fetched Dat.blockOf iblk1; rw [A_eq1]; try rfl)
theorem before1_9 (c : Dev nD) (t : Fin cfg1.N) (d) : (dat1 V c).before 9 t d = iblk1 V c 9 t :=
  ((dat1 V c).before_in_eq_fetched 9 rfl (fun _ => rfl) (fun _ _ _ => rfl)
    (fun t => by rw [after1_9]; unfold Dat.blockOf iblk1; rw [A_eq1]; try rfl) t d).trans
    (by unfold Dat.fetched Dat.blockOf iblk1; rw [A_eq1]; try rfl)
theorem before1_10 (c : Dev nD) (t : Fin cfg1.N) (d) : (dat1 V c).before 10 t d = iblk1 V c 10 t :=
  ((dat1 V c).before_in_eq_fetched 10 rfl (fun _ => rfl) (fun _ _ _ => rfl)
    (fun t => by rw [after1_10]; unfold Dat.blockOf iblk1; rw [A_eq1]; try rfl) t d).trans
    (by unfold Dat.fetched Dat.blockOf iblk1; rw [A_eq1]; try rfl)
theorem before1_11 (c : Dev nD) (t : Fin cfg1.N) (d) : (dat1 V c).before 11 t d = iblk1 V c 11 t :=
  ((dat1 V c).before_in_eq_fetched 11 rfl (fun _ => rfl) (fun _ _ _ => rfl)
    (fun t => by rw [after1_11]; unfold Dat.blockOf iblk1; rw [A_eq1]; try rfl) t d).trans
    (by unfold Dat.fetched Dat.blockOf iblk1; rw [A_eq1]; try rfl)
theorem before1_12 (c : Dev nD) (t : Fin cfg1.N) (d) : (dat1 V c).before 12 t d = iblk1 V c 12 t :=
  ((dat1 V c).before_in_eq_fetched 12 rfl (fun _ => rfl) (fun _ _ _ => rfl)
    (fun t => by rw [after1_12]; unfold Dat.blockOf iblk1; rw [A_eq1]; try rfl) t d).trans
    (by unfold Dat.fetched Dat.blockOf iblk1; rw [A_eq1]; try rfl)
theorem before1_13 (c : Dev nD) (t : Fin cfg1.N) (d) : (dat1 V c).before 13 t d = iblk1 V c 13 t :=
  ((dat1 V c).before_in_eq_fetched 13 rfl (fun _ => rfl) (fun _ _ _ => rfl)
    (fun t => by rw [after1_13]; unfold Dat.blockOf iblk1; rw [A_eq1]; try rfl) t d).trans
    (by unfold Dat.fetched Dat.blockOf iblk1; rw [A_eq1]; try rfl)
theorem before1_14 (c : Dev nD) (t : Fin cfg1.N) (d) : (dat1 V c).before 14 t d = iblk1 V c 14 t :=
  ((dat1 V c).before_in_eq_fetched 14 rfl (fun _ => rfl) (fun _ _ _ => rfl)
    (fun t => by rw [after1_14]; unfold Dat.blockOf iblk1; rw [A_eq1]; try rfl) t d).trans
    (by unfold Dat.fetched Dat.blockOf iblk1; rw [A_eq1]; try rfl)
theorem before1_15 (c : Dev nD) (t : Fin cfg1.N) (d) : (dat1 V c).before 15 t d = iblk1 V c 15 t :=
  ((dat1 V c).before_in_eq_fetched 15 rfl (fun _ => rfl) (fun _ _ _ => rfl)
    (fun t => by rw [after1_15]; unfold Dat.blockOf iblk1; rw [A_eq1]; try rfl) t d).trans
    (by unfold Dat.fetched Dat.blockOf iblk1; rw [A_eq1]; try rfl)
theorem before1_16 (c : Dev nD) (t : Fin cfg1.N) (d) : (dat1 V c).before 16 t d = iblk1 V c 16 t :=
  ((dat1 V c).before_in_eq_fetched 16 rfl (fun _ => rfl) (fun _ _ _ => rfl)
    (fun t => by rw [after1_16]; unfold Dat.blockOf iblk1; rw [A_eq1]; try rfl) t d).trans
    (by unfold Dat.fetched Dat.blockOf iblk1; rw [A_eq1]; try rfl)
theorem before1_17 (c : Dev nD) (t : Fin cfg1.N) (d) : (dat1 V c).before 17 t d = iblk1 V c 17 t :=
  ((dat1 V c).before_in_eq_fetched 17 rfl (fun _ => rfl) (fun _ _ _ => rfl)
    (fun t => by rw [after1_17]; unfold Dat.blockOf iblk1; rw [A_eq1]; try rfl) t d).trans
    (by unfold Dat.fetched Dat.blockOf iblk1; rw [A_eq1]; try rfl)
theorem before1_18 (c : Dev nD) (t : Fin cfg1.N) (d) : (dat1 V c).before 18 t d = iblk1 V c 18 t :=
  ((dat1 V c).before_in_eq_fetched 18 rfl (fun _ => rfl) (fun _ _ _ => rfl)
    (fun t => by rw [after1_18]; unfold Dat.blockOf iblk1; rw [A_eq1]; try rfl) t d).trans
    (by unfold Dat.fetched Dat.blockOf iblk1; rw [A_eq1]; try rfl)
theorem before1_19 (c : Dev nD) (t : Fin cfg1.N) (d) : (dat1 V c).before 19 t d = iblk1 V c 19 t :=
  ((dat1 V c).before_in_eq_fetched 19 rfl (fun _ => rfl) (fun _ _ _ => rfl)
    (fun t => by rw [after1_19]; unfold Dat.blockOf iblk1; rw [A_eq1]; try rfl) t d).trans
    (by unfold Dat.fetched Dat.blockOf iblk1; rw [A_eq1]; try rfl)
theorem before1_20 (c : Dev nD) (t : Fin cfg1.N) (d) : (dat1 V c).before 20 t d = iblk1 V c 20 t :=
  ((dat1 V c).before_in_eq_fetched 20 rfl (fun _ => rfl) (fun _ _ _ => rfl)
    (fun t => by rw [after1_20]; unfold Dat.blockOf iblk1; rw [A_eq1]; try rfl) t d).trans
    (by unfold Dat.fetched Dat.blockOf iblk1; rw [A_eq1]; try rfl)
theorem before1_21 (c : Dev nD) (t : Fin cfg1.N) (d) : (dat1 V c).before 21 t d = iblk1 V c 21 t :=
  ((dat1 V c).before_in_eq_fetched 21 rfl (fun _ => rfl) (fun _ _ _ => rfl)
    (fun t => by rw [after1_21]; unfold Dat.blockOf iblk1; rw [A_eq1]; try rfl) t d).trans
    (by unfold Dat.fetched Dat.blockOf iblk1; rw [A_eq1]; try rfl)
theorem before1_22 (c : Dev nD) (t : Fin cfg1.N) (d) : (dat1 V c).before 22 t d = iblk1 V c 22 t :=
  ((dat1 V c).before_in_eq_fetched 22 rfl (fun _ => rfl) (fun _ _ _ => rfl)
    (fun t => by rw [after1_22]; unfold Dat.blockOf iblk1; rw [A_eq1]; try rfl) t d).trans
    (by unfold Dat.fetched Dat.blockOf iblk1; rw [A_eq1]; try rfl)

theorem leaves1_0 (c : Dev nD) (t : Fin cfg1.N) : (dat1 V c).leavesExact 0 t = owns (c : Thread nD τ) (st1_0 t) fullShare (iblk1 V c 0 t) := by
  unfold Dat.leavesExact; rw [show cfg1.idle 0 (grid1.coords t) = false from rfl, after1_0]
theorem leaves1_1 (c : Dev nD) (t : Fin cfg1.N) : (dat1 V c).leavesExact 1 t = owns (c : Thread nD τ) (st1_1 t) fullShare (iblk1 V c 1 t) := by
  unfold Dat.leavesExact; rw [show cfg1.idle 1 (grid1.coords t) = false from rfl, after1_1]
theorem leaves1_2 (c : Dev nD) (t : Fin cfg1.N) : (dat1 V c).leavesExact 2 t = owns (c : Thread nD τ) (st1_2 t) fullShare (iblk1 V c 2 t) := by
  unfold Dat.leavesExact; rw [show cfg1.idle 2 (grid1.coords t) = false from rfl, after1_2]
theorem leaves1_3 (c : Dev nD) (t : Fin cfg1.N) : (dat1 V c).leavesExact 3 t = owns (c : Thread nD τ) (st1_3 t) fullShare (iblk1 V c 3 t) := by
  unfold Dat.leavesExact; rw [show cfg1.idle 3 (grid1.coords t) = false from rfl, after1_3]
theorem leaves1_4 (c : Dev nD) (t : Fin cfg1.N) : (dat1 V c).leavesExact 4 t = owns (c : Thread nD τ) (st1_4 t) fullShare (iblk1 V c 4 t) := by
  unfold Dat.leavesExact; rw [show cfg1.idle 4 (grid1.coords t) = false from rfl, after1_4]
theorem leaves1_5 (c : Dev nD) (t : Fin cfg1.N) : (dat1 V c).leavesExact 5 t = owns (c : Thread nD τ) (st1_5 t) fullShare (iblk1 V c 5 t) := by
  unfold Dat.leavesExact; rw [show cfg1.idle 5 (grid1.coords t) = false from rfl, after1_5]
theorem leaves1_6 (c : Dev nD) (t : Fin cfg1.N) : (dat1 V c).leavesExact 6 t = owns (c : Thread nD τ) (st1_6 t) fullShare (iblk1 V c 6 t) := by
  unfold Dat.leavesExact; rw [show cfg1.idle 6 (grid1.coords t) = false from rfl, after1_6]
theorem leaves1_7 (c : Dev nD) (t : Fin cfg1.N) : (dat1 V c).leavesExact 7 t = owns (c : Thread nD τ) (st1_7 t) fullShare (iblk1 V c 7 t) := by
  unfold Dat.leavesExact; rw [show cfg1.idle 7 (grid1.coords t) = false from rfl, after1_7]
theorem leaves1_8 (c : Dev nD) (t : Fin cfg1.N) : (dat1 V c).leavesExact 8 t = owns (c : Thread nD τ) (st1_8 t) fullShare (iblk1 V c 8 t) := by
  unfold Dat.leavesExact; rw [show cfg1.idle 8 (grid1.coords t) = false from rfl, after1_8]
theorem leaves1_9 (c : Dev nD) (t : Fin cfg1.N) : (dat1 V c).leavesExact 9 t = owns (c : Thread nD τ) (st1_9 t) fullShare (iblk1 V c 9 t) := by
  unfold Dat.leavesExact; rw [show cfg1.idle 9 (grid1.coords t) = false from rfl, after1_9]
theorem leaves1_10 (c : Dev nD) (t : Fin cfg1.N) : (dat1 V c).leavesExact 10 t = owns (c : Thread nD τ) (st1_10 t) fullShare (iblk1 V c 10 t) := by
  unfold Dat.leavesExact; rw [show cfg1.idle 10 (grid1.coords t) = false from rfl, after1_10]
theorem leaves1_11 (c : Dev nD) (t : Fin cfg1.N) : (dat1 V c).leavesExact 11 t = owns (c : Thread nD τ) (st1_11 t) fullShare (iblk1 V c 11 t) := by
  unfold Dat.leavesExact; rw [show cfg1.idle 11 (grid1.coords t) = false from rfl, after1_11]
theorem leaves1_12 (c : Dev nD) (t : Fin cfg1.N) : (dat1 V c).leavesExact 12 t = owns (c : Thread nD τ) (st1_12 t) fullShare (iblk1 V c 12 t) := by
  unfold Dat.leavesExact; rw [show cfg1.idle 12 (grid1.coords t) = false from rfl, after1_12]
theorem leaves1_13 (c : Dev nD) (t : Fin cfg1.N) : (dat1 V c).leavesExact 13 t = owns (c : Thread nD τ) (st1_13 t) fullShare (iblk1 V c 13 t) := by
  unfold Dat.leavesExact; rw [show cfg1.idle 13 (grid1.coords t) = false from rfl, after1_13]
theorem leaves1_14 (c : Dev nD) (t : Fin cfg1.N) : (dat1 V c).leavesExact 14 t = owns (c : Thread nD τ) (st1_14 t) fullShare (iblk1 V c 14 t) := by
  unfold Dat.leavesExact; rw [show cfg1.idle 14 (grid1.coords t) = false from rfl, after1_14]
theorem leaves1_15 (c : Dev nD) (t : Fin cfg1.N) : (dat1 V c).leavesExact 15 t = owns (c : Thread nD τ) (st1_15 t) fullShare (iblk1 V c 15 t) := by
  unfold Dat.leavesExact; rw [show cfg1.idle 15 (grid1.coords t) = false from rfl, after1_15]
theorem leaves1_16 (c : Dev nD) (t : Fin cfg1.N) : (dat1 V c).leavesExact 16 t = owns (c : Thread nD τ) (st1_16 t) fullShare (iblk1 V c 16 t) := by
  unfold Dat.leavesExact; rw [show cfg1.idle 16 (grid1.coords t) = false from rfl, after1_16]
theorem leaves1_17 (c : Dev nD) (t : Fin cfg1.N) : (dat1 V c).leavesExact 17 t = owns (c : Thread nD τ) (st1_17 t) fullShare (iblk1 V c 17 t) := by
  unfold Dat.leavesExact; rw [show cfg1.idle 17 (grid1.coords t) = false from rfl, after1_17]
theorem leaves1_18 (c : Dev nD) (t : Fin cfg1.N) : (dat1 V c).leavesExact 18 t = owns (c : Thread nD τ) (st1_18 t) fullShare (iblk1 V c 18 t) := by
  unfold Dat.leavesExact; rw [show cfg1.idle 18 (grid1.coords t) = false from rfl, after1_18]
theorem leaves1_19 (c : Dev nD) (t : Fin cfg1.N) : (dat1 V c).leavesExact 19 t = owns (c : Thread nD τ) (st1_19 t) fullShare (iblk1 V c 19 t) := by
  unfold Dat.leavesExact; rw [show cfg1.idle 19 (grid1.coords t) = false from rfl, after1_19]
theorem leaves1_20 (c : Dev nD) (t : Fin cfg1.N) : (dat1 V c).leavesExact 20 t = owns (c : Thread nD τ) (st1_20 t) fullShare (iblk1 V c 20 t) := by
  unfold Dat.leavesExact; rw [show cfg1.idle 20 (grid1.coords t) = false from rfl, after1_20]
theorem leaves1_21 (c : Dev nD) (t : Fin cfg1.N) : (dat1 V c).leavesExact 21 t = owns (c : Thread nD τ) (st1_21 t) fullShare (iblk1 V c 21 t) := by
  unfold Dat.leavesExact; rw [show cfg1.idle 21 (grid1.coords t) = false from rfl, after1_21]
theorem leaves1_22 (c : Dev nD) (t : Fin cfg1.N) : (dat1 V c).leavesExact 22 t = owns (c : Thread nD τ) (st1_22 t) fullShare (iblk1 V c 22 t) := by
  unfold Dat.leavesExact; rw [show cfg1.idle 22 (grid1.coords t) = false from rfl, after1_22]

theorem idleAt1_23 : ∀ t : Fin cfg1.N, t.val = 0 → cfg1.idle 23 (grid1.coords t) = true := by decide +kernel
theorem noFlush1_23 : ∀ t : Fin cfg1.N, t.val = 0 → (cfg1.win 23).flush t = false := by decide +kernel
theorem liveAt1_23 : ∀ t : Fin cfg1.N, t.val ≠ 0 → cfg1.idle 23 (grid1.coords t) = false := by decide +kernel
theorem idleAt1_24 : ∀ t : Fin cfg1.N, t.val ≠ 5 → cfg1.idle 24 (grid1.coords t) = true := by decide +kernel
theorem noFlush1_24 : ∀ t : Fin cfg1.N, t.val ≠ 5 → (cfg1.win 24).flush t = false := by decide +kernel
theorem liveAt1_24 : ∀ t : Fin cfg1.N, t.val = 5 → cfg1.idle 24 (grid1.coords t) = false := by decide +kernel
theorem quiet1_23 (c : Dev nD) (t : Fin cfg1.N) (h : t.val = 0) :
    (dat1 V c).leavesExact 23 t = iprop(∃ d, owns (c : Thread nD τ) (st1_23 t) fullShare ((dat1 V c).before 23 t d)) :=
  Dat.leavesExact_idle (dat1 V c) 23 t (idleAt1_23 t h) (noFlush1_23 t h)
theorem quiet1_24 (c : Dev nD) (t : Fin cfg1.N) (h : t.val ≠ 5) :
    (dat1 V c).leavesExact 24 t = iprop(∃ d, owns (c : Thread nD τ) (st1_24 t) fullShare ((dat1 V c).before 24 t d)) :=
  Dat.leavesExact_idle (dat1 V c) 24 t (idleAt1_24 t h) (noFlush1_24 t h)
theorem busy1_23 (c : Dev nD) (t : Fin cfg1.N) (h : t.val ≠ 0) :
    (dat1 V c).leavesExact 23 t = owns (c : Thread nD τ) (st1_23 t) fullShare ((dat1 V c).after 23 t) := by
  unfold Dat.leavesExact; rw [liveAt1_23 t h]
theorem busy1_24 (c : Dev nD) (t : Fin cfg1.N) (h : t.val = 5) :
    (dat1 V c).leavesExact 24 t = owns (c : Thread nD τ) (st1_24 t) fullShare ((dat1 V c).after 24 t) := by
  unfold Dat.leavesExact; rw [liveAt1_24 t h]

/-- What the body is called with at point `t`, the scratch buffers at `A`. -/
def bodyPre1 (c : Dev nD) (t : Fin cfg1.N) (A : sProp 𝕄) : sProp 𝕄 :=
  iprop(A ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d))
    ∗ (∃ d, owns (c : Thread nD τ) (st1_17 t) fullShare ((dat1 V c).before 17 t d))
    ∗ (∃ d, owns (c : Thread nD τ) (st1_18 t) fullShare ((dat1 V c).before 18 t d))
    ∗ (∃ d, owns (c : Thread nD τ) (st1_19 t) fullShare ((dat1 V c).before 19 t d))
    ∗ (∃ d, owns (c : Thread nD τ) (st1_20 t) fullShare ((dat1 V c).before 20 t d))
    ∗ (∃ d, owns (c : Thread nD τ) (st1_21 t) fullShare ((dat1 V c).before 21 t d))
    ∗ (∃ d, owns (c : Thread nD τ) (st1_22 t) fullShare ((dat1 V c).before 22 t d))
    ∗ (∃ d, owns (c : Thread nD τ) (st1_23 t) fullShare ((dat1 V c).before 23 t d))
    ∗ (∃ d, owns (c : Thread nD τ) (st1_24 t) fullShare ((dat1 V c).before 24 t d)))

/-- What the body leaves at point `t`, the scratch buffers at `A`. -/
def bodyPost1 (c : Dev nD) (t : Fin cfg1.N) (A : sProp 𝕄) : sProp 𝕄 :=
  iprop(A ∗ (dat1 V c).owesAt () t.castSucc
    ∗ (dat1 V c).leavesExact 0 t ∗ (dat1 V c).leavesExact 1 t ∗ (dat1 V c).leavesExact 2 t ∗ (dat1 V c).leavesExact 3 t ∗ (dat1 V c).leavesExact 4 t ∗ (dat1 V c).leavesExact 5 t ∗ (dat1 V c).leavesExact 6 t ∗ (dat1 V c).leavesExact 7 t ∗ (dat1 V c).leavesExact 8 t ∗ (dat1 V c).leavesExact 9 t ∗ (dat1 V c).leavesExact 10 t ∗ (dat1 V c).leavesExact 11 t ∗ (dat1 V c).leavesExact 12 t ∗ (dat1 V c).leavesExact 13 t ∗ (dat1 V c).leavesExact 14 t ∗ (dat1 V c).leavesExact 15 t ∗ (dat1 V c).leavesExact 16 t ∗ (dat1 V c).leavesExact 17 t ∗ (dat1 V c).leavesExact 18 t ∗ (dat1 V c).leavesExact 19 t ∗ (dat1 V c).leavesExact 20 t ∗ (dat1 V c).leavesExact 21 t ∗ (dat1 V c).leavesExact 22 t ∗ (dat1 V c).leavesExact 23 t ∗ (dat1 V c).leavesExact 24 t)

set_option maxHeartbeats 1000000 in
/-- The body at the first point. -/
theorem sound1_first (c : Dev nD) (hn : 0 < cfg1.N) :
    bodyPre1 V c ⟨0, hn⟩ (Pipeline.ΦA spec1 c) ⊢ wp frame (wpE (defs₀ (F := F)) Variants.none c none) Set.univ (bodyAt1 ⟨0, hn⟩) (fun _ => bodyPost1 V c ⟨0, hn⟩ (iprop((iprop(owns (c : Thread nD τ) itemsBuf fullShare (itemStack V c) ∗ owns (c : Thread nD τ) usersBuf fullShare (userStack V c) ∗ (∃ d, owns (c : Thread nD τ) sumsBuf fullShare d)) ∗ rest1 c) ∗ (∃ r, prngReg c r)))) := by
  unfold bodyPre1 bodyPost1 bodyAt1
  simp only [before1_0, before1_1, before1_2, before1_3, before1_4, before1_5, before1_6, before1_7, before1_8, before1_9, before1_10, before1_11, before1_12, before1_13, before1_14, before1_15, before1_16, before1_17, before1_18, before1_19, before1_20, before1_21, before1_22, leaves1_0, leaves1_1, leaves1_2, leaves1_3, leaves1_4, leaves1_5, leaves1_6, leaves1_7, leaves1_8, leaves1_9, leaves1_10, leaves1_11, leaves1_12, leaves1_13, leaves1_14, leaves1_15, leaves1_16, leaves1_17, leaves1_18, leaves1_19, leaves1_20, leaves1_21, leaves1_22]
  rw [anything1]
  simp only [quiet1_23 V c ⟨0, hn⟩ rfl]
  simp only [quiet1_24 V c ⟨0, hn⟩ (show (0 : ℕ) ≠ 5 by decide)]
  iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply (message_first c (grid1.coords (⟨0, hn⟩)) _ _ _ _ _ _ _ _ _ _ _ _ _ _ _ _ _ _ _ _ _ _ _ _ _ _ _ _ _ _ _ _ _ _ _ _ _ _ _ _ _ _ _ _ _ _ _ _ _ _ _ _ _ _ _ _ ((first1_iff _).mpr rfl) (fun h => (anyTile_iff _).mp h rfl) (fun h => absurd ((lastTile_iff _).mp h) (show ¬(0 : ℕ) = 5 by decide)) (in1_0 V c ⟨0, hn⟩) (in1_1 V c ⟨0, hn⟩) (in1_2 V c ⟨0, hn⟩) (in1_3 V c ⟨0, hn⟩) (in1_4 V c ⟨0, hn⟩) (in1_5 V c ⟨0, hn⟩) (in1_6 V c ⟨0, hn⟩) (in1_7 V c ⟨0, hn⟩) (in1_8 V c ⟨0, hn⟩) (in1_9 V c ⟨0, hn⟩) (in1_10 V c ⟨0, hn⟩) (in1_11 V c ⟨0, hn⟩) (in1_21 V c ⟨0, hn⟩) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H21]; · iexact H21
  isplitl [HS0]; · iexact HS0
  isplitl [HS1]; · iexact HS1
  iintro ⟨H0, H1, H2, H3, H4, H5, H6, H7, H8, H9, H10, H11, H21, HS0, HS1⟩
  isplitl [HS0 HS1 HS2 HR Hg]
  · isplitl [HS0 HS1 HS2 HR]
    · isplitl [HS0 HS1 HS2]
      · isplitl [HS0]; · iexact HS0
        isplitl [HS1]; · iexact HS1
        iexact HS2
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexists _; iexact H23
  iexists _; iexact H24

set_option maxHeartbeats 1000000 in
/-- The body at the first tile. -/
theorem sound1_start (c : Dev nD) (hn : 1 < cfg1.N) :
    bodyPre1 V c ⟨1, hn⟩ (iprop((iprop(owns (c : Thread nD τ) itemsBuf fullShare (itemStack V c) ∗ owns (c : Thread nD τ) usersBuf fullShare (userStack V c)
      ∗ (∃ d, owns (c : Thread nD τ) sumsBuf fullShare d)) ∗ rest1 c) ∗ (∃ r, prngReg c r))) ⊢ wp frame (wpE (defs₀ (F := F)) Variants.none c none) Set.univ (bodyAt1 ⟨1, hn⟩) (fun _ => bodyPost1 V c ⟨1, hn⟩ (iprop((iprop(owns (c : Thread nD τ) itemsBuf fullShare (itemStack V c) ∗ owns (c : Thread nD τ) usersBuf fullShare (userStack V c)
      ∗ owns (c : Thread nD τ) sumsBuf fullShare (sums1 V c 0 hn)) ∗ rest1 c) ∗ (∃ r, prngReg c r)))) := by
  unfold bodyPre1 bodyPost1 bodyAt1
  simp only [before1_0, before1_1, before1_2, before1_3, before1_4, before1_5, before1_6, before1_7, before1_8, before1_9, before1_10, before1_11, before1_12, before1_13, before1_14, before1_15, before1_16, before1_17, before1_18, before1_19, before1_20, before1_21, before1_22, leaves1_0, leaves1_1, leaves1_2, leaves1_3, leaves1_4, leaves1_5, leaves1_6, leaves1_7, leaves1_8, leaves1_9, leaves1_10, leaves1_11, leaves1_12, leaves1_13, leaves1_14, leaves1_15, leaves1_16, leaves1_17, leaves1_18, leaves1_19, leaves1_20, leaves1_21, leaves1_22]
  simp only [busy1_23 V c ⟨1, hn⟩ (show (1 : ℕ) ≠ 0 by decide)]
  simp only [quiet1_24 V c ⟨1, hn⟩ (show (1 : ℕ) ≠ 5 by decide)]
  iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply (message_start c (grid1.coords (⟨1, hn⟩)) _ _ _ _ _ _ _ _ _ _ _ _ _ _ _ _ _ _ _ _ _ _ _ _ _ _ _ _ _ _ _ _ _ _ _ _ _ _ _ _ _ _ _ _ _ _ _ _ _ _ _ _ _ _ _ _ (tileOf ⟨1, hn⟩) (fun j => tile_offset ⟨1, hn⟩ j (show (1 : ℕ) ≠ 0 by decide)) (fun h => (show (1 : ℕ) ≠ 0 by decide) ((first1_iff _).mp h)) ((anyTile_iff _).mpr (show (1 : ℕ) ≠ 0 by decide)) ((firstTile_iff _).mpr rfl) (fun h => absurd ((laterTile_iff _).mp h) (show ¬1 < (1 : ℕ) by decide)) (fun h => absurd ((lastTile_iff _).mp h) (show ¬(1 : ℕ) = 5 by decide)) (in1_12 V c ⟨1, hn⟩) (in1_14 V c ⟨1, hn⟩) (in1_15 V c ⟨1, hn⟩) (in1_18 V c ⟨1, hn⟩) (in1_19 V c ⟨1, hn⟩) (in1_20 V c ⟨1, hn⟩) (in1_22 V c ⟨1, hn⟩) (itemStack V c) (userStack V c) Set.univ _)
  isplitl [H12]; · iexact H12
  isplitl [H14]; · iexact H14
  isplitl [H15]; · iexact H15
  isplitl [H18]; · iexact H18
  isplitl [H19]; · iexact H19
  isplitl [H20]; · iexact H20
  isplitl [H22]; · iexact H22
  isplitl [HS0]; · iexact HS0
  isplitl [HS1]; · iexact HS1
  isplitl [H23]; · iexists _; iexact H23
  isplitl [HS2]; · iexact HS2
  iintro ⟨H12, H14, H15, H18, H19, H20, H22, HS0, HS1, H23, HS2⟩
  isplitl [HS0 HS1 HS2 HR Hg]
  · isplitl [HS0 HS1 HS2 HR]
    · isplitl [HS0 HS1 HS2]
      · isplitl [HS0]; · iexact HS0
        isplitl [HS1]; · iexact HS1
        iexact HS2
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexists _; iexact H24

set_option maxHeartbeats 1000000 in
/-- The body at a middle tile. -/
theorem sound1_grow (c : Dev nD) (k : ℕ) (hn : k + 2 < cfg1.N) (h5 : k + 2 ≠ 5) :
    bodyPre1 V c ⟨k + 2, hn⟩ (iprop((iprop(owns (c : Thread nD τ) itemsBuf fullShare (itemStack V c) ∗ owns (c : Thread nD τ) usersBuf fullShare (userStack V c)
      ∗ owns (c : Thread nD τ) sumsBuf fullShare (sums1 V c k (Nat.lt_of_succ_lt hn))) ∗ rest1 c) ∗ (∃ r, prngReg c r))) ⊢ wp frame (wpE (defs₀ (F := F)) Variants.none c none) Set.univ (bodyAt1 ⟨k + 2, hn⟩) (fun _ => bodyPost1 V c ⟨k + 2, hn⟩ (iprop((iprop(owns (c : Thread nD τ) itemsBuf fullShare (itemStack V c) ∗ owns (c : Thread nD τ) usersBuf fullShare (userStack V c)
      ∗ owns (c : Thread nD τ) sumsBuf fullShare (sums1 V c (k + 1) hn)) ∗ rest1 c) ∗ (∃ r, prngReg c r)))) := by
  unfold bodyPre1 bodyPost1 bodyAt1
  simp only [before1_0, before1_1, before1_2, before1_3, before1_4, before1_5, before1_6, before1_7, before1_8, before1_9, before1_10, before1_11, before1_12, before1_13, before1_14, before1_15, before1_16, before1_17, before1_18, before1_19, before1_20, before1_21, before1_22, leaves1_0, leaves1_1, leaves1_2, leaves1_3, leaves1_4, leaves1_5, leaves1_6, leaves1_7, leaves1_8, leaves1_9, leaves1_10, leaves1_11, leaves1_12, leaves1_13, leaves1_14, leaves1_15, leaves1_16, leaves1_17, leaves1_18, leaves1_19, leaves1_20, leaves1_21, leaves1_22]
  simp only [busy1_23 V c ⟨k + 2, hn⟩ (show k + 2 ≠ 0 by omega)]
  simp only [quiet1_24 V c ⟨k + 2, hn⟩ h5]
  iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply (message_grow c (grid1.coords (⟨k + 2, hn⟩)) _ _ _ _ _ _ _ _ _ _ _ _ _ _ _ _ _ _ _ _ _ _ _ _ _ _ _ _ _ _ _ _ _ _ _ _ _ _ _ _ _ _ _ _ _ _ _ _ _ _ _ _ _ _ _ _ (tileOf ⟨k + 2, hn⟩) (fun j => tile_offset ⟨k + 2, hn⟩ j (show k + 2 ≠ 0 by omega)) (fun h => (show k + 2 ≠ 0 by omega) ((first1_iff _).mp h)) ((anyTile_iff _).mpr (show k + 2 ≠ 0 by omega)) (fun h => absurd ((firstTile_iff _).mp h) (show ¬k + 2 = 1 by omega)) ((laterTile_iff _).mpr (show 1 < k + 2 by omega)) (fun h => absurd ((lastTile_iff _).mp h) h5) (in1_12 V c ⟨k + 2, hn⟩) (in1_14 V c ⟨k + 2, hn⟩) (in1_15 V c ⟨k + 2, hn⟩) (in1_18 V c ⟨k + 2, hn⟩) (in1_19 V c ⟨k + 2, hn⟩) (in1_20 V c ⟨k + 2, hn⟩) (in1_22 V c ⟨k + 2, hn⟩) (itemStack V c) (userStack V c) (sums1 V c k (Nat.lt_of_succ_lt hn)) Set.univ _)
  isplitl [H12]; · iexact H12
  isplitl [H14]; · iexact H14
  isplitl [H15]; · iexact H15
  isplitl [H18]; · iexact H18
  isplitl [H19]; · iexact H19
  isplitl [H20]; · iexact H20
  isplitl [H22]; · iexact H22
  isplitl [HS0]; · iexact HS0
  isplitl [HS1]; · iexact HS1
  isplitl [HS2]; · iexact HS2
  isplitl [H23]; · iexists _; iexact H23
  iintro ⟨H12, H14, H15, H18, H19, H20, H22, HS0, HS1, HS2, H23⟩
  isplitl [HS0 HS1 HS2 HR Hg]
  · isplitl [HS0 HS1 HS2 HR]
    · isplitl [HS0 HS1 HS2]
      · isplitl [HS0]; · iexact HS0
        isplitl [HS1]; · iexact HS1
        iexact HS2
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexists _; iexact H24

set_option maxHeartbeats 1000000 in
/-- The body at the last tile. -/
theorem sound1_last (c : Dev nD) (hn : 5 < cfg1.N) :
    bodyPre1 V c ⟨5, hn⟩ (iprop((iprop(owns (c : Thread nD τ) itemsBuf fullShare (itemStack V c) ∗ owns (c : Thread nD τ) usersBuf fullShare (userStack V c)
      ∗ owns (c : Thread nD τ) sumsBuf fullShare (sums1 V c 3 (Nat.lt_of_succ_lt hn))) ∗ rest1 c) ∗ (∃ r, prngReg c r))) ⊢ wp frame (wpE (defs₀ (F := F)) Variants.none c none) Set.univ (bodyAt1 ⟨5, hn⟩) (fun _ => bodyPost1 V c ⟨5, hn⟩ (iprop((iprop(owns (c : Thread nD τ) itemsBuf fullShare (itemStack V c) ∗ owns (c : Thread nD τ) usersBuf fullShare (userStack V c)
      ∗ owns (c : Thread nD τ) sumsBuf fullShare (sums1 V c 4 hn)) ∗ rest1 c) ∗ (∃ r, prngReg c r)))) := by
  unfold bodyPre1 bodyPost1 bodyAt1
  simp only [before1_0, before1_1, before1_2, before1_3, before1_4, before1_5, before1_6, before1_7, before1_8, before1_9, before1_10, before1_11, before1_12, before1_13, before1_14, before1_15, before1_16, before1_17, before1_18, before1_19, before1_20, before1_21, before1_22, leaves1_0, leaves1_1, leaves1_2, leaves1_3, leaves1_4, leaves1_5, leaves1_6, leaves1_7, leaves1_8, leaves1_9, leaves1_10, leaves1_11, leaves1_12, leaves1_13, leaves1_14, leaves1_15, leaves1_16, leaves1_17, leaves1_18, leaves1_19, leaves1_20, leaves1_21, leaves1_22]
  simp only [busy1_23 V c ⟨5, hn⟩ (show (5 : ℕ) ≠ 0 by decide)]
  simp only [busy1_24 V c ⟨5, hn⟩ rfl]
  iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply (message_last c (grid1.coords (⟨5, hn⟩)) _ _ _ _ _ _ _ _ _ _ _ _ _ _ _ _ _ _ _ _ _ _ _ _ _ _ _ _ _ _ _ _ _ _ _ _ _ _ _ _ _ _ _ _ _ _ _ _ _ _ _ _ _ _ _ _ (tileOf ⟨5, hn⟩) (fun j => tile_offset ⟨5, hn⟩ j (show (5 : ℕ) ≠ 0 by decide)) (fun h => (show (5 : ℕ) ≠ 0 by decide) ((first1_iff _).mp h)) ((anyTile_iff _).mpr (show (5 : ℕ) ≠ 0 by decide)) (fun h => absurd ((firstTile_iff _).mp h) (show ¬(5 : ℕ) = 1 by decide)) ((laterTile_iff _).mpr (show 1 < (5 : ℕ) by decide)) ((lastTile_iff _).mpr rfl) (in1_13 V c ⟨5, hn⟩) (in1_16 V c ⟨5, hn⟩) (in1_17 V c ⟨5, hn⟩) (in1_21 V c ⟨5, hn⟩) (in1_12 V c ⟨5, hn⟩) (in1_14 V c ⟨5, hn⟩) (in1_15 V c ⟨5, hn⟩) (in1_18 V c ⟨5, hn⟩) (in1_19 V c ⟨5, hn⟩) (in1_20 V c ⟨5, hn⟩) (in1_22 V c ⟨5, hn⟩) (itemStack V c) (userStack V c) (sums1 V c 3 (Nat.lt_of_succ_lt hn)) Set.univ _)
  isplitl [H13]; · iexact H13
  isplitl [H16]; · iexact H16
  isplitl [H17]; · iexact H17
  isplitl [H21]; · iexact H21
  isplitl [H12]; · iexact H12
  isplitl [H14]; · iexact H14
  isplitl [H15]; · iexact H15
  isplitl [H18]; · iexact H18
  isplitl [H19]; · iexact H19
  isplitl [H20]; · iexact H20
  isplitl [H22]; · iexact H22
  isplitl [HS0]; · iexact HS0
  isplitl [HS1]; · iexact HS1
  isplitl [HS2]; · iexact HS2
  isplitl [H23]; · iexists _; iexact H23
  isplitl [H24]; · iexists _; iexact H24
  iintro ⟨H13, H16, H17, H21, H12, H14, H15, H18, H19, H20, H22, HS0, HS1, HS2, H23, H24⟩
  isplitl [HS0 HS1 HS2 HR Hg]
  · isplitl [HS0 HS1 HS2 HR]
    · isplitl [HS0 HS1 HS2]
      · isplitl [HS0]; · iexact HS0
        isplitl [HS1]; · iexact HS1
        iexact HS2
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexact H24

/-- The body at any point. -/
theorem sound_body1 (c : Dev nD) (t : Fin cfg1.N) :
    bodyPre1 V c t ((dat1 V c).Φ t.castSucc) ⊢ wp frame (wpE (defs₀ (F := F)) Variants.none c none) Set.univ (bodyAt1 t) (fun _ => bodyPost1 V c t ((dat1 V c).Φ t.succ)) := by
  obtain ⟨n, hn⟩ := t
  match n, hn with
  | 0, hn => exact sound1_first V c hn
  | 1, hn => exact sound1_start V c hn
  | k + 2, hn =>
    by_cases h5 : k + 2 = 5
    · obtain rfl : k = 3 := by omega
      exact sound1_last V c hn
    · exact sound1_grow V c k hn h5

theorem defs₀_row1 (t : Fin cfg1.N) :
    defs₀ (F := F) .tc cfg1.body (cfg1.bodyArgs t (cfg1.slots t)) = bodyAt1 t := by
  unfold defs₀; rw [Defs.onTc_tc]

set_option maxHeartbeats 2000000 in
/-- The pipeline rule's body obligation. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- The region starts with every scratch buffer at anything. -/
theorem entry1 (c : Dev nD) : Pipeline.ΦA spec1 c ⊢ (dat1 V c).Φ 0 := by
  rw [show (dat1 V c).Φ 0 = Pipeline.ΦA spec1 c from rfl]

/-- The region ends with every scratch buffer at something. -/
theorem exit1 (c : Dev nD) : (dat1 V c).Φ (Fin.last cfg1.N) ⊢ Pipeline.ΦA spec1 c := by
  rw [show (dat1 V c).Φ (Fin.last cfg1.N) = iprop((iprop(owns (c : Thread nD τ) itemsBuf fullShare (itemStack V c) ∗ owns (c : Thread nD τ) usersBuf fullShare (userStack V c)
      ∗ owns (c : Thread nD τ) sumsBuf fullShare (sums1 V c 4 (by rw [show cfg1.N = 6 from N_1]; decide))) ∗ rest1 c) ∗ (∃ r, prngReg c r)) from rfl, anything1]
  iintro ⟨⟨⟨HS0, HS1, HS2⟩, HR⟩, Hg⟩
  isplitl [HS0 HS1 HS2 HR]
  · isplitl [HS0 HS1 HS2]
    · isplitl [HS0]; · iexists _; iexact HS0
      isplitl [HS1]; · iexists _; iexact HS1
      iexists _; iexact HS2
    iexact HR
  iexact Hg

end Cert.KernelIdeal.Run

end
-- ==== Proof.Run.DecodeBody.lean ====
module

public import proofs.«01_k».proof.Proof.Run.StatsBody
public import Idealize.ShloMosaic.Lib.Pipeline.ReadBack
public import Idealize.ShloMosaic.Lib.Pipeline.CanonAppend

/-!
# The decoder kernel's body

One grid point of the third `pallas_call` forms the five class logits of 200 rows and adds the block's masked
cross entropy, squared rating error and number of observed entries to a small array of running totals, in five chunks of
40 rows. This module names those values and runs the body once for each of its two cases (first point, later point).
-/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The values of one block -/

/-- The row block of one class's query vectors. -/
def query (x0 : Vec F S5x200x128 .f32) (k : Fin 5) : Vec F S1x200x128 .f32 := fun y => x0 (fun a => ⟨(![k.val, 0, 0] : Fin 3 → ℕ) a + (y a).val, by
  fin_cases a
  · have := (y 0).isLt; have := k.isLt; simp [Shape.size] at *; omega
  · have := (y 1).isLt; simp [Shape.size] at *; omega
  · have := (y 2).isLt; simp [Shape.size] at *; omega⟩)

/-- The logits of one class on the block. -/
def logit (x0 : Vec F S5x200x128 .f32) (x1 : Vec F S2000x128 .f32) (k : Fin 5) : FVec F S200x2000 .f32 := k2_pay4 x1 (query x0 k)

section
variable (l : Fin 5 → FVec F S40x2000 .f32) (vb : FVec F S40x2000 .bf16) (vf : FVec F S40x2000 .f32)

/-- A constant spread over a chunk. -/
abbrev fill (w : BitVec 32) : FVec F S40x2000 .f32 := broadcast S40x2000 (Scalar.ofBits .f32 w)
abbrev fill16 (w : BitVec 16) : FVec F S40x2000 .bf16 := broadcast S40x2000 (Scalar.ofBits .bf16 w)

/-- The largest of the five logits. -/
def peak : FVec F S40x2000 .f32 := maximumf (maximumf (maximumf (l 0) (l 1)) (l 2)) (maximumf (l 3) (l 4))
/-- One class's exponential, shifted by the largest logit. -/
def expo (k : Fin 5) : FVec F S40x2000 .f32 := exp (subf (l k) (peak l))
/-- The sum of the five exponentials. -/
def expoSum : FVec F S40x2000 .f32 :=
  addf (addf (addf (addf (addf (fill 0x00000000#32) (expo l 0)) (expo l 1)) (expo l 2)) (expo l 3)) (expo l 4)
/-- The exponentials weighted by the class numbers 1 to 5. -/
def expoMoment : FVec F S40x2000 .f32 :=
  addf (addf (addf (addf (addf (fill 0x00000000#32) (mulf (fill 0x3F800000#32) (expo l 0))) (mulf (fill 0x40000000#32) (expo l 1)))
    (mulf (fill 0x40400000#32) (expo l 2))) (mulf (fill 0x40800000#32) (expo l 3))) (mulf (fill 0x40A00000#32) (expo l 4))
/-- The logit of the observed class, or zero. -/
def picked : FVec F S40x2000 .f32 :=
  addf (addf (addf (addf (addf (fill 0x00000000#32)
    (select (cmpf .oeq vb (fill16 0x3F80#16)) (l 0) (fill 0x00000000#32)))
    (select (cmpf .oeq vb (fill16 0x4000#16)) (l 1) (fill 0x00000000#32)))
    (select (cmpf .oeq vb (fill16 0x4040#16)) (l 2) (fill 0x00000000#32)))
    (select (cmpf .oeq vb (fill16 0x4080#16)) (l 3) (fill 0x00000000#32)))
    (select (cmpf .oeq vb (fill16 0x40A0#16)) (l 4) (fill 0x00000000#32))
/-- One where an entry is observed, zero elsewhere. -/
def observed : FVec F S40x2000 .f32 := sitofp .f32 (extui 32 (cmpf .ogt vf (fill 0x00000000#32)) natLt_1_32)
/-- The sum over a chunk. -/
def total (x : FVec F S40x2000 .f32) : F .f32 :=
  extractAt ![0, 0, 0] (shapeCast S1x1x1 (multiReduction .add [1, 2] S1 (shapeCast S1x40x2000 x shapeCasts_S40x2000_S1x40x2000)
    0x00000000#32 reduces_S1x40x2000_S1 (.inl rfl) rfl) shapeCasts_S1_S1x1x1) inpos_S1x1x1_p0_0_0
/-- The chunk's log likelihood terms. -/
def lossTerms : FVec F S40x2000 .f32 := mulf (observed vf) (subf (picked l vb) (addf (log (expoSum l)) (peak l)))
/-- The chunk's squared error terms. -/
def errTerms : FVec F S40x2000 .f32 :=
  mulf (observed vf) (mulf (subf (divf (expoMoment l) (expoSum l)) vf) (subf (divf (expoMoment l) (expoSum l)) vf))
end

/-- Five chunks of a block. -/
def chunk {e : EltTy} (x : Vec F S200x2000 e) : Fin 5 → Vec F S40x2000 e
  | ⟨0, _⟩ => extractStridedSlice S40x2000 ![0, 0] x slices_S200x2000_o0_0_S40x2000
  | ⟨1, _⟩ => extractStridedSlice S40x2000 ![40, 0] x slices_S200x2000_o40_0_S40x2000
  | ⟨2, _⟩ => extractStridedSlice S40x2000 ![80, 0] x slices_S200x2000_o80_0_S40x2000
  | ⟨3, _⟩ => extractStridedSlice S40x2000 ![120, 0] x slices_S200x2000_o120_0_S40x2000
  | ⟨4, _⟩ => extractStridedSlice S40x2000 ![160, 0] x slices_S200x2000_o160_0_S40x2000

/-- A sum over the five chunks, taken in order from zero. -/
def overChunks (f : Fin 5 → F .f32) : F .f32 :=
  Scalar.addf (Scalar.addf (Scalar.addf (Scalar.addf (Scalar.addf (Scalar.ofBits .f32 0x00000000#32) (f 0)) (f 1)) (f 2)) (f 3)) (f 4)

section
variable (x0 : Vec F S5x200x128 .f32) (x1 : Vec F S2000x128 .f32) (x2 : Vec F S200x2000 .bf16)

/-- The logits of one chunk. -/
def chunkLogit (j : Fin 5) (k : Fin 5) : FVec F S40x2000 .f32 := chunk (e := .f32) (logit x0 x1 k) j

/-- The block's three sums: log likelihood, squared error, number observed. -/
def lossSum : F .f32 := overChunks fun j => total (lossTerms (chunkLogit x0 x1 j) (chunk (e := .bf16) (k2_pay2 x2) j) (chunk (e := .f32) (k2_pay3 x2) j))
def errSum : F .f32 := overChunks fun j => total (errTerms (chunkLogit x0 x1 j) (chunk (e := .f32) (k2_pay3 x2) j))
def obsSum : F .f32 := overChunks fun j => total (observed (chunk (e := .f32) (k2_pay3 x2) j))

/-- The block of the result: one plane of logits for every class. -/
def logits : Vec F S5x200x2000 .f32 := fun y => logit x0 x1 (y 0) (fun a => ⟨(y a.succ).val, by fin_cases a <;> exact (y _).isLt⟩)

/-- The running totals after the block, from what they were before it. -/
def totals (xo : Vec F S3x8x128 .f32) : Vec F S3x8x128 .f32 := fun y =>
  FloatOps.addf (xo y) (match (y 0 : Fin 3) with | ⟨0, _⟩ => lossSum x0 x1 x2 | ⟨1, _⟩ => errSum x0 x1 x2 | ⟨2, _⟩ => obsSum x2)
end

/-- Adding one number to every entry of a plane. -/
theorem plane_add (v : Vec F S1x8x128 .f32) (z : F .f32) :
    shapeCast S1x8x128 (addf (shapeCast S8x128 v shapeCasts_S1x8x128_S8x128) (broadcast S8x128 z) : FVec F S8x128 .f32) shapeCasts_S8x128_S1x8x128
      = fun x => FloatOps.addf (v x) z := by
  funext x
  show FloatOps.addf (shapeCast S1x8x128 (shapeCast S8x128 v shapeCasts_S1x8x128_S8x128) shapeCasts_S8x128_S1x8x128 x) z = _
  rw [shapeCast_shapeCast]

/-- The three stored planes. -/
theorem pay130_eq (z : F .f32) (v : Vec F S1x8x128 .f32) : k2_pay130 z v = fun x => FloatOps.addf (v x) z := plane_add v z
theorem pay131_eq (a : F .f32) (m q : FVec F S40x2000 .f32) (v : Vec F S1x8x128 .f32) :
    k2_pay131 a m q v = fun x => FloatOps.addf (v x) (Scalar.addf a (total (mulf m q))) := plane_add v _
theorem pay132_eq (a : F .f32) (m : FVec F S40x2000 .f32) (v : Vec F S1x8x128 .f32) :
    k2_pay132 a m v = fun x => FloatOps.addf (v x) (Scalar.addf a (total m)) := plane_add v _

/-- Loading one class's query vectors. -/
theorem load_query {M : Memref sig .tc .vmem S5x200x128 .f32} (hM : M.IsWhole) (x0 : Vec F S5x200x128 .f32) {n : ℕ} (hn : n < 5)
    (inb : ∀ a, (![n, 0, 0] : Fin 3 → ℕ) a + S1x200x128.size a ≤ S5x200x128.size a) :
    View.readAt (Elt F) M.view (Rect.unit (s := S5x200x128) ![n, 0, 0] S1x200x128.size inb).toLoadRect (hM.unread x0) = query x0 ⟨n, hn⟩ := by
  rw [View.readAt_eq_ld, hM.read_unread]
  funext y
  refine congrArg x0 (funext fun a => Fin.ext ?_)
  simp [Rect.unit, Rect.emb, Rect.toLoadRect, LoadRect.idx]

/-- Five stored planes read back as the block of logits. -/
theorem read_logits (v : View sig .tc .vmem S5x200x2000 .f32) (f : v.ty.Contents (Elt F)) (x0 : Vec F S5x200x128 .f32) (x1 : Vec F S2000x128 .f32)
    (i0 : ∀ a, (![0, 0, 0] : Fin 3 → ℕ) a + S1x200x2000.size a ≤ S5x200x2000.size a) (i1 : ∀ a, (![1, 0, 0] : Fin 3 → ℕ) a + S1x200x2000.size a ≤ S5x200x2000.size a)
    (i2 : ∀ a, (![2, 0, 0] : Fin 3 → ℕ) a + S1x200x2000.size a ≤ S5x200x2000.size a) (i3 : ∀ a, (![3, 0, 0] : Fin 3 → ℕ) a + S1x200x2000.size a ≤ S5x200x2000.size a)
    (i4 : ∀ a, (![4, 0, 0] : Fin 3 → ℕ) a + S1x200x2000.size a ≤ S5x200x2000.size a) :
    v.read (Elt F) (v.writes (Elt F) f
      [⟨Rect.unit ![4, 0, 0] S1x200x2000.size i4, shapeCast S1x200x2000 (logit x0 x1 4) shapeCasts_S200x2000_S1x200x2000⟩,
       ⟨Rect.unit ![3, 0, 0] S1x200x2000.size i3, shapeCast S1x200x2000 (logit x0 x1 3) shapeCasts_S200x2000_S1x200x2000⟩,
       ⟨Rect.unit ![2, 0, 0] S1x200x2000.size i2, shapeCast S1x200x2000 (logit x0 x1 2) shapeCasts_S200x2000_S1x200x2000⟩,
       ⟨Rect.unit ![1, 0, 0] S1x200x2000.size i1, shapeCast S1x200x2000 (logit x0 x1 1) shapeCasts_S200x2000_S1x200x2000⟩,
       ⟨Rect.unit ![0, 0, 0] S1x200x2000.size i0, shapeCast S1x200x2000 (logit x0 x1 0) shapeCasts_S200x2000_S1x200x2000⟩]) = logits x0 x1 := by
  have piece : ∀ (k : Fin 5) (ik : ∀ a, (![k.val, 0, 0] : Fin 3 → ℕ) a + S1x200x2000.size a ≤ S5x200x2000.size a) (x : S1x200x2000.Idx),
      shapeCast S1x200x2000 (logit x0 x1 k) shapeCasts_S200x2000_S1x200x2000 x = logits x0 x1 ((Rect.unit (s := S5x200x2000) ![k.val, 0, 0] S1x200x2000.size ik).emb x) := by
    intro k ik x
    unfold logits
    have hx : (x 0).val = 0 := by have := (x 0).isLt; simp [Shape.size] at this; omega
    rw [show ((Rect.unit (s := S5x200x2000) ![k.val, 0, 0] S1x200x2000.size ik).emb x) 0 = k from Fin.ext (by simp [Rect.unit, Rect.emb, hx])]
    refine shapeCast_apply _ _ _ _ ?_
    refine (Shape.rowMajor_val_two _).trans ((Shape.rowMajor_val_three _).trans ?_).symm
    rw [hx]
    simp [Rect.unit, Rect.emb]
  have cover : ∀ y : S5x200x2000.Idx, ∃ p ∈ ([⟨Rect.unit ![4, 0, 0] S1x200x2000.size i4, shapeCast S1x200x2000 (logit x0 x1 4) shapeCasts_S200x2000_S1x200x2000⟩,
       ⟨Rect.unit ![3, 0, 0] S1x200x2000.size i3, shapeCast S1x200x2000 (logit x0 x1 3) shapeCasts_S200x2000_S1x200x2000⟩,
       ⟨Rect.unit ![2, 0, 0] S1x200x2000.size i2, shapeCast S1x200x2000 (logit x0 x1 2) shapeCasts_S200x2000_S1x200x2000⟩,
       ⟨Rect.unit ![1, 0, 0] S1x200x2000.size i1, shapeCast S1x200x2000 (logit x0 x1 1) shapeCasts_S200x2000_S1x200x2000⟩,
       ⟨Rect.unit ![0, 0, 0] S1x200x2000.size i0, shapeCast S1x200x2000 (logit x0 x1 0) shapeCasts_S200x2000_S1x200x2000⟩] : List (View.Piece (Elt F) S5x200x2000 .f32)), y ∈ p.1.set :=
    View.cover_of_tiledL _ S1x200x2000.size (by sl_kernel_rfl)
  rw [View.read_writes_eq_canon _ _ _ cover]
  funext y
  refine View.canon_apply_of_pieces (logits x0 x1) _ ?_ y (cover y)
  intro p hp
  simp only [List.mem_cons, List.not_mem_nil, or_false] at hp
  rcases hp with rfl | rfl | rfl | rfl | rfl
  · exact piece 4 i4
  · exact piece 3 i3
  · exact piece 2 i2
  · exact piece 1 i1
  · exact piece 0 i0

/-- Three stored planes read back as the grown totals, whatever was stored before them. -/
theorem read_totals (v : View sig .tc .vmem S3x8x128 .f32) (f : v.ty.Contents (Elt F)) (x0 : Vec F S5x200x128 .f32) (x1 : Vec F S2000x128 .f32)
    (x2 : Vec F S200x2000 .bf16) (xo : Vec F S3x8x128 .f32)
    (i0 : ∀ a, (![0, 0, 0] : Fin 3 → ℕ) a + S1x8x128.size a ≤ S3x8x128.size a) (i1 : ∀ a, (![1, 0, 0] : Fin 3 → ℕ) a + S1x8x128.size a ≤ S3x8x128.size a)
    (i2 : ∀ a, (![2, 0, 0] : Fin 3 → ℕ) a + S1x8x128.size a ≤ S3x8x128.size a)
    (w0 w1 w2 : S1x8x128.Idx → Elt F .f32) (L : List (View.Piece (Elt F) S3x8x128 .f32))
    (h0 : w0 = fun x => FloatOps.addf (View.ld xo (Rect.unit (s := S3x8x128) ![0, 0, 0] S1x8x128.size i0) x) (lossSum x0 x1 x2))
    (h1 : w1 = fun x => FloatOps.addf (View.ld xo (Rect.unit (s := S3x8x128) ![1, 0, 0] S1x8x128.size i1) x) (errSum x0 x1 x2))
    (h2 : w2 = fun x => FloatOps.addf (View.ld xo (Rect.unit (s := S3x8x128) ![2, 0, 0] S1x8x128.size i2) x) (obsSum x2)) :
    v.read (Elt F) (v.writes (Elt F) f
      (⟨Rect.unit ![2, 0, 0] S1x8x128.size i2, w2⟩ :: ⟨Rect.unit ![1, 0, 0] S1x8x128.size i1, w1⟩ :: ⟨Rect.unit ![0, 0, 0] S1x8x128.size i0, w0⟩ :: L))
      = totals x0 x1 x2 xo := by
  subst h0 h1 h2
  have row : ∀ (k : ℕ) (ik : ∀ a, (![k, 0, 0] : Fin 3 → ℕ) a + S1x8x128.size a ≤ S3x8x128.size a) (hk : k < 3) (x : S1x8x128.Idx),
      ((Rect.unit (s := S3x8x128) ![k, 0, 0] S1x8x128.size ik).emb x) 0 = (⟨k, hk⟩ : Fin 3) := by
    intro k ik hk x
    have hx : (x 0).val = 0 := by have := (x 0).isLt; simp [Shape.size] at this; omega
    exact Fin.ext (by simp [Rect.unit, Rect.emb, hx])
  have cover : ∀ y : S3x8x128.Idx, ∃ p ∈ ([⟨Rect.unit ![2, 0, 0] S1x8x128.size i2, fun x => FloatOps.addf (View.ld xo (Rect.unit (s := S3x8x128) ![2, 0, 0] S1x8x128.size i2) x) (obsSum x2)⟩,
       ⟨Rect.unit ![1, 0, 0] S1x8x128.size i1, fun x => FloatOps.addf (View.ld xo (Rect.unit (s := S3x8x128) ![1, 0, 0] S1x8x128.size i1) x) (errSum x0 x1 x2)⟩,
       ⟨Rect.unit ![0, 0, 0] S1x8x128.size i0, fun x => FloatOps.addf (View.ld xo (Rect.unit (s := S3x8x128) ![0, 0, 0] S1x8x128.size i0) x) (lossSum x0 x1 x2)⟩] : List (View.Piece (Elt F) S3x8x128 .f32)), y ∈ p.1.set :=
    View.cover_of_tiledL _ S1x8x128.size (by sl_kernel_rfl)
  funext y
  obtain ⟨p, hp, hy⟩ := cover y
  refine (View.read_writes_apply_eq_canon v f y _ ⟨p, List.mem_append_left L hp, hy⟩).trans ?_
  refine View.canon_append_of_pieces (totals x0 x1 x2 xo) L _ ?_ y ⟨p, hp, hy⟩
  intro q hq
  simp only [List.mem_cons, List.not_mem_nil, or_false] at hq
  rcases hq with rfl | rfl | rfl
  · intro x; unfold totals; dsimp only; rw [row 2 i2 (by decide) x]; rfl
  · intro x; unfold totals; dsimp only; rw [row 1 i1 (by decide) x]; rfl
  · intro x; unfold totals; dsimp only; rw [row 0 i0 (by decide) x]; rfl

omit [FloatOps F] in
/-- An earlier plane lies apart from a later one. -/
theorem planes_apart {a b : ℕ} (h : a < b) (ia : ∀ x, (![a, 0, 0] : Fin 3 → ℕ) x + S1x8x128.size x ≤ S3x8x128.size x)
    (ib : ∀ x, (![b, 0, 0] : Fin 3 → ℕ) x + S1x8x128.size x ≤ S3x8x128.size x) :
    LoadRect.disj (Rect.unit (s := S3x8x128) ![a, 0, 0] S1x8x128.size ia) (Rect.unit (s := S3x8x128) ![b, 0, 0] S1x8x128.size ib).toLoadRect = true :=
  decide_eq_true ⟨0, .inr (.inr (.inl h))⟩

section
variable (v : View sig .tc .vmem S3x8x128 .f32) (i : ∀ a, (![0, 0, 0] : Fin 3 → ℕ) a + S3x8x128.size a ≤ S3x8x128.size a) (Z : S3x8x128.Idx → Elt F .f32)
  (r0 r1 B : Rect S3x8x128) (w0 : r0.shape.Idx → Elt F .f32) (w1 : r1.shape.Idx → Elt F .f32)

/-- A part of the totals read after the whole was filled, and parts apart from it stored. -/
theorem zeroed_0 : v.readCov (Val := Elt F) [⟨Rect.unit ![0, 0, 0] S3x8x128.size i, Z⟩] B.toLoadRect = View.ld Z B :=
  View.readCov_fill v i Z [] _ (congrFun zero3)
theorem zeroed_1 (h0 : LoadRect.disj r0 B.toLoadRect = true) :
    v.readCov (Val := Elt F) [⟨r0, w0⟩, ⟨Rect.unit ![0, 0, 0] S3x8x128.size i, Z⟩] B.toLoadRect = View.ld Z B :=
  (View.readCov_skip v r0 w0 _ _ h0).trans (zeroed_0 v i Z B)
theorem zeroed_2 (h0 : LoadRect.disj r0 B.toLoadRect = true) (h1 : LoadRect.disj r1 B.toLoadRect = true) :
    v.readCov (Val := Elt F) [⟨r1, w1⟩, ⟨r0, w0⟩, ⟨Rect.unit ![0, 0, 0] S3x8x128.size i, Z⟩] B.toLoadRect = View.ld Z B :=
  (View.readCov_skip v r1 w1 _ _ h1).trans (zeroed_1 v i Z r0 B w0 h0)
end

/-- The body is at the first point. -/
abbrev first2 (i : grid2.Coords) : Prop := (Scalar.cmpi .ne (Scalar.extui (Scalar.cmpi .eq (BitVec.ofNat 32 (i 0).val) 0#32)) 0#32) = 1#1
theorem first2_iff : ∀ t : Fin cfg2.N, first2 (grid2.coords t) ↔ t.val = 0 :=
  (by decide +kernel : ∀ t : Fin grid2.N, first2 (grid2.coords t) ↔ t.val = 0)

section
variable (c : Dev nD) (i : grid2.Coords)
  (arg1 : Memref sig .tc .vmem S5x200x128 .f32) (harg1 : arg1.IsWhole) (arg2 : Memref sig .tc .vmem S2000x128 .f32) (harg2 : arg2.IsWhole)
  (arg3 : Memref sig .tc .vmem S200x2000 .bf16) (harg3 : arg3.IsWhole) (arg4 : Memref sig .tc .vmem S5x200x2000 .f32) (harg4 : arg4.IsWhole)
  (arg5 : Memref sig .tc .vmem S3x8x128 .f32) (harg5 : arg5.IsWhole)

set_option maxHeartbeats 1000000 in
/-- The body at the first point: the totals start at zero. -/
theorem decode_first (hc0 : first2 i)
    (x0 : Vec F S5x200x128 .f32) (x1 : Vec F S2000x128 .f32) (x2 : Vec F S200x2000 .bf16) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (logits x0 x1) ∗ owns (c : Thread nD τ) arg5 fullShare (totals x0 x1 x2 (broadcast S3x8x128 (Scalar.ofBits .f32 0x00000000#32)))) -∗ K ⟨⟩))
      ⊢ wp frame (wpE (defs₀ (F := F)) Variants.none c none) E (cc2__decode_kernel i arg1 harg1 arg2 harg2 arg3 harg3 arg4 harg4 arg5 harg5) K := by
  simp only [cc2__decode_kernel_eq_skeleton]; unfold cc2__decode_kernel_skel
  simp only [k2_part12_eq_skeleton, k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg1.eq_unread hf0; obtain rfl := harg2.eq_unread hf1; obtain rfl := harg3.eq_unread hf2
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    sl_unfold_run_names
    rw [load_whole harg2 _ zero2, load_query harg1 x0 (n := 0) (by decide), load_query harg1 x0 (n := 1) (by decide),
      load_query harg1 x0 (n := 2) (by decide), load_query harg1 x0 (n := 3) (by decide), load_query harg1 x0 (n := 4) (by decide)]
    exact read_logits _ _ x0 x1 _ _ _ _ _
  iexists _; isplitr
  swap; · iexact H4
  ipureintro
  refine read_totals _ _ x0 x1 x2 _ _ _ _ _ _ _ _ ?_ ?_ ?_
  · sl_unfold_run_names
    rw [zeroed_0, pay130_eq]
    funext x
    refine congrArg₂ FloatOps.addf ?_ ?_
    · rfl
    · rw [load_whole harg2 _ zero2, load_whole harg3 _ zero2, load_query harg1 x0 (n := 0) (by decide), load_query harg1 x0 (n := 1) (by decide), load_query harg1 x0 (n := 2) (by decide), load_query harg1 x0 (n := 3) (by decide), load_query harg1 x0 (n := 4) (by decide)]
      rfl
  · sl_unfold_run_names
    rw [zeroed_1, pay131_eq]
    rotate_left
    · exact planes_apart (by decide) _ _
    funext x
    refine congrArg₂ FloatOps.addf ?_ ?_
    · rfl
    · rw [load_whole harg2 _ zero2, load_whole harg3 _ zero2, load_query harg1 x0 (n := 0) (by decide), load_query harg1 x0 (n := 1) (by decide), load_query harg1 x0 (n := 2) (by decide), load_query harg1 x0 (n := 3) (by decide), load_query harg1 x0 (n := 4) (by decide)]
      rfl
  · sl_unfold_run_names
    rw [zeroed_2, pay132_eq]
    rotate_left
    · exact planes_apart (by decide) _ _
    · exact planes_apart (by decide) _ _
    funext x
    refine congrArg₂ FloatOps.addf ?_ ?_
    · rfl
    · rw [load_whole harg3 _ zero2]
      rfl

set_option maxHeartbeats 1000000 in
/-- The body at a later point: the totals grow. -/
theorem decode_later (hc0 : ¬first2 i)
    (x0 : Vec F S5x200x128 .f32) (x1 : Vec F S2000x128 .f32) (x2 : Vec F S200x2000 .bf16) (xo : Vec F S3x8x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xo
        ∗ (iprop(owns (c : Thread nD τ) arg1 fullShare x0 ∗ owns (c : Thread nD τ) arg2 fullShare x1 ∗ owns (c : Thread nD τ) arg3 fullShare x2
            ∗ owns (c : Thread nD τ) arg4 fullShare (logits x0 x1) ∗ owns (c : Thread nD τ) arg5 fullShare (totals x0 x1 x2 xo)) -∗ K ⟨⟩))
      ⊢ wp frame (wpE (defs₀ (F := F)) Variants.none c none) E (cc2__decode_kernel i arg1 harg1 arg2 harg2 arg3 harg3 arg4 harg4 arg5 harg5) K := by
  simp only [cc2__decode_kernel_eq_skeleton]; unfold cc2__decode_kernel_skel
  simp only [k2_part12_eq_skeleton, k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton]
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := harg1.eq_unread hf0; obtain rfl := harg2.eq_unread hf1; obtain rfl := harg3.eq_unread hf2; obtain rfl := harg5.eq_unread hf4
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    sl_unfold_run_names
    rw [load_whole harg2 _ zero2, load_query harg1 x0 (n := 0) (by decide), load_query harg1 x0 (n := 1) (by decide),
      load_query harg1 x0 (n := 2) (by decide), load_query harg1 x0 (n := 3) (by decide), load_query harg1 x0 (n := 4) (by decide)]
    exact read_logits _ _ x0 x1 _ _ _ _ _
  iexists _; isplitr
  swap; · iexact H4
  ipureintro
  refine read_totals _ _ x0 x1 x2 _ _ _ _ _ _ _ _ ?_ ?_ ?_
  · sl_unfold_run_names
    rw [pay130_eq]
    funext x
    refine congrArg₂ FloatOps.addf ?_ ?_
    · exact congrFun (by rw [View.readAt_eq_ld, harg5.read_unread]) x
    · rw [load_whole harg2 _ zero2, load_whole harg3 _ zero2, load_query harg1 x0 (n := 0) (by decide), load_query harg1 x0 (n := 1) (by decide), load_query harg1 x0 (n := 2) (by decide), load_query harg1 x0 (n := 3) (by decide), load_query harg1 x0 (n := 4) (by decide)]
      rfl
  · sl_unfold_run_names
    rw [pay131_eq]
    funext x
    refine congrArg₂ FloatOps.addf ?_ ?_
    · exact congrFun (by rw [View.readAt_eq_ld, harg5.read_unread]) x
    · rw [load_whole harg2 _ zero2, load_whole harg3 _ zero2, load_query harg1 x0 (n := 0) (by decide), load_query harg1 x0 (n := 1) (by decide), load_query harg1 x0 (n := 2) (by decide), load_query harg1 x0 (n := 3) (by decide), load_query harg1 x0 (n := 4) (by decide)]
      rfl
  · sl_unfold_run_names
    rw [pay132_eq]
    funext x
    refine congrArg₂ FloatOps.addf ?_ ?_
    · exact congrFun (by rw [View.readAt_eq_ld, harg5.read_unread]) x
    · rw [load_whole harg3 _ zero2]
      rfl

end

end Cert.KernelIdeal.Run

end
-- ==== Proof.Run.Decode.lean ====
module

public import proofs.«01_k».proof.Proof.Run.DecodeBody

/-!
# The decoding kernel's pipeline

The proof data of the third `pallas_call`: the result's block and the running totals after each of the ten points,
and the body obligation the pipeline rule asks for.
-/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The running totals after the `n`th block. -/
def runTotals (a : Fin cfg2.N → Vec F S5x200x128 .f32) (b : Fin cfg2.N → Vec F S2000x128 .f32) (v : Fin cfg2.N → Vec F S200x2000 .bf16) :
    (n : ℕ) → n < cfg2.N → Vec F S3x8x128 .f32
  | 0, h => totals (a ⟨0, h⟩) (b ⟨0, h⟩) (v ⟨0, h⟩) (broadcast S3x8x128 (Scalar.ofBits .f32 0x00000000#32))
  | n + 1, h => totals (a ⟨n + 1, h⟩) (b ⟨n + 1, h⟩) (v ⟨n + 1, h⟩) (runTotals a b v n (Nat.lt_of_succ_lt h))

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The query blocks, the item vectors, and the blocks of observed classes, point by point. -/
abbrev qBlk (c : Dev nD) (t : Fin cfg2.N) : Vec F S5x200x128 .f32 := iblk2 V c 0 t
abbrev hBlk (c : Dev nD) (t : Fin cfg2.N) : Vec F S2000x128 .f32 := iblk2 V c 1 t
abbrev cBlk (c : Dev nD) (t : Fin cfg2.N) : Vec F S200x2000 .bf16 := iblk2 V c 2 t

/-- The totals after point `n`. -/
def totalsAt (c : Dev nD) (n : ℕ) (h : n < cfg2.N) : Vec F S3x8x128 .f32 := runTotals (qBlk V c) (hBlk V c) (cBlk V c) n h

/-- The proof data: every window's buffer after the body at point `t`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => logits (qBlk V c t) (hBlk V c t)
    | ⟨4, _⟩ => totalsAt V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = logits (qBlk V c t) (hBlk V c t) := by dsimp only [dat2]
theorem after2_4 (c : Dev nD) (t : Fin cfg2.N) : (dat2 V c).after 4 t = totalsAt V c t.val t.isLt := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

theorem noFlush2_4 : ∀ t : Fin cfg2.N, t.val ≠ 9 → (cfg2.win 4).flush t = false := by decide +kernel
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl

/-- The totals' buffer holds, at a later point, what the point before left. -/
theorem before2_4 (c : Dev nD) (t : Fin cfg2.N) (h0 : t.val ≠ 0) (d) :
    (dat2 V c).before 4 t d = totalsAt V c (t.val - 1) (Nat.lt_of_le_of_lt (Nat.sub_le _ _) t.isLt) := by
  have hN : t.val < 10 := lt_of_lt_of_eq t.isLt (show cfg2.N = 10 from N_2)
  rw [Dat.before_out_kept _ 4 rfl t h0 (noFlush2_4 _ (by show t.val - 1 ≠ 9; omega)) (fun _ => rfl) (fun _ _ => rfl)]
  dsimp only [dat2]

/-- What the body is called with at point `t`. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- What the body leaves at point `t`. -/
def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t ∗ (dat2 V c).leavesExact 4 t)

/-- The body at any point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = (dat2 V c).Φ t.castSucc from rfl]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  rw [show (dat2 V c).leavesExact 4 t = owns (c : Thread nD τ) (st2_4 t) fullShare ((dat2 V c).after 4 t) from by
    unfold Dat.leavesExact; rw [liveAt2_4 t], after2_4]
  obtain ⟨n, hn⟩ := t
  by_cases h0 : n = 0
  · subst h0
    iintro ⟨HΦ, Ho, ⟨%d0, H0⟩, ⟨%d1, H1⟩, ⟨%d2, H2⟩, ⟨%d3, H3⟩, ⟨%d4, H4⟩⟩
    iapply (decode_first c (grid2.coords ⟨0, hn⟩) _ _ _ _ _ _ _ _ _ _ ((first2_iff _).mpr rfl) (qBlk V c ⟨0, hn⟩) (hBlk V c ⟨0, hn⟩) (cBlk V c ⟨0, hn⟩) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  obtain ⟨k, rfl⟩ : ∃ k, n = k + 1 := ⟨n - 1, by omega⟩
  · simp only [before2_4 V c ⟨k + 1, hn⟩ h0]
    iintro ⟨HΦ, Ho, ⟨%d0, H0⟩, ⟨%d1, H1⟩, ⟨%d2, H2⟩, ⟨%d3, H3⟩, ⟨%d4, H4⟩⟩
    iapply (decode_later c (grid2.coords ⟨k + 1, hn⟩) _ _ _ _ _ _ _ _ _ _ (fun h => h0 ((first2_iff _).mp h)) (qBlk V c ⟨k + 1, hn⟩) (hBlk V c ⟨k + 1, hn⟩) (cBlk V c ⟨k + 1, hn⟩) _ Set.univ _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

theorem defs₀_row2 (t : Fin cfg2.N) :
    defs₀ (F := F) .tc cfg2.body (cfg2.bodyArgs t (cfg2.slots t)) = bodyAt2 t := by
  unfold defs₀; rw [Defs.onTc_tc]

/-- The pipeline rule's body obligation. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Run

end
-- ==== Proof.Run.Whole.lean ====
module

public import proofs.«01_k».proof.Proof.Gen.KernelIdeal.Launch
public import proofs.«01_k».proof.Proof.Run.Stats
public import proofs.«01_k».proof.Proof.Run.Message
public import proofs.«01_k».proof.Proof.Run.Decode
public import Idealize.ShloMosaic.Lib.Pipeline.FrameBody
public import Idealize.ShloMosaic.Lib.Pipeline.RegionsLoop
public import Idealize.ShloMosaic.Lib.Pipeline.FrameSuffix
public import Idealize.ShloMosaic.Lib.Tactic

/-! # The whole program

The three kernel calls and the two host stretches composed. Between two of them every buffer of the program is known:
`B0` at launch, `B1` after the statistics call, `B2` after the host prepares the weights, `B3` after the message call,
`B4` after the decoder call, `B5` after the host has divided the sums. `run` says that every execution ends with every
buffer at `B5` and every semaphore at zero; `frame` reads the arguments off it. -/

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The host stretches -/

theorem prep_fresh : (hostOps1 : List (HloOp τ sig (Elt F))).Forall fun op => op.fresh = ∅ := by
  simp only [List.Forall]; repeat' constructor
/-- What the host writes before the message call. -/
abbrev prepW : List (Ref sig .tc) := [main_v1, main_v2, main_v3, main_v4, main_v5, main_v6, main_v7, main_v8, main_v9, main_v10, main_v11, main_v12, main_v13, main_v14]
theorem prep_writes : (hostOps1 : List (HloOp τ sig (Elt F))).Forall fun op => op.writes ⊆ (prepW.map (Proc.devRef (τ := τ) .tc)).toFinset :=
  StableHlo.forall_writes_sub_of_map rfl
theorem fin_fresh : (hostOps3 : List (HloOp τ sig (Elt F))).Forall fun op => op.fresh = ∅ := by
  simp only [List.Forall]; repeat' constructor
/-- What the host writes after the decoder call. -/
abbrev finW : List (Ref sig .tc) := [main_v17, main_v18, main_cst, main_v19, main_v20, main_v21, main_v22, main_v23, main_v24, main_v25, main_v26, main_v27]
theorem fin_writes : (hostOps3 : List (HloOp τ sig (Elt F))).Forall fun op => op.writes ⊆ (finW.map (Proc.devRef (τ := τ) .tc)).toFinset :=
  StableHlo.forall_writes_sub_of_map rfl

variable (m : (ℓ : Loc nD τ sig) → Buf (Elt F) ℓ) (ρ : Dev nD → PrngReg)

/-! ## The buffers between the parts -/

/-- At launch. -/
abbrev B0 : Dev nD → Valuation τ sig (Elt F) := fun c b => (s₀ m ρ).mem ((c : Dev nD), b)
abbrev V0 : (c : Dev nD) → (b : Ref sig .tc) → Buf (Elt F) ((c : Thread nD τ).loc b) := fun c b => B0 m ρ c b

/-- After the statistics call: its arrays as the pipeline leaves them, all else as before. -/
def B1 (c : Dev nD) : Valuation τ sig (Elt F) :=
  Pipeline.withArrays spec0 c (B0 m ρ c) fun w => (dat0 (V0 m ρ) c).arrAt w cfg0.N
theorem B1_arr (c : Dev nD) (w : Fin cfg0.W) :
    B1 m ρ c (Proc.devRef .tc (Pipeline.arrRef spec0 w)) = (dat0 (V0 m ρ) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m ρ c (Proc.devRef .tc b) = B0 m ρ c (Proc.devRef .tc b) := by
  unfold B1; exact Pipeline.withArrays_of_ne spec0 c _ _ b hb
/-- What is no output of the call is as before. -/
theorem B1_of (c : Dev nD) (r : Ref sig .tc) (h : ∀ w : Fin cfg0.W, Pipeline.arrRef spec0 w = r → (cfg0.win w).isOut = false) :
    B1 m ρ c (Proc.devRef .tc r) = B0 m ρ c (Proc.devRef .tc r) := by
  by_cases hw : ∃ w : Fin cfg0.W, Pipeline.arrRef spec0 w = r
  · obtain ⟨w, rfl⟩ := hw
    exact (B1_arr m ρ c w).trans (((dat0 (V0 m ρ) c).arrAt_in w (h w rfl) _).trans (A_eq0 (V0 m ρ) c w))
  · exact B1_of_ne m ρ c r fun w e => hw ⟨w, e⟩
abbrev V1 : (c : Dev nD) → (b : Ref sig .tc) → Buf (Elt F) ((c : Thread nD τ).loc b) := fun c b => B1 m ρ c b
theorem left0 (c : Dev nD) (w : Fin cfg0.W) : (dat0 (V0 m ρ) c).arrAt w cfg0.N = V1 m ρ c (Pipeline.arrRef spec0 w) :=
  (B1_arr m ρ c w).symm
theorem kept0 (c : Dev nD) : ∀ b, b ∉ Finset.univ.image (Pipeline.arrRef spec0) → V1 m ρ c b = V0 m ρ c b :=
  fun b hb => B1_of_ne m ρ c b fun w e => hb (Finset.mem_image.mpr ⟨w, Finset.mem_univ _, e⟩)

/-- After the host has prepared the weights. -/
abbrev B2 : Dev nD → Valuation τ sig (Elt F) := fun c => StableHlo.after hostOps1 (B1 m ρ c)
theorem B2_of (c : Dev nD) (r : Ref sig .tc) (h : r ∉ prepW) : B2 m ρ c (Proc.devRef .tc r) = B1 m ρ c (Proc.devRef .tc r) :=
  StableHlo.after_of_writes_sub hostOps1 _ prep_writes h
abbrev V2 : (c : Dev nD) → (b : Ref sig .tc) → Buf (Elt F) ((c : Thread nD τ).loc b) := fun c b => B2 m ρ c b

/-- After the message call: its arrays as the pipeline leaves them, all else as before. -/
def B3 (c : Dev nD) : Valuation τ sig (Elt F) :=
  Pipeline.withArrays spec1 c (B2 m ρ c) fun w => (dat1 (V2 m ρ) c).arrAt w cfg1.N
theorem B3_arr (c : Dev nD) (w : Fin cfg1.W) :
    B3 m ρ c (Proc.devRef .tc (Pipeline.arrRef spec1 w)) = (dat1 (V2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
/-- What is no output of the call is as before. -/
theorem B3_of (c : Dev nD) (r : Ref sig .tc) (h : ∀ w : Fin cfg1.W, Pipeline.arrRef spec1 w = r → (cfg1.win w).isOut = false) :
    B3 m ρ c (Proc.devRef .tc r) = B2 m ρ c (Proc.devRef .tc r) := by
  by_cases hw : ∃ w : Fin cfg1.W, Pipeline.arrRef spec1 w = r
  · obtain ⟨w, rfl⟩ := hw
    exact (B3_arr m ρ c w).trans (((dat1 (V2 m ρ) c).arrAt_in w (h w rfl) _).trans (A_eq1 (V2 m ρ) c w))
  · exact B3_of_ne m ρ c r fun w e => hw ⟨w, e⟩
abbrev V3 : (c : Dev nD) → (b : Ref sig .tc) → Buf (Elt F) ((c : Thread nD τ).loc b) := fun c b => B3 m ρ c b
theorem left1 (c : Dev nD) (w : Fin cfg1.W) : (dat1 (V2 m ρ) c).arrAt w cfg1.N = V3 m ρ c (Pipeline.arrRef spec1 w) :=
  (B3_arr m ρ c w).symm
theorem kept1 (c : Dev nD) : ∀ b, b ∉ Finset.univ.image (Pipeline.arrRef spec1) → V3 m ρ c b = V2 m ρ c b :=
  fun b hb => B3_of_ne m ρ c b fun w e => hb (Finset.mem_image.mpr ⟨w, Finset.mem_univ _, e⟩)

/-- After the decoder call: its arrays as the pipeline leaves them, all else as before. -/
def B4 (c : Dev nD) : Valuation τ sig (Elt F) :=
  Pipeline.withArrays spec2 c (B3 m ρ c) fun w => (dat2 (V3 m ρ) c).arrAt w cfg2.N
theorem B4_arr (c : Dev nD) (w : Fin cfg2.W) :
    B4 m ρ c (Proc.devRef .tc (Pipeline.arrRef spec2 w)) = (dat2 (V3 m ρ) c).arrAt w cfg2.N := by
  unfold B4; exact Pipeline.withArrays_arr spec2 launch2.win.arr_inj c _ _ w
theorem B4_of_ne (c : Dev nD) (b : Ref sig .tc) (hb : ∀ w, Pipeline.arrRef spec2 w ≠ b) :
    B4 m ρ c (Proc.devRef .tc b) = B3 m ρ c (Proc.devRef .tc b) := by
  unfold B4; exact Pipeline.withArrays_of_ne spec2 c _ _ b hb
/-- What is no output of the call is as before. -/
theorem B4_of (c : Dev nD) (r : Ref sig .tc) (h : ∀ w : Fin cfg2.W, Pipeline.arrRef spec2 w = r → (cfg2.win w).isOut = false) :
    B4 m ρ c (Proc.devRef .tc r) = B3 m ρ c (Proc.devRef .tc r) := by
  by_cases hw : ∃ w : Fin cfg2.W, Pipeline.arrRef spec2 w = r
  · obtain ⟨w, rfl⟩ := hw
    exact (B4_arr m ρ c w).trans (((dat2 (V3 m ρ) c).arrAt_in w (h w rfl) _).trans (A_eq2 (V3 m ρ) c w))
  · exact B4_of_ne m ρ c r fun w e => hw ⟨w, e⟩
abbrev V4 : (c : Dev nD) → (b : Ref sig .tc) → Buf (Elt F) ((c : Thread nD τ).loc b) := fun c b => B4 m ρ c b
theorem left2 (c : Dev nD) (w : Fin cfg2.W) : (dat2 (V3 m ρ) c).arrAt w cfg2.N = V4 m ρ c (Pipeline.arrRef spec2 w) :=
  (B4_arr m ρ c w).symm
theorem kept2 (c : Dev nD) : ∀ b, b ∉ Finset.univ.image (Pipeline.arrRef spec2) → V4 m ρ c b = V3 m ρ c b :=
  fun b hb => B4_of_ne m ρ c b fun w e => hb (Finset.mem_image.mpr ⟨w, Finset.mem_univ _, e⟩)

/-- After the host has divided the sums. -/
abbrev B5 : Dev nD → Valuation τ sig (Elt F) := fun c => StableHlo.after hostOps3 (B4 m ρ c)
theorem B5_of (c : Dev nD) (r : Ref sig .tc) (h : r ∉ finW) : B5 m ρ c (Proc.devRef .tc r) = B4 m ρ c (Proc.devRef .tc r) :=
  StableHlo.after_of_writes_sub hostOps3 _ fin_writes h
abbrev V5 : (c : Dev nD) → (b : Ref sig .tc) → Buf (Elt F) ((c : Thread nD τ).loc b) := fun c b => B5 m ρ c b

/-- The program's arguments. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17]
theorem args_in0 : ∀ a ∈ argRefs, ∀ w : Fin cfg0.W, Pipeline.arrRef spec0 w = a → (cfg0.win w).isOut = false :=
  ListAll.forall_mem_of_all_decide (by decide +kernel)
theorem args_prep : ∀ a ∈ argRefs, a ∉ prepW := ListAll.forall_mem_of_all_decide (by decide +kernel)
theorem args_in1 : ∀ a ∈ argRefs, ∀ w : Fin cfg1.W, Pipeline.arrRef spec1 w = a → (cfg1.win w).isOut = false :=
  ListAll.forall_mem_of_all_decide (by decide +kernel)
theorem args_in2 : ∀ a ∈ argRefs, ∀ w : Fin cfg2.W, Pipeline.arrRef spec2 w = a → (cfg2.win w).isOut = false :=
  ListAll.forall_mem_of_all_decide (by decide +kernel)
theorem args_fin : ∀ a ∈ argRefs, a ∉ finW := ListAll.forall_mem_of_all_decide (by decide +kernel)
theorem B2_args (c : Dev nD) (a : Ref sig .tc) (h : a ∈ argRefs) : B2 m ρ c (Proc.devRef .tc a) = m ((c : Thread nD τ).loc a) :=
  (B2_of m ρ c a (args_prep a h)).trans ((B1_of m ρ c a (args_in0 a h)).trans rfl)
/-- No part of the program changes an argument. -/
theorem B5_args (c : Dev nD) (a : Ref sig .tc) (h : a ∈ argRefs) : B5 m ρ c (Proc.devRef .tc a) = m ((c : Thread nD τ).loc a) :=
  (B5_of m ρ c a (args_fin a h)).trans ((B4_of m ρ c a (args_in2 a h)).trans ((B3_of m ρ c a (args_in1 a h)).trans (B2_args m ρ c a h)))

/-! ## The parts as segments -/

/-- No call has a prefetched table. -/
abbrev noTables : (p : Fin 3) → (pcfgs (F := F) p).Adm := fun p => (cfgs p).toPCfg_adm
/-- The proof data of the three calls. -/
def pdats : (p : Fin 3) → (c : Dev nD) → Dat τ (Elt F) Unit ℕ (UR sig nD τ) ℕ (Pipeline.pin (pcfgs (F := F)) noTables p) c
  | ⟨0, _⟩ => fun c => dat0 (V0 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
/-- Beside the buffers: the generator register, and nothing owed. -/
abbrev R (c : Dev nD) : sProp 𝕄 := iprop((∃ r, prngReg c r) ∗ ∃ W, owes (c : Thread nD τ) (0 : CellTallies nD τ sig Unit) W)
/-- A host stretch entered at the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The end: every buffer at `B5`. -/
abbrev Tₙ (c : Dev nD) : sProp 𝕄 := iprop(StableHlo.held (c : Thread nD τ) (Pipeline.ucRefs τ sig) (B5 m ρ c) ∗ ∃ r, prngReg c r)

set_option backward.isDefEq.respectTransparency.types false in
/-- The statistics call as a segment, from `B0` to `B1`. -/
def reg0 : Pipeline.RegionSeg (pcfgs (F := F)) noTables (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (B0 m ρ c) ∗ R c)
  post c := iprop(StableHlo.held (c : Thread nD τ) (Pipeline.ucRefs τ sig) (B1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) noTables (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have henter := entry0 (V0 m ρ) c
    unfold Pipeline.ΦA at henter
    rw [show (pdats m ρ 0 c).Φ 0 = (dat0 (V0 m ρ) c).Φ 0 from rfl]
    iintro ⟨Hp, -, Hr⟩
    iapply henter
    isplitl [Hr]; · iexact Hr
    iexact Hp
  hout c := by
    have hleave := exit0 (V0 m ρ) c
    unfold Pipeline.ΦA at hleave
    rw [Pipeline.ownSems0_none, show (pdats m ρ 0 c).Φ (Fin.last _) = (dat0 (V0 m ρ) c).Φ (Fin.last cfg0.N) from rfl]
    iintro H
    ihave H' := hleave $$ H
    icases H' with ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The message call as a segment, from `B2` to `B3`. -/
def reg1 : Pipeline.RegionSeg (pcfgs (F := F)) noTables (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (B2 m ρ c) ∗ R c)
  post c := iprop(StableHlo.held (c : Thread nD τ) (Pipeline.ucRefs τ sig) (B3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) noTables (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have henter := entry1 (V2 m ρ) c
    unfold Pipeline.ΦA at henter
    rw [show (pdats m ρ 1 c).Φ 0 = (dat1 (V2 m ρ) c).Φ 0 from rfl]
    iintro ⟨Hp, -, Hr⟩
    iapply henter
    isplitl [Hr]; · iexact Hr
    iexact Hp
  hout c := by
    have hleave := exit1 (V2 m ρ) c
    unfold Pipeline.ΦA at hleave
    rw [Pipeline.ownSems0_none, show (pdats m ρ 1 c).Φ (Fin.last _) = (dat1 (V2 m ρ) c).Φ (Fin.last cfg1.N) from rfl]
    iintro H
    ihave H' := hleave $$ H
    icases H' with ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (left1 m ρ c) (kept1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The decoder call as a segment, from `B3` to `B4`. -/
def reg2 : Pipeline.RegionSeg (pcfgs (F := F)) noTables (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) noTables (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) noTables (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (left2 m ρ c) (kept2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The program's parts in order. -/
abbrev segs : List (Pipeline.Seg (pcfgs (F := F)) noTables (pdats m ρ) () defs₀ 𝒱₀ L lv) :=
  [ .region (reg0 m ρ),
    .host (hseg hostOps1 hostOps1_sub prep_fresh (B1 m ρ)),
    .region (reg1 m ρ),
    .region (reg2 m ρ),
    .host (hseg hostOps3 hostOps3_sub fin_fresh (B4 m ρ)) ]
theorem main_run (c : Dev nD) : main (F := F) c = Pipeline.Seg.run (segs m ρ) := (main_chain c).trans (by chain_rfl)
theorem no_unscoped : ∀ sm : SemLoc sig, sm.isScoped .tc = true := by decide

set_option backward.isDefEq.respectTransparency.types false in
/-- Every execution ends, with every buffer at `B5` and every semaphore at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = B5 m ρ c b) ∧ r.2.sem = fun _ => 0) :=
  Pipeline.θ_run_regions_kit_sems (pcfgs (F := F)) noTables (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m ρ c b)
    (hfin := fun c s' => by
      iintro ⟨⟨Hh, -⟩, HSI⟩
      unfold StableHlo.held
      imodintro
      iapply (pointsTo_read_all (Pipeline.ucRefs τ sig) (fun b => (((c : Thread nD τ)).1, b)) (B5 m ρ c) s')
      isplitl [Hh] <;> iassumption)
    (hQ := fun s h hz => ⟨fun c => h c, funext fun g => hz g (.inr (no_unscoped g.2))⟩)

/-- Every execution ends with the arguments as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  (θ_run defs _ _).mono (fun r h => ⟨fun c => ⟨(h.1 c _ (mem_uc main_arg0 (by decide))).trans (B5_args m ρ c main_arg0 (by decide)),
    (h.1 c _ (mem_uc main_arg1 (by decide))).trans (B5_args m ρ c main_arg1 (by decide)),
    (h.1 c _ (mem_uc main_arg2 (by decide))).trans (B5_args m ρ c main_arg2 (by decide)),
    (h.1 c _ (mem_uc main_arg3 (by decide))).trans (B5_args m ρ c main_arg3 (by decide)),
    (h.1 c _ (mem_uc main_arg4 (by decide))).trans (B5_args m ρ c main_arg4 (by decide)),
    (h.1 c _ (mem_uc main_arg5 (by decide))).trans (B5_args m ρ c main_arg5 (by decide)),
    (h.1 c _ (mem_uc main_arg6 (by decide))).trans (B5_args m ρ c main_arg6 (by decide)),
    (h.1 c _ (mem_uc main_arg7 (by decide))).trans (B5_args m ρ c main_arg7 (by decide)),
    (h.1 c _ (mem_uc main_arg8 (by decide))).trans (B5_args m ρ c main_arg8 (by decide)),
    (h.1 c _ (mem_uc main_arg9 (by decide))).trans (B5_args m ρ c main_arg9 (by decide)),
    (h.1 c _ (mem_uc main_arg10 (by decide))).trans (B5_args m ρ c main_arg10 (by decide)),
    (h.1 c _ (mem_uc main_arg11 (by decide))).trans (B5_args m ρ c main_arg11 (by decide)),
    (h.1 c _ (mem_uc main_arg12 (by decide))).trans (B5_args m ρ c main_arg12 (by decide)),
    (h.1 c _ (mem_uc main_arg13 (by decide))).trans (B5_args m ρ c main_arg13 (by decide)),
    (h.1 c _ (mem_uc main_arg14 (by decide))).trans (B5_args m ρ c main_arg14 (by decide)),
    (h.1 c _ (mem_uc main_arg15 (by decide))).trans (B5_args m ρ c main_arg15 (by decide)),
    (h.1 c _ (mem_uc main_arg16 (by decide))).trans (B5_args m ρ c main_arg16 (by decide)),
    (h.1 c _ (mem_uc main_arg17 (by decide))).trans (B5_args m ρ c main_arg17 (by decide))⟩, h.2⟩) (run m ρ)

end Cert.KernelIdeal.Run

end
-- ==== Proof.Run.Transport.lean ====
module

public import proofs.«01_k».proof.Proof.Run.Whole
public import proofs.«01_k».proof.Proof.Gen.Kernel
public import proofs.«01_k».proof.Proof.Gen.KernelIdeal
public import Idealize.ShloMosaic.Lib.Tactic

/-! # The frame of the compiled program

The program printed for bits and the program printed for the ideal numbers are the same text, so what is shown of the one
at every reading of the floats holds of the other. -/

@[expose] public section

set_option maxRecDepth 16384

namespace Cert.Transport

open Idealize.ShloMosaic Idealize.ShloMosaic.TcCoe Idealize.ShloMosaic.Tactic
open Idealize.SL Idealize.SL.Sem

/-- Every execution ends with the arguments as launched and every semaphore at zero. -/
def FrameIdeal (F : FTy → Type) [FloatOps F] : Prop :=
  open Cert.KernelIdeal in
  ∀ (m : (ℓ : Loc nD τ sig) → Buf (Elt F) ℓ) (ρ : Dev nD → PrngReg),
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0)

/-- Every execution ends with the arguments as launched and every semaphore at zero. -/
def FrameBits (F : FTy → Type) [FloatOps F] : Prop :=
  open Cert.Kernel in
  ∀ (m : (ℓ : Loc nD τ sig) → Buf (Elt F) ℓ) (ρ : Dev nD → PrngReg),
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0)

theorem same (F : FTy → Type) [FloatOps F] : FrameIdeal F = FrameBits F := by sl_kernel_rfl

theorem frame (F : FTy → Type) [FloatOps F] : FrameBits F :=
  (same F) ▸ (fun m ρ => Cert.KernelIdeal.Run.frame m ρ : FrameIdeal F)

end Cert.Transport
-- ==== Proof.Value.Scalar.lean ====
module

public import Idealize.ShloMosaic.Lib.Pointwise

/-! # The numbers behind one step: small facts on extended reals, with no array in sight. -/

@[expose] public section

noncomputable section

namespace Cert.Value

open Idealize.ShloMosaic

/-- The reciprocal square root of a degree, and zero for a degree that is not positive. -/
def degInv (x : EReal) : EReal := if 0 < x then Ideal.rsqrt (max x (Ideal.ofBits .f32 0x322BCC77#32)) else 0

/-- A sum over `J` blocks of `n` places is the sum over all places. -/
theorem sum_blocks {J n K : ℕ} (h : J * n = K) (f : Fin K → EReal) :
    ∑ s : Fin J, ∑ k : Fin n, f ⟨s.val * n + k.val, by
      have := s.isLt; have := k.isLt; have h2 : (s.val + 1) * n ≤ J * n := Nat.mul_le_mul_right n (by omega)
      rw [Nat.add_mul] at h2; omega⟩ = ∑ l : Fin K, f l := by
  subst h
  rw [← finProdFinEquiv.sum_comp, Fintype.sum_prod_type]
  refine Finset.sum_congr rfl fun s _ => Finset.sum_congr rfl fun k _ => congrArg f (Fin.ext ?_)
  simp [finProdFinEquiv, Nat.mul_comm, Nat.add_comm]

end Cert.Value
end
-- ==== Proof.Value.Stats.lean ====
module

public import proofs.«01_k».proof.Proof.Run.Stats
public import proofs.«01_k».proof.Proof.Value.Scalar
public import Idealize.ShloMosaic.Lib.Pipeline.ValueKit

/-! # The statistics region's three results, entry by entry -/

@[expose] public section

set_option maxRecDepth 16384

noncomputable section

namespace Cert.KernelIdeal.Value

open Cert.KernelIdeal Cert.KernelIdeal.Gen Cert.KernelIdeal.Run Cert.Value
open Idealize.ShloMosaic Idealize.ShloMosaic.TcCoe Idealize.ShloMosaic.Tactic
open Idealize.ShloMosaic.Pipeline (Dat)

/-! ## The payloads -/

theorem pay3_at (x : Vec Ideal S5x400x2000 .f32) (u : Fin 400) (k : Fin 5) :
    (k0_pay3 x : FVec Ideal S400x5 .f32) (ix2 u k) = degInv (∑ v, x (ix3 k u v)) := by
  pointwise [k0_pay3, degInv]

theorem pay4_at (x : Vec Ideal S5x400x2000 .f32) (v : Fin 2000) (k : Fin 5) :
    (k0_pay4 x : FVec Ideal S2000x5 .f32) (ix2 v k) = ∑ u, x (ix3 k u v) := by
  pointwise [k0_pay4, k0_pay2]

theorem pay5_at (x : Vec Ideal S5x400x2000 .f32) (y : Vec Ideal S2000x5 .f32) (v : Fin 2000) (k : Fin 5) :
    (k0_pay5 x y : FVec Ideal S2000x5 .f32) (ix2 v k) = y (ix2 v k) + ∑ u, x (ix3 k u v) := by
  pointwise [k0_pay5, k0_pay2]

theorem pay6_at (y : Vec Ideal S2000x5 .f32) (v : Fin 2000) (k : Fin 5) :
    (k0_pay6 y : FVec Ideal S2000x5 .f32) (ix2 v k) = degInv (y (ix2 v k)) := by
  pointwise [k0_pay6, degInv]

/-- A user's rating of an item as one number: the sum of the class numbers, each times its class's entry. -/
def rating (x : Fin 5 → EReal) : EReal :=
  x 0 + Ideal.ofBits FTy.f32 1073741824#32 * x 1 + Ideal.ofBits FTy.f32 1077936128#32 * x 2 + Ideal.ofBits FTy.f32 1082130432#32 * x 3
    + Ideal.ofBits FTy.f32 1084227584#32 * x 4

theorem valBlock_at (x : Vec Ideal S5x400x2000 .f32) (u : Fin 400) (v : Fin 2000) :
    (valBlock x : FVec Ideal S400x2000 .bf16) (ix2 u v) = rating fun k => x (ix3 k u v) := by
  pointwise [valBlock, k0_pay1, k0_pay7, k0_pay8, rating]

/-! ## The blocks -/

variable (V : (c : Dev nD) → (b : Ref sig .tc) → Buf (Elt Ideal) ((c : Thread nD τ).loc b)) (c : Dev nD)

theorem idx0 : ∀ t : Fin cfg0.N, win0_0.index t = ![0, t.val, 0] ∧ win0_1.index t = ![t.val, 0] ∧ win0_2.index t = ![0, 0]
    ∧ win0_3.index t = ![t.val, 0] := (by decide +kernel : ∀ t : Fin grid0.N, _)

/-- The ratings as the region finds them. -/
abbrev ratings0 : FVec Ideal S5x2000x2000 .f32 := V c main_arg17

theorem lt0 (t : Fin cfg0.N) (u : Fin 400) : t.val * 400 + u.val < 2000 := by
  have h : t.val < 5 := t.isLt
  have := u.isLt; omega

theorem rBlk_at (t : Fin cfg0.N) (k : Fin 5) (u : Fin 400) (v : Fin 2000) :
    rBlk V c t (ix3 k u v) = ratings0 V c (ix3 k ⟨t.val * 400 + u.val, lt0 t u⟩ v) := by
  blk_ext [rBlk, iblk0, ratings0, idx0 t]

/-- The users' degrees. -/
theorem users0 : (dat0 V c).arrAt 1 cfg0.N = (fun i => degInv (∑ v : Fin 2000, ratings0 V c (ix3 (i 1) (i 0) v)) : FVec Ideal S2000x5 .f32) := by
  refine (dat0 V c).arrAt_eq_of_covers 1 _ (by decide +kernel) fun t hf y => ?_
  blk_simp
  rw [after0_1]
  refine ((congrArg _ (eq_ix2 y)).trans (pay3_at _ (y 0) (y 1))).trans (congrArg degInv (Finset.sum_congr rfl fun v _ => ?_))
  refine (rBlk_at V c t (y 1) (y 0) v).trans ?_
  blk_ext [idx0 t]

/-- The ratings, each one number. -/
theorem values0 : (dat0 V c).arrAt 3 cfg0.N = (fun i => rating fun k => ratings0 V c (ix3 k (i 0) (i 1)) : FVec Ideal S2000x2000 .bf16) := by
  refine (dat0 V c).arrAt_eq_of_covers 3 _ (by decide +kernel) fun t hf y => ?_
  blk_simp
  rw [after0_3]
  refine ((congrArg _ (eq_ix2 y)).trans (valBlock_at _ (y 0) (y 1))).trans (congrArg rating (funext fun k => ?_))
  refine (rBlk_at V c t k (y 0) (y 1)).trans ?_
  blk_ext [idx0 t]

theorem colAcc_at (v : Fin 2000) (k : Fin 5) : ∀ (n : ℕ) (h : n < cfg0.N),
    colAcc (rBlk V c) n h (ix2 v k) = ∑ s : Fin (n + 1), ∑ u : Fin 400, ratings0 V c (ix3 k ⟨s.val * 400 + u.val, lt0 ⟨s.val, by omega⟩ u⟩ v)
  | 0, h => by
      refine (pay4_at _ v k).trans ?_
      rw [Fin.sum_univ_one]
      exact Finset.sum_congr rfl fun u _ => rBlk_at V c ⟨0, h⟩ k u v
  | n + 1, h => by
      refine (pay5_at _ _ v k).trans ?_
      refine Eq.trans ?_ (Fin.sum_univ_castSucc _).symm
      exact congrArg₂ _ (colAcc_at v k n (by omega)) (Finset.sum_congr rfl fun u _ => rBlk_at V c ⟨n + 1, h⟩ k u v)

/-- The items' degrees. -/
theorem items0 : (dat0 V c).arrAt 2 cfg0.N = (fun i => degInv (∑ u : Fin 2000, ratings0 V c (ix3 (i 1) u (i 0))) : FVec Ideal S2000x5 .f32) := by
  refine (dat0 V c).arrAt_eq_of_covers 2 _ (by decide +kernel) fun t hf y => ?_
  blk_simp
  rw [after0_2]
  have ht : t.val = 4 := (by decide +kernel : ∀ t : Fin grid0.N, win0_2.flush t = true → t.val = 4) t hf
  refine ((congrArg _ (eq_ix2 y)).trans (pay6_at _ (y 0) (y 1))).trans (congrArg degInv ?_)
  refine (colAcc_at V c (y 0) (y 1) t.val t.isLt).trans ?_
  have e : ∀ (n : ℕ) (h : n < cfg0.N), n = 4 →
      (∑ s : Fin (n + 1), ∑ u : Fin 400, ratings0 V c (ix3 (y 1) ⟨s.val * 400 + u.val, lt0 ⟨s.val, by omega⟩ u⟩ (y 0)) : EReal)
        = ∑ u : Fin 2000, ratings0 V c (ix3 (y 1) u (y 0)) := by
    rintro n h rfl
    exact sum_blocks (by decide) fun u => ratings0 V c (ix3 (y 1) u (y 0))
  refine (e _ t.isLt ht).trans (Finset.sum_congr rfl fun u _ => ?_)
  blk_ext [idx0 t]

end Cert.KernelIdeal.Value
end
-- ==== Proof.Value.Layers.lean ====
module

public import proofs.«01_k».proof.Proof.Run.MessageBody
public import Idealize.ShloMosaic.Lib.Pointwise
public import Idealize.ShloMosaic.Lib.Pipeline.ValueKit

@[expose] public section

set_option maxRecDepth 16384

noncomputable section

namespace Cert.KernelIdeal.Value

open Cert.KernelIdeal Cert.KernelIdeal.Gen Cert.KernelIdeal.Run
open Idealize.ShloMosaic Idealize.ShloMosaic.TcCoe Idealize.ShloMosaic.Tactic
open Idealize.ShloMosaic.Pipeline (Dat)

variable {S : Shape}

/-- The sum over the classes up to `k`. -/
theorem upTo_at (f : Fin 5 → FVec Ideal S .f32) (k : Fin 5) (i : S.Idx) : upTo f k i = ∑ j : Fin 5, if j ≤ k then f j i else 0 := by
  fin_cases k <;> simp [Fin.sum_univ_succ] <;> pointwise [upTo] <;> simp only [add_assoc]

theorem enc_at (x0 : Vec Ideal S2000x512 .f32) (x1 : Vec Ideal S2000x128 .f32) (x4 : Vec Ideal S512x256 .f32) (x5 : Vec Ideal S128x256 .f32) (x6 : Vec Ideal S1x256 .f32)
    (u : Fin 2000) (d : Fin 256) : userFeat x0 x1 x4 x5 x6 (ix2 u d)
      = max (∑ x, x0 (ix2 u x) * x4 (ix2 x d) + ∑ x, x1 (ix2 u x) * x5 (ix2 x d) + x6 (ix2 0 d)) 0 := by
  pointwise [userFeat, k1_pay4]

theorem itemFeat_at (x2 : Vec Ideal S2000x512 .f32) (x3 : Vec Ideal S2000x128 .f32) (x7 : Vec Ideal S512x256 .f32) (x8 : Vec Ideal S128x256 .f32) (x9 : Vec Ideal S1x256 .f32)
    (u : Fin 2000) (d : Fin 256) : itemFeat x2 x3 x7 x8 x9 (ix2 u d)
      = max (∑ x, x2 (ix2 u x) * x7 (ix2 x d) + ∑ x, x3 (ix2 u x) * x8 (ix2 x d) + x9 (ix2 0 d)) 0 := by
  pointwise [itemFeat, k1_pay5]

theorem drop_weight (x : Vec Ideal S1x256x256 .f32) (a : Fin 256) (b : Fin 256) : shapeCast S256x256 x shapeCasts_S1x256x256_S256x256 (ix2 a b) = x (ix3 0 a b) := by
  pointwise

theorem weight_at (g : Vec Ideal S5x256x256 .f32) (k : Fin 5) (d h : Fin 256) : weight g k (ix2 d h) = g (ix3 k d h) := by
  refine (drop_weight _ d h).trans ?_
  pointwise

theorem col_at (d : Vec Ideal S2000x5 .f32) (k : Fin 5) (v : Fin 2000) : col d k (ix2 v 0) = d (ix2 v k) := by
  pointwise [col]
theorem tileCol_at (d : Vec Ideal S400x5 .f32) (k : Fin 5) (v : Fin 400) : tileCol d k (ix2 v 0) = d (ix2 v k) := by
  pointwise [tileCol]
theorem spread_at (d : Vec Ideal S2000x5 .f32) (k : Fin 5) (v : Fin 2000) (h : Fin 256) : spread d k (ix2 v h) = d (ix2 v k) := by
  refine Eq.trans ?_ (col_at d k v); pointwise [spread]

theorem itemMsg_at (z : FVec Ideal S2000x256 .f32) (g : Vec Ideal S5x256x256 .f32) (d : Vec Ideal S2000x5 .f32) (k : Fin 5) (v : Fin 2000) (h : Fin 256) :
    itemMsg z g d k (ix2 v h) = (∑ x, z (ix2 v x) * ∑ j : Fin 5, if j ≤ k then g (ix3 j x h) else 0) * d (ix2 v k) := by
  have e : itemMsg z g d k (ix2 v h) = (∑ x, z (ix2 v x) * upTo (weight g) k (ix2 x h)) * spread d k (ix2 v h) := by pointwise [itemMsg]
  simp only [e, upTo_at, weight_at, spread_at]

theorem userMsg_at (z : FVec Ideal S2000x256 .f32) (g : Vec Ideal S5x256x256 .f32) (k : Fin 5) (v : Fin 2000) (h : Fin 256) :
    userMsg z g k (ix2 v h) = ∑ x, z (ix2 v x) * ∑ j : Fin 5, if j ≤ k then g (ix3 j x h) else 0 := by
  have e : userMsg z g k (ix2 v h) = ∑ x, z (ix2 v x) * upTo (weight g) k (ix2 x h) := by pointwise [userMsg]
  simp only [e, upTo_at, weight_at]

/-- The number of a class, 1 to 5, as the kernel writes it. -/
def classVal (k : Fin 5) : EReal := Ideal.ofBits FTy.bf16 (classWord k)

theorem mask_at (v : Vec Ideal S400x2000 .bf16) (d : Vec Ideal S400x5 .f32) (k : Fin 5) (u : Fin 400) (h : Fin 2000) :
    mask v d k (ix2 u h) = if v (ix2 u h) = classVal k then d (ix2 u k) else 0 := by
  have e : mask v d k (ix2 u h) = if v (ix2 u h) = Ideal.ofBits FTy.bf16 (classWord k) then tileCol d k (ix2 u 0) else 0 := by pointwise [mask]
  rw [e, tileCol_at]; rfl

theorem block_at (w : Fin 5 → Vec Ideal S2000x256 .bf16) (k : Fin 5) (v : Fin 2000) (h : Fin 256) : block (stackRows w) k (ix2 v h) = w k (ix2 v h) := by
  have hl : 2000 * k.val + v.val < 10000 := by have := k.isLt; have := v.isLt; omega
  have e : block (stackRows w) k (ix2 v h) = stackRows w (ix2 ⟨2000 * k.val + v.val, hl⟩ h) := by pointwise [block]
  rw [e]
  have hk : (2000 * k.val + v.val) / 2000 = k.val := by have := v.isLt; omega
  have hv : (2000 * k.val + v.val) % 2000 = v.val := by have := v.isLt; omega
  have h1 : (⟨(2000 * k.val + v.val) / 2000, by have := k.isLt; omega⟩ : Fin 5) = k := Fin.ext hk
  have h2 : (⟨(2000 * k.val + v.val) % 2000, Nat.mod_lt _ (by decide)⟩ : Fin 2000) = v := Fin.ext hv
  exact congrArg₂ (fun a b => w a (ix2 b h)) h1 h2

theorem tile_at (w : Fin 5 → Vec Ideal S2000x256 .bf16) (n k : Fin 5) (v : Fin 400) (h : Fin 256) :
    tile (stackRows w) n k (ix2 v h) = w k (ix2 ⟨n.val * 400 + v.val, by have := n.isLt; have := v.isLt; omega⟩ h) := by
  have hl : 2000 * k.val + 400 * n.val + v.val < 10000 := by have := k.isLt; have := v.isLt; have := n.isLt; omega
  have e : tile (stackRows w) n k (ix2 v h) = stackRows w (ix2 ⟨2000 * k.val + 400 * n.val + v.val, hl⟩ h) := by pointwise [tile]
  rw [e]
  have hk : (2000 * k.val + 400 * n.val + v.val) / 2000 = k.val := by have := v.isLt; have := n.isLt; omega
  have hv : (2000 * k.val + 400 * n.val + v.val) % 2000 = n.val * 400 + v.val := by have := v.isLt; have := n.isLt; omega
  have h1 : (⟨(2000 * k.val + 400 * n.val + v.val) / 2000, by have := k.isLt; omega⟩ : Fin 5) = k := Fin.ext hk
  have h2 : (⟨(2000 * k.val + 400 * n.val + v.val) % 2000, Nat.mod_lt _ (by decide)⟩ : Fin 2000) = ⟨n.val * 400 + v.val, by have := n.isLt; have := v.isLt; omega⟩ := Fin.ext hv
  exact congrArg₂ (fun a b => w a (ix2 b h)) h1 h2

theorem userShare_at (v : Vec Ideal S400x2000 .bf16) (d : Vec Ideal S400x5 .f32) (w : Fin 5 → Vec Ideal S2000x256 .bf16) (k : Fin 5) (u : Fin 400) (h : Fin 256) :
    userShare v d (stackRows w) k (ix2 u h) = ∑ x, (if v (ix2 u x) = classVal k then d (ix2 u k) else 0) * w k (ix2 x h) := by
  have e : userShare v d (stackRows w) k (ix2 u h) = ∑ x, mask v d k (ix2 u x) * block (stackRows w) k (ix2 x h) := by pointwise [userShare]
  simp only [e, mask_at, block_at]

theorem itemShare_at (v : Vec Ideal S400x2000 .bf16) (d : Vec Ideal S400x5 .f32) (w : Fin 5 → Vec Ideal S2000x256 .bf16) (n k : Fin 5) (x : Fin 2000) (h : Fin 256) :
    itemShare v d (stackRows w) n k (ix2 x h)
      = ∑ u : Fin 400, (if v (ix2 u x) = classVal k then d (ix2 u k) else 0) * w k (ix2 ⟨n.val * 400 + u.val, by have := n.isLt; have := u.isLt; omega⟩ h) := by
  have e : itemShare v d (stackRows w) n k (ix2 x h) = ∑ u, mask v d k (ix2 u x) * tile (stackRows w) n k (ix2 u h) := by pointwise [itemShare]
  simp only [e, mask_at, tile_at]

theorem userHid_at (v : Vec Ideal S400x2000 .bf16) (d : Vec Ideal S400x5 .f32) (w : Fin 5 → Vec Ideal S2000x256 .bf16) (b : Vec Ideal S1x256 .f32) (w2 : Vec Ideal S256x128 .f32)
    (b2 : Vec Ideal S1x128 .f32) (u : Fin 400) (e : Fin 128) :
    userHid v d (stackRows w) b w2 b2 (ix2 u e)
      = ∑ h, Ideal.tanh ((∑ k : Fin 5, ∑ x, (if v (ix2 u x) = classVal k then d (ix2 u k) else 0) * w k (ix2 x h)) + b (ix2 0 h)) * w2 (ix2 h e) + b2 (ix2 0 e) := by
  have e : userHid v d (stackRows w) b w2 b2 (ix2 u e)
      = ∑ h, Ideal.tanh (upTo (userShare v d (stackRows w)) 4 (ix2 u h) + b (ix2 0 h)) * w2 (ix2 h e) + b2 (ix2 0 e) := by pointwise [userHid]
  rw [e]
  have hs : ∀ h : Fin 256, upTo (userShare v d (stackRows w)) 4 (ix2 u h) = ∑ k : Fin 5, ∑ x, (if v (ix2 u x) = classVal k then d (ix2 u k) else 0) * w k (ix2 x h) := fun h => by
    rw [upTo_at]
    refine Finset.sum_congr rfl fun k _ => ?_
    rw [if_pos (show k ≤ 4 from Fin.le_last k)]
    exact userShare_at v d w k u h
  simp only [hs]

theorem drop_basisMat (x : Vec Ideal S1x128x128 .f32) (a : Fin 128) (b : Fin 128) : shapeCast S128x128 x shapeCasts_S1x128x128_S128x128 (ix2 a b) = x (ix3 0 a b) := by
  pointwise

theorem basisMat_at (p : Vec Ideal S2x128x128 .f32) (r : Fin 2) (d e : Fin 128) : basisMat p r (ix2 d e) = p (ix3 r d e) := by
  refine (drop_basisMat _ d e).trans ?_
  pointwise

theorem userBasis_at (x : FVec Ideal S400x128 .f32) (p : Vec Ideal S2x128x128 .f32) (r : Fin 2) (u : Fin 400) (e : Fin 128) :
    userBasis x p r (ix2 u e) = ∑ d, x (ix2 u d) * p (ix3 r d e) := by
  have e : userBasis x p r (ix2 u e) = ∑ d, x (ix2 u d) * basisMat p r (ix2 d e) := by pointwise [userBasis]
  simp only [e, basisMat_at]

theorem coef0_at (a : Vec Ideal S5x2 .f32) (k : Fin 5) : coef0 a k = a (ix2 k 0) := by fin_cases k <;> pointwise [coef0]
theorem coef1_at (a : Vec Ideal S5x2 .f32) (k : Fin 5) : coef1 a k = a (ix2 k 1) := by fin_cases k <;> pointwise [coef1]

theorem queryOf_at (x : FVec Ideal S400x128 .f32) (p : Vec Ideal S2x128x128 .f32) (a : Vec Ideal S5x2 .f32) (k : Fin 5) (u : Fin 400) (e : Fin 128) :
    queryOf x p a k (ix2 u e) = (∑ d, x (ix2 u d) * p (ix3 0 d e)) * a (ix2 k 0) + (∑ d, x (ix2 u d) * p (ix3 1 d e)) * a (ix2 k 1) := by
  have e : queryOf x p a k (ix2 u e) = userBasis x p 0 (ix2 u e) * coef0 a k + userBasis x p 1 (ix2 u e) * coef1 a k := by pointwise [queryOf]
  rw [e, userBasis_at, userBasis_at, coef0_at, coef1_at]

theorem drop_itemPlane (x : Vec Ideal S1x2000x256 .f32) (a : Fin 2000) (b : Fin 256) : shapeCast S2000x256 x shapeCasts_S1x2000x256_S2000x256 (ix2 a b) = x (ix3 0 a b) := by
  pointwise

theorem itemPlane_at (s : Vec Ideal S5x2000x256 .f32) (k : Fin 5) (v : Fin 2000) (h : Fin 256) : itemPlane s k (ix2 v h) = s (ix3 k v h) := by
  refine (drop_itemPlane _ v h).trans ?_
  pointwise

theorem itemHid_at (s : Vec Ideal S5x2000x256 .f32) (d : Vec Ideal S2000x5 .f32) (b : Vec Ideal S1x256 .f32) (w : Vec Ideal S256x128 .f32) (b2 : Vec Ideal S1x128 .f32)
    (v : Fin 2000) (e : Fin 128) :
    itemHid s d b w b2 (ix2 v e) = ∑ h, Ideal.tanh ((∑ k : Fin 5, s (ix3 k v h) * d (ix2 v k)) + b (ix2 0 h)) * w (ix2 h e) + b2 (ix2 0 e) := by
  have e : itemHid s d b w b2 (ix2 v e)
      = ∑ h, Ideal.tanh (upTo (fun k => mulf (itemPlane s k) (spread d k)) 4 (ix2 v h) + b (ix2 0 h)) * w (ix2 h e) + b2 (ix2 0 e) := by pointwise [itemHid]
  rw [e]
  have hs : ∀ h : Fin 256, upTo (fun k => mulf (itemPlane s k) (spread d k)) 4 (ix2 v h) = ∑ k : Fin 5, s (ix3 k v h) * d (ix2 v k) := fun h => by
    rw [upTo_at]
    refine Finset.sum_congr rfl fun k _ => ?_
    rw [if_pos (show k ≤ 4 from Fin.le_last k)]
    exact congrArg₂ (· * ·) (itemPlane_at s k v h) (spread_at d k v h)
  simp only [hs]

end Cert.KernelIdeal.Value
end
-- ==== Proof.Value.Message.lean ====
module

public import proofs.«01_k».proof.Proof.Run.Message
public import proofs.«01_k».proof.Proof.Value.Layers
public import proofs.«01_k».proof.Proof.Value.Scalar

/-!
# What the message passing region leaves

The queries of the users and the second layer of the items, entry by entry, as sums over the arrays the region finds.
-/

@[expose] public section

set_option maxRecDepth 16384

noncomputable section

namespace Cert.KernelIdeal.Value

open Cert.KernelIdeal Cert.KernelIdeal.Gen Cert.KernelIdeal.Run Cert.Value
open Idealize.ShloMosaic Idealize.ShloMosaic.TcCoe Idealize.ShloMosaic.Tactic
open Idealize.ShloMosaic.Pipeline (Dat)

variable (V : (c : Dev nD) → (b : Ref sig .tc) → Buf (Elt Ideal) ((c : Thread nD τ).loc b)) (c : Dev nD)

/-! ## The arrays the region finds -/

abbrev uf1 : FVec Ideal S2000x512 .f32 := V c (Pipeline.arrRef spec1 0)
abbrev us1 : FVec Ideal S2000x128 .f32 := V c (Pipeline.arrRef spec1 1)
abbrev vf1 : FVec Ideal S2000x512 .f32 := V c (Pipeline.arrRef spec1 2)
abbrev vs1 : FVec Ideal S2000x128 .f32 := V c (Pipeline.arrRef spec1 3)
abbrev wu1a1 : FVec Ideal S512x256 .f32 := V c (Pipeline.arrRef spec1 4)
abbrev wu1b1 : FVec Ideal S128x256 .f32 := V c (Pipeline.arrRef spec1 5)
abbrev bu11 : FVec Ideal S1x256 .f32 := V c (Pipeline.arrRef spec1 6)
abbrev wv1a1 : FVec Ideal S512x256 .f32 := V c (Pipeline.arrRef spec1 7)
abbrev wv1b1 : FVec Ideal S128x256 .f32 := V c (Pipeline.arrRef spec1 8)
abbrev bv11 : FVec Ideal S1x256 .f32 := V c (Pipeline.arrRef spec1 9)
abbrev gwu1 : FVec Ideal S5x256x256 .f32 := V c (Pipeline.arrRef spec1 10)
abbrev gwv1 : FVec Ideal S5x256x256 .f32 := V c (Pipeline.arrRef spec1 11)
abbrev gbu1 : FVec Ideal S1x256 .f32 := V c (Pipeline.arrRef spec1 12)
abbrev gbv1 : FVec Ideal S1x256 .f32 := V c (Pipeline.arrRef spec1 13)
abbrev wu21 : FVec Ideal S256x128 .f32 := V c (Pipeline.arrRef spec1 14)
abbrev bu21 : FVec Ideal S1x128 .f32 := V c (Pipeline.arrRef spec1 15)
abbrev wv21 : FVec Ideal S256x128 .f32 := V c (Pipeline.arrRef spec1 16)
abbrev bv21 : FVec Ideal S1x128 .f32 := V c (Pipeline.arrRef spec1 17)
abbrev p1 : FVec Ideal S2x128x128 .f32 := V c (Pipeline.arrRef spec1 18)
abbrev a1 : FVec Ideal S5x2 .f32 := V c (Pipeline.arrRef spec1 19)
abbrev du1 : FVec Ideal S2000x5 .f32 := V c (Pipeline.arrRef spec1 20)
abbrev dv1 : FVec Ideal S2000x5 .f32 := V c (Pipeline.arrRef spec1 21)
abbrev val1 : FVec Ideal S2000x2000 .bf16 := V c (Pipeline.arrRef spec1 22)

/-! ## The blocks -/

theorem in1_0_eq (t : Fin cfg1.N) : in1_0 V c t = uf1 V c := funext fun y => by
  have e := (by decide +kernel : ∀ t : Fin grid1.N, win1_0.index t = ![0, 0]) t
  blk_ext [in1_0, iblk1, uf1, e]
theorem in1_1_eq (t : Fin cfg1.N) : in1_1 V c t = us1 V c := funext fun y => by
  have e := (by decide +kernel : ∀ t : Fin grid1.N, win1_1.index t = ![0, 0]) t
  blk_ext [in1_1, iblk1, us1, e]
theorem in1_2_eq (t : Fin cfg1.N) : in1_2 V c t = vf1 V c := funext fun y => by
  have e := (by decide +kernel : ∀ t : Fin grid1.N, win1_2.index t = ![0, 0]) t
  blk_ext [in1_2, iblk1, vf1, e]
theorem in1_3_eq (t : Fin cfg1.N) : in1_3 V c t = vs1 V c := funext fun y => by
  have e := (by decide +kernel : ∀ t : Fin grid1.N, win1_3.index t = ![0, 0]) t
  blk_ext [in1_3, iblk1, vs1, e]
theorem in1_4_eq (t : Fin cfg1.N) : in1_4 V c t = wu1a1 V c := funext fun y => by
  have e := (by decide +kernel : ∀ t : Fin grid1.N, win1_4.index t = ![0, 0]) t
  blk_ext [in1_4, iblk1, wu1a1, e]
theorem in1_5_eq (t : Fin cfg1.N) : in1_5 V c t = wu1b1 V c := funext fun y => by
  have e := (by decide +kernel : ∀ t : Fin grid1.N, win1_5.index t = ![0, 0]) t
  blk_ext [in1_5, iblk1, wu1b1, e]
theorem in1_6_eq (t : Fin cfg1.N) : in1_6 V c t = bu11 V c := funext fun y => by
  have e := (by decide +kernel : ∀ t : Fin grid1.N, win1_6.index t = ![0, 0]) t
  blk_ext [in1_6, iblk1, bu11, e]
theorem in1_7_eq (t : Fin cfg1.N) : in1_7 V c t = wv1a1 V c := funext fun y => by
  have e := (by decide +kernel : ∀ t : Fin grid1.N, win1_7.index t = ![0, 0]) t
  blk_ext [in1_7, iblk1, wv1a1, e]
theorem in1_8_eq (t : Fin cfg1.N) : in1_8 V c t = wv1b1 V c := funext fun y => by
  have e := (by decide +kernel : ∀ t : Fin grid1.N, win1_8.index t = ![0, 0]) t
  blk_ext [in1_8, iblk1, wv1b1, e]
theorem in1_9_eq (t : Fin cfg1.N) : in1_9 V c t = bv11 V c := funext fun y => by
  have e := (by decide +kernel : ∀ t : Fin grid1.N, win1_9.index t = ![0, 0]) t
  blk_ext [in1_9, iblk1, bv11, e]
theorem in1_10_eq (t : Fin cfg1.N) : in1_10 V c t = gwu1 V c := funext fun y => by
  have e := (by decide +kernel : ∀ t : Fin grid1.N, win1_10.index t = ![0, 0, 0]) t
  blk_ext [in1_10, iblk1, gwu1, e]
theorem in1_11_eq (t : Fin cfg1.N) : in1_11 V c t = gwv1 V c := funext fun y => by
  have e := (by decide +kernel : ∀ t : Fin grid1.N, win1_11.index t = ![0, 0, 0]) t
  blk_ext [in1_11, iblk1, gwv1, e]
theorem in1_12_eq (t : Fin cfg1.N) : in1_12 V c t = gbu1 V c := funext fun y => by
  have e := (by decide +kernel : ∀ t : Fin grid1.N, win1_12.index t = ![0, 0]) t
  blk_ext [in1_12, iblk1, gbu1, e]
theorem in1_13_eq (t : Fin cfg1.N) : in1_13 V c t = gbv1 V c := funext fun y => by
  have e := (by decide +kernel : ∀ t : Fin grid1.N, win1_13.index t = ![0, 0]) t
  blk_ext [in1_13, iblk1, gbv1, e]
theorem in1_14_eq (t : Fin cfg1.N) : in1_14 V c t = wu21 V c := funext fun y => by
  have e := (by decide +kernel : ∀ t : Fin grid1.N, win1_14.index t = ![0, 0]) t
  blk_ext [in1_14, iblk1, wu21, e]
theorem in1_15_eq (t : Fin cfg1.N) : in1_15 V c t = bu21 V c := funext fun y => by
  have e := (by decide +kernel : ∀ t : Fin grid1.N, win1_15.index t = ![0, 0]) t
  blk_ext [in1_15, iblk1, bu21, e]
theorem in1_16_eq (t : Fin cfg1.N) : in1_16 V c t = wv21 V c := funext fun y => by
  have e := (by decide +kernel : ∀ t : Fin grid1.N, win1_16.index t = ![0, 0]) t
  blk_ext [in1_16, iblk1, wv21, e]
theorem in1_17_eq (t : Fin cfg1.N) : in1_17 V c t = bv21 V c := funext fun y => by
  have e := (by decide +kernel : ∀ t : Fin grid1.N, win1_17.index t = ![0, 0]) t
  blk_ext [in1_17, iblk1, bv21, e]
theorem in1_18_eq (t : Fin cfg1.N) : in1_18 V c t = p1 V c := funext fun y => by
  have e := (by decide +kernel : ∀ t : Fin grid1.N, win1_18.index t = ![0, 0, 0]) t
  blk_ext [in1_18, iblk1, p1, e]
theorem in1_19_eq (t : Fin cfg1.N) : in1_19 V c t = a1 V c := funext fun y => by
  have e := (by decide +kernel : ∀ t : Fin grid1.N, win1_19.index t = ![0, 0]) t
  blk_ext [in1_19, iblk1, a1, e]
theorem in1_21_eq (t : Fin cfg1.N) : in1_21 V c t = dv1 V c := funext fun y => by
  have e := (by decide +kernel : ∀ t : Fin grid1.N, win1_21.index t = ![0, 0]) t
  blk_ext [in1_21, iblk1, dv1, e]

/-- A tile's user lies among the 2000. -/
theorem lt1 (t : Fin cfg1.N) (u : Fin 400) : (t.val - 1) * 400 + u.val < 2000 := by
  have h : t.val < 6 := t.isLt
  have := u.isLt; omega

theorem idx1 : ∀ t : Fin cfg1.N, win1_20.index t = ![t.val - 1, 0] ∧ win1_22.index t = ![t.val - 1, 0] ∧ win1_23.index t = ![0, t.val - 1, 0]
    ∧ win1_24.index t = ![0, 0] := (by decide +kernel : ∀ t : Fin grid1.N, _)

theorem in1_20_at (t : Fin cfg1.N) (u : Fin 400) (k : Fin 5) : in1_20 V c t (ix2 u k) = du1 V c (ix2 ⟨(t.val - 1) * 400 + u.val, lt1 t u⟩ k) := by
  blk_ext [in1_20, iblk1, du1, idx1 t]

theorem in1_22_at (t : Fin cfg1.N) (u : Fin 400) (v : Fin 2000) : in1_22 V c t (ix2 u v) = val1 V c (ix2 ⟨(t.val - 1) * 400 + u.val, lt1 t u⟩ v) := by
  blk_ext [in1_22, iblk1, val1, idx1 t]

/-! ## The layers -/

/-- The first layer: features and side features against their parts of the weights, the bias added, negative values cut off. -/
def enc (x : FVec Ideal S2000x512 .f32) (y : FVec Ideal S2000x128 .f32) (wx : FVec Ideal S512x256 .f32) (wy : FVec Ideal S128x256 .f32) (b : FVec Ideal S1x256 .f32)
    (u : Fin 2000) (d : Fin 256) : EReal := max (∑ i, x (ix2 u i) * wx (ix2 i d) + ∑ i, y (ix2 u i) * wy (ix2 i d) + b (ix2 0 d)) 0

/-- The weights of the classes up to `k`, added. -/
def cum (g : FVec Ideal S5x256x256 .f32) (k : Fin 5) (d h : Fin 256) : EReal := ∑ j : Fin 5, if j ≤ k then g (ix3 j d h) else 0

/-- The items' messages. -/
def itemMsgs (k : Fin 5) (v : Fin 2000) (h : Fin 256) : EReal :=
  (∑ d, enc (vf1 V c) (vs1 V c) (wv1a1 V c) (wv1b1 V c) (bv11 V c) v d * cum (gwu1 V c) k d h) * dv1 V c (ix2 v k)

/-- The users' messages. -/
def userMsgs (k : Fin 5) (u : Fin 2000) (h : Fin 256) : EReal :=
  ∑ d, enc (uf1 V c) (us1 V c) (wu1a1 V c) (wu1b1 V c) (bu11 V c) u d * cum (gwv1 V c) k d h

/-- The user's degree where the rating has class `k`, zero elsewhere. -/
def edge (k : Fin 5) (u v : Fin 2000) : EReal := if val1 V c (ix2 u v) = classVal k then du1 V c (ix2 u k) else 0

/-- The users' second layer. -/
def userHidden (u : Fin 2000) (e : Fin 128) : EReal :=
  ∑ h, Ideal.tanh ((∑ k : Fin 5, ∑ v, edge V c k u v * itemMsgs V c k v h) + gbu1 V c (ix2 0 h)) * wu21 V c (ix2 h e) + bu21 V c (ix2 0 e)

/-- The items' second layer. -/
def itemHidden (v : Fin 2000) (e : Fin 128) : EReal :=
  ∑ h, Ideal.tanh ((∑ k : Fin 5, (∑ u, edge V c k u v * userMsgs V c k u h) * dv1 V c (ix2 v k)) + gbv1 V c (ix2 0 h)) * wv21 V c (ix2 h e) + bv21 V c (ix2 0 e)

/-- The users' queries for class `k`. -/
def query (k : Fin 5) (u : Fin 2000) (e : Fin 128) : EReal :=
  (∑ d, userHidden V c u d * p1 V c (ix3 0 d e)) * a1 V c (ix2 k 0) + (∑ d, userHidden V c u d * p1 V c (ix3 1 d e)) * a1 V c (ix2 k 1)

theorem edge_at (t : Fin cfg1.N) (k : Fin 5) (u : Fin 400) (v : Fin 2000) :
    (if in1_22 V c t (ix2 u v) = classVal k then in1_20 V c t (ix2 u k) else 0) = edge V c k ⟨(t.val - 1) * 400 + u.val, lt1 t u⟩ v := by
  rw [in1_22_at, in1_20_at]; rfl

/-- The item stack's rows are the items' messages. -/
theorem itemRows_at (k : Fin 5) (v : Fin 2000) (h : Fin 256) :
    itemMsg (itemFeat (in1_2 V c t0) (in1_3 V c t0) (in1_7 V c t0) (in1_8 V c t0) (in1_9 V c t0)) (in1_10 V c t0) (in1_21 V c t0) k (ix2 v h) = itemMsgs V c k v h := by
  rw [itemMsg_at, in1_2_eq, in1_3_eq, in1_7_eq, in1_8_eq, in1_9_eq, in1_10_eq, in1_21_eq]
  simp only [itemFeat_at]; rfl

/-- The user stack's rows are the users' messages. -/
theorem userRows_at (k : Fin 5) (u : Fin 2000) (h : Fin 256) :
    userMsg (userFeat (in1_0 V c t0) (in1_1 V c t0) (in1_4 V c t0) (in1_5 V c t0) (in1_6 V c t0)) (in1_11 V c t0) k (ix2 u h) = userMsgs V c k u h := by
  rw [userMsg_at, in1_0_eq, in1_1_eq, in1_4_eq, in1_5_eq, in1_6_eq, in1_11_eq]
  simp only [enc_at]; rfl

theorem userHidden_at (t : Fin cfg1.N) (u : Fin 400) (e : Fin 128) :
    userHid (in1_22 V c t) (in1_20 V c t) (itemStack V c) (in1_12 V c t) (in1_14 V c t) (in1_15 V c t) (ix2 u e)
      = userHidden V c ⟨(t.val - 1) * 400 + u.val, lt1 t u⟩ e := by
  unfold itemStack userHidden
  refine (userHid_at _ _ _ _ _ _ u e).trans ?_
  exact congrArg₂ (· + ·) (Finset.sum_congr rfl fun h _ => congrArg₂ (· * ·) (congrArg Ideal.tanh (congrArg₂ (· + ·)
    (Finset.sum_congr rfl fun k _ => Finset.sum_congr rfl fun v _ => congrArg₂ (· * ·) (edge_at V c t k u v) (itemRows_at V c k v h))
    (congrFun (in1_12_eq V c t) _))) (congrFun (in1_14_eq V c t) _)) (congrFun (in1_15_eq V c t) _)

theorem query_at (t : Fin cfg1.N) (k : Fin 5) (u : Fin 400) (e : Fin 128) :
    queryOf (userHid (in1_22 V c t) (in1_20 V c t) (itemStack V c) (in1_12 V c t) (in1_14 V c t) (in1_15 V c t)) (in1_18 V c t) (in1_19 V c t) k (ix2 u e)
      = query V c k ⟨(t.val - 1) * 400 + u.val, lt1 t u⟩ e := by
  unfold query
  refine (queryOf_at _ _ _ k u e).trans ?_
  exact congrArg₂ (· + ·)
    (congrArg₂ (· * ·) (Finset.sum_congr rfl fun d _ => congrArg₂ (· * ·) (userHidden_at V c t u d) (congrFun (in1_18_eq V c t) _)) (congrFun (in1_19_eq V c t) _))
    (congrArg₂ (· * ·) (Finset.sum_congr rfl fun d _ => congrArg₂ (· * ·) (userHidden_at V c t u d) (congrFun (in1_18_eq V c t) _)) (congrFun (in1_19_eq V c t) _))

theorem queries_at (t : Fin cfg1.N) (k : Fin 5) (u : Fin 400) (e : Fin 128) :
    queries (in1_22 V c t) (in1_20 V c t) (itemStack V c) (in1_12 V c t) (in1_14 V c t) (in1_15 V c t) (in1_18 V c t) (in1_19 V c t) (ix3 k u e)
      = query V c k ⟨(t.val - 1) * 400 + u.val, lt1 t u⟩ e := by
  unfold queries
  exact query_at V c t k u e

/-- The queries. -/
theorem queries1 : (dat1 V c).arrAt 23 cfg1.N = (fun i => query V c (i 0) (i 1) (i 2) : FVec Ideal S5x2000x128 .f32) := by
  refine (dat1 V c).arrAt_eq_of_covers 23 _ (by decide +kernel) fun t hf y => ?_
  blk_simp
  rw [after1_23]
  have hq := queries_at V c t
  generalize queries (in1_22 V c t) (in1_20 V c t) (itemStack V c) (in1_12 V c t) (in1_14 V c t) (in1_15 V c t) (in1_18 V c t) (in1_19 V c t) = q at hq ⊢
  generalize query V c = g at hq ⊢
  refine ((congrArg _ (eq_ix3 y)).trans (hq (y 0) (y 1) (y 2))).trans ?_
  suffices h : ∀ f : FVec Ideal S5x2000x128 .f32, f (ix3 (y 0) ⟨(t.val - 1) * 400 + (y 1).val, lt1 t (y 1)⟩ (y 2)) = f ((win1_23.blk t).view.emb y) from
    h fun i => g (i 0) (i 1) (i 2)
  intro f
  blk_ext [idx1 t]

theorem row_lt (s : ℕ) (hs : s < 5) (u : Fin 400) : s * 400 + u.val < 2000 := by have := u.isLt; omega

theorem tile_val : ∀ t : Fin cfg1.N, (tileOf t).val = t.val - 1 := (by decide +kernel : ∀ t : Fin grid1.N, _)

/-- One tile's share of the items' sums. -/
theorem share_at (t : Fin cfg1.N) (k : Fin 5) (v : Fin 2000) (h : Fin 256) (n : ℕ) (hn : n < 5) (ht : t.val = n + 1) :
    itemShare (in1_22 V c t) (in1_20 V c t) (userStack V c) (tileOf t) k (ix2 v h)
      = ∑ u : Fin 400, edge V c k ⟨n * 400 + u.val, row_lt n hn u⟩ v * userMsgs V c k ⟨n * 400 + u.val, row_lt n hn u⟩ h := by
  unfold userStack
  refine (itemShare_at _ _ _ _ k v h).trans (Finset.sum_congr rfl fun u _ => ?_)
  have e1 : (⟨(t.val - 1) * 400 + u.val, lt1 t u⟩ : Fin 2000) = ⟨n * 400 + u.val, row_lt n hn u⟩ := Fin.ext (by show (t.val - 1) * 400 + u.val = _; rw [ht]; rfl)
  have e2 : (⟨(tileOf t).val * 400 + u.val, by have := (tileOf t).isLt; have := u.isLt; omega⟩ : Fin 2000) = ⟨n * 400 + u.val, row_lt n hn u⟩ :=
    Fin.ext (by show (tileOf t).val * 400 + u.val = _; rw [tile_val, ht]; rfl)
  exact congrArg₂ (· * ·) ((edge_at V c t k u v).trans (congrArg (fun r => edge V c k r v) e1))
    ((congrArg (fun r => userMsg _ _ k (ix2 r h)) e2).trans (userRows_at V c k _ h))

theorem n1 (n : ℕ) (h : n + 1 < cfg1.N) : n < 5 := by have : cfg1.N = 6 := N_1; omega

theorem sums_at (k : Fin 5) (v : Fin 2000) (h : Fin 256) : ∀ (n : ℕ) (hn : n + 1 < cfg1.N),
    sums1 V c n hn (ix3 k v h) = ∑ s : Fin (n + 1), ∑ u : Fin 400, edge V c k ⟨s.val * 400 + u.val, row_lt s.val (by have := n1 n hn; omega) u⟩ v
      * userMsgs V c k ⟨s.val * 400 + u.val, row_lt s.val (by have := n1 n hn; omega) u⟩ h
  | 0, hn => by
      rw [Fin.sum_univ_one]
      exact share_at V c ⟨1, hn⟩ k v h 0 (by decide) rfl
  | n + 1, hn => by
      refine Eq.trans ?_ (Fin.sum_univ_castSucc _).symm
      refine Eq.trans ?_ (congrArg₂ (· + ·) (sums_at k v h n (by omega)) rfl)
      exact (congrArg₂ (· + ·) (itemPlane_at _ k v h) (share_at V c ⟨n + 2, hn⟩ k v h (n + 1) (n1 _ hn) rfl) : (_ : EReal) = _)

theorem allSums_at (k : Fin 5) (v : Fin 2000) (h : Fin 256) (hn : 4 + 1 < cfg1.N) : sums1 V c 4 hn (ix3 k v h) = ∑ u, edge V c k u v * userMsgs V c k u h :=
  (sums_at V c k v h 4 hn).trans (sum_blocks (J := 5) (n := 400) (by decide) fun u => edge V c k u v * userMsgs V c k u h)

theorem itemHidden_at (t : Fin cfg1.N) (hn : 4 + 1 < cfg1.N) (v : Fin 2000) (e : Fin 128) :
    itemHid (sums1 V c 4 hn) (in1_21 V c t) (in1_13 V c t) (in1_16 V c t) (in1_17 V c t) (ix2 v e) = itemHidden V c v e := by
  unfold itemHidden
  refine (itemHid_at _ _ _ _ _ v e).trans ?_
  exact congrArg₂ (· + ·) (Finset.sum_congr rfl fun h _ => congrArg₂ (· * ·) (congrArg Ideal.tanh (congrArg₂ (· + ·)
    (Finset.sum_congr rfl fun k _ => congrArg₂ (· * ·) (allSums_at V c k v h hn) (congrFun (in1_21_eq V c t) _))
    (congrFun (in1_13_eq V c t) _))) (congrFun (in1_16_eq V c t) _)) (congrFun (in1_17_eq V c t) _)

/-- The items' second layer. -/
theorem items1 : (dat1 V c).arrAt 24 cfg1.N = (fun i => itemHidden V c (i 0) (i 1) : FVec Ideal S2000x128 .f32) := by
  refine (dat1 V c).arrAt_eq_of_covers 24 _ (by decide +kernel) fun t hf y => ?_
  blk_simp
  rw [after1_24]
  have hq := itemHidden_at V c t
  generalize itemHidden V c = g at hq ⊢
  refine ((congrArg _ (eq_ix2 y)).trans (hq _ (y 0) (y 1))).trans ?_
  suffices h : ∀ f : FVec Ideal S2000x128 .f32, f (ix2 (y 0) (y 1)) = f ((win1_24.blk t).view.emb y) from h fun i => g (i 0) (i 1)
  intro f
  blk_ext [idx1 t]

end Cert.KernelIdeal.Value
end
-- ==== Proof.Value.Decode.lean ====
module

public import proofs.«01_k».proof.Proof.Run.Decode
public import proofs.«01_k».proof.Proof.Value.Scalar
public import Idealize.ShloMosaic.Lib.Pointwise
public import Idealize.ShloMosaic.Lib.Pipeline.ValueKit

/-!
# What the decoding region leaves

The logits entry by entry, and the three totals (log likelihood, squared error, number of rated pairs) as sums
over all pairs of a user and an item.
-/

@[expose] public section

set_option maxRecDepth 16384

noncomputable section

namespace Cert.Value

open Idealize.ShloMosaic

/-- One where the rating is positive, zero elsewhere. -/
def obsP (w : EReal) : EReal := FloatOps.sitofp (F := Ideal) FTy.f32 (BitVec.setWidth 32 (BitVec.ofBool (decide (0 < w))))
/-- The largest of a pair's five logits. -/
def peakP (l : Fin 5 → EReal) : EReal := max (max (max (l 0) (l 1)) (l 2)) (max (l 3) (l 4))
/-- The exponential of a logit less the largest. -/
def expoP (l : Fin 5 → EReal) (k : Fin 5) : EReal := Ideal.exp (l k - peakP l)
/-- The sum of the five exponentials. -/
def sumP (l : Fin 5 → EReal) : EReal := expoP l 0 + expoP l 1 + expoP l 2 + expoP l 3 + expoP l 4
/-- The exponentials weighted by the class numbers. -/
def momentP (l : Fin 5 → EReal) : EReal :=
  expoP l 0 + Ideal.ofBits FTy.f32 1073741824#32 * expoP l 1 + Ideal.ofBits FTy.f32 1077936128#32 * expoP l 2 + Ideal.ofBits FTy.f32 1082130432#32 * expoP l 3
    + Ideal.ofBits FTy.f32 1084227584#32 * expoP l 4
/-- The logit of the class the pair is rated with, or zero. -/
def pickP (l : Fin 5 → EReal) (w : EReal) : EReal :=
  (if w = 1 then l 0 else 0) + (if w = Ideal.ofBits FTy.bf16 16384#16 then l 1 else 0) + (if w = Ideal.ofBits FTy.bf16 16448#16 then l 2 else 0)
    + (if w = Ideal.ofBits FTy.bf16 16512#16 then l 3 else 0) + (if w = Ideal.ofBits FTy.bf16 16544#16 then l 4 else 0)
/-- A pair's share of the log likelihood. -/
def lossP (l : Fin 5 → EReal) (w : EReal) : EReal := obsP w * (pickP l w - (Ideal.log (sumP l) + peakP l))
/-- A pair's share of the squared error. -/
def errP (l : Fin 5 → EReal) (w : EReal) : EReal := obsP w * ((Ideal.div (momentP l) (sumP l) - w) * (Ideal.div (momentP l) (sumP l) - w))

end Cert.Value

namespace Cert.KernelIdeal.Value

open Cert.KernelIdeal Cert.KernelIdeal.Gen Cert.KernelIdeal.Run Cert.Value
open Idealize.ShloMosaic Idealize.ShloMosaic.TcCoe Idealize.ShloMosaic.Tactic
open Idealize.ShloMosaic.Pipeline (Dat)

/-! ## The payloads -/

theorem query_plane (x0 : Vec Ideal S5x200x128 .f32) (k : Fin 5) (u : Fin 200) (e : Fin 128) : Run.query x0 k (ix3 0 u e) = x0 (ix3 k u e) :=
  congrArg x0 (funext fun a => Fin.ext (by fin_cases a <;> simp [ix3]))

theorem logit_at (x0 : Vec Ideal S5x200x128 .f32) (x1 : Vec Ideal S2000x128 .f32) (k : Fin 5) (u : Fin 200) (v : Fin 2000) :
    logit x0 x1 k (ix2 u v) = ∑ e, x0 (ix3 k u e) * x1 (ix2 v e) := by
  have h : logit x0 x1 k (ix2 u v) = ∑ e, Run.query x0 k (ix3 0 u e) * x1 (ix2 v e) := by pointwise [logit, k2_pay4, k2_pay1]
  simp only [h, query_plane]

theorem lossTerms_at (l : Fin 5 → FVec Ideal S40x2000 .f32) (vb : FVec Ideal S40x2000 .bf16) (vf : FVec Ideal S40x2000 .f32) (u : Fin 40) (v : Fin 2000)
    (h : vf (ix2 u v) = vb (ix2 u v)) : Run.lossTerms l vb vf (ix2 u v) = lossP (fun k => l k (ix2 u v)) (vb (ix2 u v)) := by
  rw [← h]
  have h' := h.symm
  pointwise [Run.lossTerms, Run.observed, Run.picked, Run.expoSum, Run.expo, Run.peak, lossP, obsP, pickP, sumP, expoP, peakP, h']

theorem errTerms_at (l : Fin 5 → FVec Ideal S40x2000 .f32) (vf : FVec Ideal S40x2000 .f32) (u : Fin 40) (v : Fin 2000) :
    Run.errTerms l vf (ix2 u v) = errP (fun k => l k (ix2 u v)) (vf (ix2 u v)) := by
  pointwise [Run.errTerms, Run.observed, Run.expoMoment, Run.expoSum, Run.expo, Run.peak, errP, obsP, momentP, sumP, expoP, peakP]

theorem observed_at (vf : FVec Ideal S40x2000 .f32) (u : Fin 40) (v : Fin 2000) : Run.observed vf (ix2 u v) = obsP (vf (ix2 u v)) := by
  pointwise [Run.observed, obsP]

theorem total_at (x : FVec Ideal S40x2000 .f32) : Run.total x = ∑ u : Fin 40, ∑ v : Fin 2000, x (ix2 u v) := by pointwise [Run.total]

theorem chunk_lt (j : Fin 5) (u : Fin 40) : j.val * 40 + u.val < 200 := by have := j.isLt; have := u.isLt; omega

theorem chunk_at {e : EltTy} (x : Vec Ideal S200x2000 e) (j : Fin 5) (u : Fin 40) (v : Fin 2000) : chunk x j (ix2 u v) = x (ix2 ⟨j.val * 40 + u.val, chunk_lt j u⟩ v) := by
  fin_cases j <;> refine congrArg x (funext fun a => Fin.ext ?_) <;> fin_cases a <;> simp [ix2] <;> omega

theorem wide_at (x2 : Vec Ideal S200x2000 .bf16) (u : Fin 200) (v : Fin 2000) : (k2_pay3 x2 : FVec Ideal S200x2000 .f32) (ix2 u v) = x2 (ix2 u v) := by
  pointwise [k2_pay3, k2_pay2]
theorem narrow_at (x2 : Vec Ideal S200x2000 .bf16) (u : Fin 200) (v : Fin 2000) : (k2_pay2 x2 : FVec Ideal S200x2000 .bf16) (ix2 u v) = x2 (ix2 u v) := by
  pointwise [k2_pay2]

theorem overChunks_at (f : Fin 5 → EReal) : (overChunks (F := Ideal) f : EReal) = ∑ j, f j := by
  have z : (Ideal.ofBits .f32 0x00000000#32 : EReal) = 0 := by pointwise
  have e : (overChunks (F := Ideal) f : EReal) = ((((Ideal.ofBits .f32 0x00000000#32 + f 0) + f 1) + f 2) + f 3) + f 4 := rfl
  rw [e, z, zero_add, Fin.sum_univ_five]

section
variable (x0 : Vec Ideal S5x200x128 .f32) (x1 : Vec Ideal S2000x128 .f32) (x2 : Vec Ideal S200x2000 .bf16)

theorem lossSum_at : lossSum x0 x1 x2 = ∑ j : Fin 5, ∑ u : Fin 40, ∑ v : Fin 2000,
    lossP (fun k => logit x0 x1 k (ix2 ⟨j.val * 40 + u.val, chunk_lt j u⟩ v)) (x2 (ix2 ⟨j.val * 40 + u.val, chunk_lt j u⟩ v)) := by
  refine (overChunks_at _).trans (Finset.sum_congr rfl fun j _ => (total_at _).trans (Finset.sum_congr rfl fun u _ => Finset.sum_congr rfl fun v _ => ?_))
  rw [lossTerms_at _ _ _ _ _ (by rw [chunk_at, chunk_at, wide_at, narrow_at]), chunk_at, narrow_at]
  simp only [chunkLogit, chunk_at]

theorem errSum_at : errSum x0 x1 x2 = ∑ j : Fin 5, ∑ u : Fin 40, ∑ v : Fin 2000,
    errP (fun k => logit x0 x1 k (ix2 ⟨j.val * 40 + u.val, chunk_lt j u⟩ v)) (x2 (ix2 ⟨j.val * 40 + u.val, chunk_lt j u⟩ v)) := by
  refine (overChunks_at _).trans (Finset.sum_congr rfl fun j _ => (total_at _).trans (Finset.sum_congr rfl fun u _ => Finset.sum_congr rfl fun v _ => ?_))
  rw [errTerms_at, chunk_at, wide_at]
  simp only [chunkLogit, chunk_at]

theorem obsSum_at : obsSum x2 = ∑ j : Fin 5, ∑ u : Fin 40, ∑ v : Fin 2000, obsP (x2 (ix2 ⟨j.val * 40 + u.val, chunk_lt j u⟩ v)) := by
  refine (overChunks_at _).trans (Finset.sum_congr rfl fun j _ => (total_at _).trans (Finset.sum_congr rfl fun u _ => Finset.sum_congr rfl fun v _ => ?_))
  rw [observed_at, chunk_at, wide_at]
end

/-- The blocks of ten, the chunks of five and the rows of forty, put together again. -/
theorem sum_rows (g : Fin 2000 → EReal) : (∑ s : Fin (9 + 1), ∑ j : Fin 5, ∑ u : Fin 40, g ⟨s.val * 200 + (j.val * 40 + u.val), by omega⟩) = ∑ u, g u := by
  refine Eq.trans (Finset.sum_congr rfl fun s _ => ?_) (sum_blocks (J := 10) (n := 200) (by decide) g)
  exact sum_blocks (J := 5) (n := 40) (K := 200) (by decide) fun u => g ⟨s.val * 200 + u.val, by omega⟩

/-! ## The blocks -/

variable (V : (c : Dev nD) → (b : Ref sig .tc) → Buf (Elt Ideal) ((c : Thread nD τ).loc b)) (c : Dev nD)

/-- The queries, the items' vectors and the ratings as the region finds them. -/
abbrev quer2 : FVec Ideal S5x2000x128 .f32 := V c (Pipeline.arrRef spec2 0)
abbrev item2 : FVec Ideal S2000x128 .f32 := V c (Pipeline.arrRef spec2 1)
abbrev val2 : FVec Ideal S2000x2000 .bf16 := V c (Pipeline.arrRef spec2 2)

theorem idx2 : ∀ t : Fin cfg2.N, win2_0.index t = ![0, t.val, 0] ∧ win2_1.index t = ![0, 0] ∧ win2_2.index t = ![t.val, 0]
    ∧ win2_3.index t = ![0, t.val, 0] ∧ win2_4.index t = ![0, 0, 0] := (by decide +kernel : ∀ t : Fin grid2.N, _)

theorem lt2 (t : Fin cfg2.N) (u : Fin 200) : t.val * 200 + u.val < 2000 := by
  have h : t.val < 10 := t.isLt
  have := u.isLt; omega

theorem qBlk_at (t : Fin cfg2.N) (k : Fin 5) (u : Fin 200) (e : Fin 128) : qBlk V c t (ix3 k u e) = quer2 V c (ix3 k ⟨t.val * 200 + u.val, lt2 t u⟩ e) := by
  blk_ext [qBlk, iblk2, quer2, idx2 t]
theorem hBlk_at (t : Fin cfg2.N) (v : Fin 2000) (e : Fin 128) : hBlk V c t (ix2 v e) = item2 V c (ix2 v e) := by
  blk_ext [hBlk, iblk2, item2, idx2 t]
theorem cBlk_at (t : Fin cfg2.N) (u : Fin 200) (v : Fin 2000) : cBlk V c t (ix2 u v) = val2 V c (ix2 ⟨t.val * 200 + u.val, lt2 t u⟩ v) := by
  blk_ext [cBlk, iblk2, val2, idx2 t]

/-- The logit of a class for a pair. -/
def logitV (k : Fin 5) (u v : Fin 2000) : EReal := ∑ e, quer2 V c (ix3 k u e) * item2 V c (ix2 v e)

theorem logitV_at (t : Fin cfg2.N) (k : Fin 5) (u : Fin 200) (v : Fin 2000) :
    logit (qBlk V c t) (hBlk V c t) k (ix2 u v) = logitV V c k ⟨t.val * 200 + u.val, lt2 t u⟩ v := by
  rw [logit_at]
  exact Finset.sum_congr rfl fun e _ => congrArg₂ _ (qBlk_at V c t k u e) (hBlk_at V c t v e)

theorem logits_plane (x0 : Vec Ideal S5x200x128 .f32) (x1 : Vec Ideal S2000x128 .f32) (y : S5x200x2000.Idx) : Run.logits x0 x1 y = logit x0 x1 (y 0) (ix2 (y 1) (y 2)) :=
  congrArg (logit x0 x1 (y 0)) (funext fun a => Fin.ext (by fin_cases a <;> rfl))

/-- The logits. -/
theorem logits2 : (dat2 V c).arrAt 3 cfg2.N = (fun i => logitV V c (i 0) (i 1) (i 2) : FVec Ideal S5x2000x2000 .f32) := by
  refine (dat2 V c).arrAt_eq_of_covers 3 _ (by decide +kernel) fun t hf y => ?_
  blk_simp
  rw [after2_3]
  refine ((logits_plane _ _ y).trans (logitV_at V c t (y 0) (y 1) (y 2))).trans ?_
  suffices h : ∀ f : FVec Ideal S5x2000x2000 .f32, f (ix3 (y 0) ⟨t.val * 200 + (y 1).val, lt2 t (y 1)⟩ (y 2)) = f ((win2_3.blk t).view.emb y) from
    h fun i => logitV V c (i 0) (i 1) (i 2)
  intro f
  blk_ext [idx2 t]

/-! ## The totals -/

section
variable (a : Fin cfg2.N → Vec Ideal S5x200x128 .f32) (b : Fin cfg2.N → Vec Ideal S2000x128 .f32) (v : Fin cfg2.N → Vec Ideal S200x2000 .bf16)

/-- What a block adds to a plane of the totals. -/
def blockShare (i : Fin 3) (t : Fin cfg2.N) : EReal :=
  match i with | ⟨0, _⟩ => lossSum (a t) (b t) (v t) | ⟨1, _⟩ => errSum (a t) (b t) (v t) | ⟨2, _⟩ => obsSum (v t)

theorem totals_step (t : Fin cfg2.N) (xo : Vec Ideal S3x8x128 .f32) (i : Fin 3) (p : Fin 8) (q : Fin 128) :
    totals (a t) (b t) (v t) xo (ix3 i p q) = (xo (ix3 i p q) + blockShare a b v i t : EReal) := rfl

theorem runTotals_at (i : Fin 3) (p : Fin 8) (q : Fin 128) : ∀ (n : ℕ) (h : n < cfg2.N),
    runTotals a b v n h (ix3 i p q) = ∑ s : Fin (n + 1), blockShare a b v i ⟨s.val, by omega⟩
  | 0, h => by
      refine (totals_step a b v ⟨0, h⟩ _ i p q).trans ?_
      rw [Fin.sum_univ_one]
      have z : (broadcast S3x8x128 (Scalar.ofBits .f32 0x00000000#32) : FVec Ideal S3x8x128 .f32) (ix3 i p q) = (0 : EReal) :=
        show Ideal.ofBits .f32 0x00000000#32 = 0 by pointwise
      exact (congrArg (· + blockShare a b v i ⟨0, h⟩) z).trans (zero_add _)
  | n + 1, h => by
      refine (totals_step a b v ⟨n + 1, h⟩ _ i p q).trans ?_
      refine Eq.trans ?_ (Fin.sum_univ_castSucc _).symm
      exact congrArg (· + blockShare a b v i ⟨n + 1, h⟩) (runTotals_at i p q n (by omega))
end

/-- A plane of the totals: the log likelihood, the squared error or the number of rated pairs. -/
def totalV (i : Fin 3) : EReal :=
  match i with
  | ⟨0, _⟩ => ∑ u, ∑ v, lossP (fun k => logitV V c k u v) (val2 V c (ix2 u v))
  | ⟨1, _⟩ => ∑ u, ∑ v, errP (fun k => logitV V c k u v) (val2 V c (ix2 u v))
  | ⟨2, _⟩ => ∑ u, ∑ v, obsP (val2 V c (ix2 u v))

theorem blockShares (i : Fin 3) : (∑ s : Fin (9 + 1), blockShare (qBlk V c) (hBlk V c) (cBlk V c) i ⟨s.val, s.isLt⟩ : EReal) = totalV V c i := by
  fin_cases i
  · refine Eq.trans (Finset.sum_congr rfl fun s _ => ?_) (sum_rows fun u => ∑ v, lossP (fun k => logitV V c k u v) (val2 V c (ix2 u v)))
    refine (lossSum_at _ _ _).trans ?_
    simp only [logitV_at, cBlk_at]
  · refine Eq.trans (Finset.sum_congr rfl fun s _ => ?_) (sum_rows fun u => ∑ v, errP (fun k => logitV V c k u v) (val2 V c (ix2 u v)))
    refine (errSum_at _ _ _).trans ?_
    simp only [logitV_at, cBlk_at]
  · refine Eq.trans (Finset.sum_congr rfl fun s _ => ?_) (sum_rows fun u => ∑ v, obsP (val2 V c (ix2 u v)))
    refine (obsSum_at _).trans ?_
    simp only [cBlk_at]

/-- The totals. -/
theorem totals2 : (dat2 V c).arrAt 4 cfg2.N = (fun i => totalV V c (i 0) : FVec Ideal S3x8x128 .f32) := by
  refine (dat2 V c).arrAt_eq_of_covers 4 _ (by decide +kernel) fun t hf y => ?_
  blk_simp
  rw [after2_4]
  have ht : t.val = 9 := (by decide +kernel : ∀ t : Fin grid2.N, win2_4.flush t = true → t.val = 9) t hf
  refine ((congrArg _ (eq_ix3 y)).trans (runTotals_at _ _ _ (y 0) (y 1) (y 2) t.val t.isLt)).trans ?_
  have e : ∀ (n : ℕ) (h : n < cfg2.N), n = 9 →
      (∑ s : Fin (n + 1), blockShare (qBlk V c) (hBlk V c) (cBlk V c) (y 0) ⟨s.val, by omega⟩ : EReal) = totalV V c (y 0) := by
    rintro n h rfl
    exact blockShares V c (y 0)
  refine (e _ t.isLt ht).trans ?_
  suffices h : ∀ f : FVec Ideal S3x8x128 .f32, f (ix3 (y 0) (y 1) (y 2)) = f ((win2_4.blk t).view.emb y) from h fun i => totalV V c (i 0)
  intro f
  blk_ext [idx2 t]

end Cert.KernelIdeal.Value
end
-- ==== Proof.Value.Host.lean ====
module

public import proofs.«01_k».proof.Proof.Run.Whole
public import proofs.«01_k».proof.Proof.Value.Stats
public import proofs.«01_k».proof.Proof.Value.Message
public import proofs.«01_k».proof.Proof.Value.Decode
public import Idealize.ShloMosaic.Lib.StableHlo.ReadAt

/-!
# The arrays between the parts of the program

What the host prepares for the message passing call and what it makes of the decoder's totals, and every array a
call reads, in terms of the program's arguments.
-/

@[expose] public section

set_option maxRecDepth 16384

noncomputable section

namespace Cert.KernelIdeal.Value

open Cert.KernelIdeal Cert.KernelIdeal.Gen Cert.KernelIdeal.Run Cert.Value
open Idealize.ShloMosaic Idealize.ShloMosaic.TcCoe Idealize.ShloMosaic.Tactic

/-! ## The host's operations at an index -/

section
variable (X : Valuation τ sig (Elt Ideal))

theorem prep_v1 (i : Fin 512) (j : Fin 256) : (StableHlo.after hostOps1 X (Proc.devRef .tc main_v1) : FVec Ideal S512x256 .f32) (ix2 i j)
    = (X (Proc.devRef .tc main_arg4) : FVec Ideal S640x256 .f32) (ix2 ⟨i.val, by omega⟩ j) := by after_reads_at
theorem prep_v2 (i : Fin 128) (j : Fin 256) : (StableHlo.after hostOps1 X (Proc.devRef .tc main_v2) : FVec Ideal S128x256 .f32) (ix2 i j)
    = (X (Proc.devRef .tc main_arg4) : FVec Ideal S640x256 .f32) (ix2 ⟨512 + i.val, by omega⟩ j) := by after_reads_at
theorem prep_v3 (j : Fin 256) : (StableHlo.after hostOps1 X (Proc.devRef .tc main_v3) : FVec Ideal S1x256 .f32) (ix2 0 j)
    = (X (Proc.devRef .tc main_arg5) : FVec Ideal S256 .f32) (ix1 j) := by after_reads_at
theorem prep_v4 (i : Fin 512) (j : Fin 256) : (StableHlo.after hostOps1 X (Proc.devRef .tc main_v4) : FVec Ideal S512x256 .f32) (ix2 i j)
    = (X (Proc.devRef .tc main_arg6) : FVec Ideal S640x256 .f32) (ix2 ⟨i.val, by omega⟩ j) := by after_reads_at
theorem prep_v5 (i : Fin 128) (j : Fin 256) : (StableHlo.after hostOps1 X (Proc.devRef .tc main_v5) : FVec Ideal S128x256 .f32) (ix2 i j)
    = (X (Proc.devRef .tc main_arg6) : FVec Ideal S640x256 .f32) (ix2 ⟨512 + i.val, by omega⟩ j) := by after_reads_at
theorem prep_v6 (j : Fin 256) : (StableHlo.after hostOps1 X (Proc.devRef .tc main_v6) : FVec Ideal S1x256 .f32) (ix2 0 j)
    = (X (Proc.devRef .tc main_arg7) : FVec Ideal S256 .f32) (ix1 j) := by after_reads_at
theorem prep_v8 (k : Fin 5) (i j : Fin 256) : (StableHlo.after hostOps1 X (Proc.devRef .tc main_v8) : FVec Ideal S5x256x256 .f32) (ix3 k i j)
    = (X (Proc.devRef .tc main_arg8) : FVec Ideal S2x5x256x256 .f32) (ix4 0 k i j) := by after_reads_at
theorem prep_v10 (k : Fin 5) (i j : Fin 256) : (StableHlo.after hostOps1 X (Proc.devRef .tc main_v10) : FVec Ideal S5x256x256 .f32) (ix3 k i j)
    = (X (Proc.devRef .tc main_arg8) : FVec Ideal S2x5x256x256 .f32) (ix4 1 k i j) := by after_reads_at
theorem prep_v11 (j : Fin 256) : (StableHlo.after hostOps1 X (Proc.devRef .tc main_v11) : FVec Ideal S1x256 .f32) (ix2 0 j)
    = (X (Proc.devRef .tc main_arg9) : FVec Ideal S256 .f32) (ix1 j) := by after_reads_at
theorem prep_v12 (j : Fin 256) : (StableHlo.after hostOps1 X (Proc.devRef .tc main_v12) : FVec Ideal S1x256 .f32) (ix2 0 j)
    = (X (Proc.devRef .tc main_arg10) : FVec Ideal S256 .f32) (ix1 j) := by after_reads_at
theorem prep_v13 (j : Fin 128) : (StableHlo.after hostOps1 X (Proc.devRef .tc main_v13) : FVec Ideal S1x128 .f32) (ix2 0 j)
    = (X (Proc.devRef .tc main_arg12) : FVec Ideal S128 .f32) (ix1 j) := by after_reads_at
theorem prep_v14 (j : Fin 128) : (StableHlo.after hostOps1 X (Proc.devRef .tc main_v14) : FVec Ideal S1x128 .f32) (ix2 0 j)
    = (X (Proc.devRef .tc main_arg14) : FVec Ideal S128 .f32) (ix1 j) := by after_reads_at

/-- One of the decoder's three totals. -/
abbrev tot (i : Fin 3) : EReal := (X (Proc.devRef .tc main_v16_1) : FVec Ideal S3x8x128 .f32) (ix3 i 0 0)
/-- The loss of the totals. -/
theorem fin_v23 : (StableHlo.after hostOps3 X (Proc.devRef .tc main_v23) : FVec Ideal S_ .f32) ix0 = Ideal.div (-tot X 0) (max (tot X 2) 1) := by
  after_reads_at
/-- The root mean squared error of the totals. -/
theorem fin_v27 : (StableHlo.after hostOps3 X (Proc.devRef .tc main_v27) : FVec Ideal S_ .f32) ix0 = Ideal.sqrt (Ideal.div (tot X 1) (max (tot X 2) 1)) := by
  after_reads_at
end

variable (m : (ℓ : Loc nD τ sig) → Buf (Elt Ideal) ℓ) (ρ : Dev nD → PrngReg) (c : Dev nD)

/-! ## The arguments -/

abbrev karg0 : FVec Ideal S2000x512 .f32 := m ((c.tc : Thread nD τ).loc main_arg0)
abbrev karg1 : FVec Ideal S2000x512 .f32 := m ((c.tc : Thread nD τ).loc main_arg1)
abbrev karg2 : FVec Ideal S2000x128 .f32 := m ((c.tc : Thread nD τ).loc main_arg2)
abbrev karg3 : FVec Ideal S2000x128 .f32 := m ((c.tc : Thread nD τ).loc main_arg3)
abbrev karg4 : FVec Ideal S640x256 .f32 := m ((c.tc : Thread nD τ).loc main_arg4)
abbrev karg5 : FVec Ideal S256 .f32 := m ((c.tc : Thread nD τ).loc main_arg5)
abbrev karg6 : FVec Ideal S640x256 .f32 := m ((c.tc : Thread nD τ).loc main_arg6)
abbrev karg7 : FVec Ideal S256 .f32 := m ((c.tc : Thread nD τ).loc main_arg7)
abbrev karg8 : FVec Ideal S2x5x256x256 .f32 := m ((c.tc : Thread nD τ).loc main_arg8)
abbrev karg9 : FVec Ideal S256 .f32 := m ((c.tc : Thread nD τ).loc main_arg9)
abbrev karg10 : FVec Ideal S256 .f32 := m ((c.tc : Thread nD τ).loc main_arg10)
abbrev karg11 : FVec Ideal S256x128 .f32 := m ((c.tc : Thread nD τ).loc main_arg11)
abbrev karg12 : FVec Ideal S128 .f32 := m ((c.tc : Thread nD τ).loc main_arg12)
abbrev karg13 : FVec Ideal S256x128 .f32 := m ((c.tc : Thread nD τ).loc main_arg13)
abbrev karg14 : FVec Ideal S128 .f32 := m ((c.tc : Thread nD τ).loc main_arg14)
abbrev karg15 : FVec Ideal S2x128x128 .f32 := m ((c.tc : Thread nD τ).loc main_arg15)
abbrev karg16 : FVec Ideal S5x2 .f32 := m ((c.tc : Thread nD τ).loc main_arg16)
abbrev karg17 : FVec Ideal S5x2000x2000 .f32 := m ((c.tc : Thread nD τ).loc main_arg17)

/-- Before the message call the arguments are as at launch. -/
theorem B1_args (a : Ref sig .tc) (h : a ∈ argRefs) : B1 m ρ c (Proc.devRef .tc a) = m ((c : Thread nD τ).loc a) :=
  (B1_of m ρ c a (args_in0 a h)).trans rfl

/-! ## What the message call reads -/

theorem uf1_eq : uf1 (V2 m ρ) c = karg0 m c := B2_args m ρ c main_arg0 (by decide)
theorem us1_eq : us1 (V2 m ρ) c = karg2 m c := B2_args m ρ c main_arg2 (by decide)
theorem vf1_eq : vf1 (V2 m ρ) c = karg1 m c := B2_args m ρ c main_arg1 (by decide)
theorem vs1_eq : vs1 (V2 m ρ) c = karg3 m c := B2_args m ρ c main_arg3 (by decide)
theorem wu21_eq : wu21 (V2 m ρ) c = karg11 m c := B2_args m ρ c main_arg11 (by decide)
theorem wv21_eq : wv21 (V2 m ρ) c = karg13 m c := B2_args m ρ c main_arg13 (by decide)
theorem p1_eq : p1 (V2 m ρ) c = karg15 m c := B2_args m ρ c main_arg15 (by decide)
theorem a1_eq : a1 (V2 m ρ) c = karg16 m c := B2_args m ρ c main_arg16 (by decide)
theorem wu1a1_at (i : Fin 512) (j : Fin 256) : wu1a1 (V2 m ρ) c (ix2 i j) = karg4 m c (ix2 ⟨i.val, by omega⟩ j) :=
  (prep_v1 _ i j).trans (congrFun (B1_args m ρ c main_arg4 (by decide)) _)
theorem wu1b1_at (i : Fin 128) (j : Fin 256) : wu1b1 (V2 m ρ) c (ix2 i j) = karg4 m c (ix2 ⟨512 + i.val, by omega⟩ j) :=
  (prep_v2 _ i j).trans (congrFun (B1_args m ρ c main_arg4 (by decide)) _)
theorem bu11_at (j : Fin 256) : bu11 (V2 m ρ) c (ix2 0 j) = karg5 m c (ix1 j) :=
  (prep_v3 _ j).trans (congrFun (B1_args m ρ c main_arg5 (by decide)) _)
theorem wv1a1_at (i : Fin 512) (j : Fin 256) : wv1a1 (V2 m ρ) c (ix2 i j) = karg6 m c (ix2 ⟨i.val, by omega⟩ j) :=
  (prep_v4 _ i j).trans (congrFun (B1_args m ρ c main_arg6 (by decide)) _)
theorem wv1b1_at (i : Fin 128) (j : Fin 256) : wv1b1 (V2 m ρ) c (ix2 i j) = karg6 m c (ix2 ⟨512 + i.val, by omega⟩ j) :=
  (prep_v5 _ i j).trans (congrFun (B1_args m ρ c main_arg6 (by decide)) _)
theorem bv11_at (j : Fin 256) : bv11 (V2 m ρ) c (ix2 0 j) = karg7 m c (ix1 j) :=
  (prep_v6 _ j).trans (congrFun (B1_args m ρ c main_arg7 (by decide)) _)
theorem gwu1_at (k : Fin 5) (i j : Fin 256) : gwu1 (V2 m ρ) c (ix3 k i j) = karg8 m c (ix4 0 k i j) :=
  (prep_v8 _ k i j).trans (congrFun (B1_args m ρ c main_arg8 (by decide)) _)
theorem gwv1_at (k : Fin 5) (i j : Fin 256) : gwv1 (V2 m ρ) c (ix3 k i j) = karg8 m c (ix4 1 k i j) :=
  (prep_v10 _ k i j).trans (congrFun (B1_args m ρ c main_arg8 (by decide)) _)
theorem gbu1_at (j : Fin 256) : gbu1 (V2 m ρ) c (ix2 0 j) = karg9 m c (ix1 j) :=
  (prep_v11 _ j).trans (congrFun (B1_args m ρ c main_arg9 (by decide)) _)
theorem gbv1_at (j : Fin 256) : gbv1 (V2 m ρ) c (ix2 0 j) = karg10 m c (ix1 j) :=
  (prep_v12 _ j).trans (congrFun (B1_args m ρ c main_arg10 (by decide)) _)
theorem bu21_at (j : Fin 128) : bu21 (V2 m ρ) c (ix2 0 j) = karg12 m c (ix1 j) :=
  (prep_v13 _ j).trans (congrFun (B1_args m ρ c main_arg12 (by decide)) _)
theorem bv21_at (j : Fin 128) : bv21 (V2 m ρ) c (ix2 0 j) = karg14 m c (ix1 j) :=
  (prep_v14 _ j).trans (congrFun (B1_args m ρ c main_arg14 (by decide)) _)
theorem du1_at (u : Fin 2000) (k : Fin 5) : du1 (V2 m ρ) c (ix2 u k) = degInv (∑ v, karg17 m c (ix3 k u v)) :=
  congrFun ((B2_of m ρ c main_v0_0 (by decide)).trans ((B1_arr m ρ c 1).trans (users0 (V0 m ρ) c))) (ix2 u k)
theorem dv1_at (v : Fin 2000) (k : Fin 5) : dv1 (V2 m ρ) c (ix2 v k) = degInv (∑ u, karg17 m c (ix3 k u v)) :=
  congrFun ((B2_of m ρ c main_v0_1 (by decide)).trans ((B1_arr m ρ c 2).trans (items0 (V0 m ρ) c))) (ix2 v k)
theorem val1_at (u v : Fin 2000) : val1 (V2 m ρ) c (ix2 u v) = rating fun k => karg17 m c (ix3 k u v) :=
  congrFun ((B2_of m ρ c main_v0_2 (by decide)).trans ((B1_arr m ρ c 3).trans (values0 (V0 m ρ) c))) (ix2 u v)

/-! ## What the decoder call reads -/

theorem quer2_at (k : Fin 5) (u : Fin 2000) (e : Fin 128) : quer2 (V3 m ρ) c (ix3 k u e) = query (V2 m ρ) c k u e :=
  congrFun ((B3_arr m ρ c 23).trans (queries1 (V2 m ρ) c)) (ix3 k u e)
theorem item2_at (v : Fin 2000) (e : Fin 128) : item2 (V3 m ρ) c (ix2 v e) = itemHidden (V2 m ρ) c v e :=
  congrFun ((B3_arr m ρ c 24).trans (items1 (V2 m ρ) c)) (ix2 v e)
theorem val2_at (u v : Fin 2000) : val2 (V3 m ρ) c (ix2 u v) = rating fun k => karg17 m c (ix3 k u v) :=
  (congrFun ((B3_arr m ρ c 22).trans (((dat1 (V2 m ρ) c).arrAt_in 22 rfl _).trans (A_eq1 (V2 m ρ) c 22))) (ix2 u v)).trans (val1_at m ρ c u v)

/-! ## The results -/

theorem out_logits : B5 m ρ c (Proc.devRef .tc main_v16_0) = (fun i => logitV (V3 m ρ) c (i 0) (i 1) (i 2) : FVec Ideal S5x2000x2000 .f32) :=
  (B5_of m ρ c main_v16_0 (by decide)).trans ((B4_arr m ρ c 3).trans (logits2 (V3 m ρ) c))
theorem tot_at (i : Fin 3) : (B4 m ρ c (Proc.devRef .tc main_v16_1) : FVec Ideal S3x8x128 .f32) (ix3 i 0 0) = totalV (V3 m ρ) c i :=
  congrFun ((B4_arr m ρ c 4).trans (totals2 (V3 m ρ) c)) (ix3 i 0 0)
theorem out_loss : (B5 m ρ c (Proc.devRef .tc main_v23) : FVec Ideal S_ .f32) ix0 = Ideal.div (-totalV (V3 m ρ) c 0) (max (totalV (V3 m ρ) c 2) 1) := by
  refine (fin_v23 _).trans ?_; rw [tot, tot_at, tot, tot_at]
theorem out_rmse : (B5 m ρ c (Proc.devRef .tc main_v27) : FVec Ideal S_ .f32) ix0 = Ideal.sqrt (Ideal.div (totalV (V3 m ρ) c 1) (max (totalV (V3 m ρ) c 2) 1)) := by
  refine (fin_v27 _).trans ?_; rw [tot, tot_at, tot, tot_at]

end Cert.KernelIdeal.Value
end
-- ==== Proof.Value.Reference.lean ====
module

public import proofs.«01_k».proof.Proof.Gen.ReferenceIdeal.Run
public import Idealize.ShloMosaic.Lib.Pointwise

/-! # The reference's results in named stages -/

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic

variable (m : (ℓ : Loc nD τ sig) → Buf (Elt Ideal) ℓ) (c : Dev nD)

/-- Argument 0. -/
abbrev arg0 : FVec Ideal S2000x512 .f32 := m ((c.tc : Thread nD τ).loc main_arg0)
/-- Argument 1. -/
abbrev arg1 : FVec Ideal S2000x512 .f32 := m ((c.tc : Thread nD τ).loc main_arg1)
/-- Argument 2. -/
abbrev arg2 : FVec Ideal S2000x128 .f32 := m ((c.tc : Thread nD τ).loc main_arg2)
/-- Argument 3. -/
abbrev arg3 : FVec Ideal S2000x128 .f32 := m ((c.tc : Thread nD τ).loc main_arg3)
/-- Argument 4. -/
abbrev arg4 : FVec Ideal S640x256 .f32 := m ((c.tc : Thread nD τ).loc main_arg4)
/-- Argument 5. -/
abbrev arg5 : FVec Ideal S256 .f32 := m ((c.tc : Thread nD τ).loc main_arg5)
/-- Argument 6. -/
abbrev arg6 : FVec Ideal S640x256 .f32 := m ((c.tc : Thread nD τ).loc main_arg6)
/-- Argument 7. -/
abbrev arg7 : FVec Ideal S256 .f32 := m ((c.tc : Thread nD τ).loc main_arg7)
/-- Argument 8. -/
abbrev arg8 : FVec Ideal S2x5x256x256 .f32 := m ((c.tc : Thread nD τ).loc main_arg8)
/-- Argument 9. -/
abbrev arg9 : FVec Ideal S256 .f32 := m ((c.tc : Thread nD τ).loc main_arg9)
/-- Argument 10. -/
abbrev arg10 : FVec Ideal S256 .f32 := m ((c.tc : Thread nD τ).loc main_arg10)
/-- Argument 11. -/
abbrev arg11 : FVec Ideal S256x128 .f32 := m ((c.tc : Thread nD τ).loc main_arg11)
/-- Argument 12. -/
abbrev arg12 : FVec Ideal S128 .f32 := m ((c.tc : Thread nD τ).loc main_arg12)
/-- Argument 13. -/
abbrev arg13 : FVec Ideal S256x128 .f32 := m ((c.tc : Thread nD τ).loc main_arg13)
/-- Argument 14. -/
abbrev arg14 : FVec Ideal S128 .f32 := m ((c.tc : Thread nD τ).loc main_arg14)
/-- Argument 15. -/
abbrev arg15 : FVec Ideal S2x128x128 .f32 := m ((c.tc : Thread nD τ).loc main_arg15)
/-- Argument 16. -/
abbrev arg16 : FVec Ideal S5x2 .f32 := m ((c.tc : Thread nD τ).loc main_arg16)
/-- Argument 17. -/
abbrev arg17 : FVec Ideal S5x2000x2000 .f32 := m ((c.tc : Thread nD τ).loc main_arg17)
/-- The users' degrees, class by class. -/
def userDeg : FVec Ideal S5x2000 .f32 := Host.reduceAdd (arg17 m c) (constant S_ .f32 0x00000000#32) reducesTo_S5x2000x2000_S5x2000_d2 h_S_
/-- The items' degrees, class by class. -/
def itemDeg : FVec Ideal S5x2000 .f32 := Host.reduceAdd (arg17 m c) (constant S_ .f32 0x00000000#32) reducesTo_S5x2000x2000_S5x2000_d1 h_S_
/-- The users' scale factors. -/
def userInv : FVec Ideal S5x2000 .f32 := select (cmpf .ogt (userDeg m c) (broadcastInDim S5x2000 ![] bcast_S_S5x2000 (constant S_ .f32 0x00000000#32))) (Host.divf (broadcastInDim S5x2000 ![] bcast_S_S5x2000 (constant S_ .f32 0x3F800000#32)) (Host.sqrt (maximumf (userDeg m c) (broadcastInDim S5x2000 ![] bcast_S_S5x2000 (constant S_ .f32 0x322BCC77#32))))) (broadcastInDim S5x2000 ![] bcast_S_S5x2000 (id (constant S_ .f32 0x00000000#32)))
/-- The items' scale factors. -/
def itemInv : FVec Ideal S5x2000 .f32 := select (cmpf .ogt (itemDeg m c) (broadcastInDim S5x2000 ![] bcast_S_S5x2000 (constant S_ .f32 0x00000000#32))) (Host.divf (broadcastInDim S5x2000 ![] bcast_S_S5x2000 (constant S_ .f32 0x3F800000#32)) (Host.sqrt (maximumf (itemDeg m c) (broadcastInDim S5x2000 ![] bcast_S_S5x2000 (constant S_ .f32 0x322BCC77#32))))) (broadcastInDim S5x2000 ![] bcast_S_S5x2000 (id (constant S_ .f32 0x00000000#32)))
/-- The normalised ratings. -/
def norm : FVec Ideal S5x2000x2000 .f32 := mulf (mulf (arg17 m c) (broadcastInDim S5x2000x2000 ![0, 1, 2] bcast_S5x2000x1_S5x2000x2000_0_1_2 (broadcastInDim S5x2000x1 ![0, 1] bcast_S5x2000_S5x2000x1_0_1 (userInv m c)))) (broadcastInDim S5x2000x2000 ![0, 1, 2] bcast_S5x1x2000_S5x2000x2000_0_1_2 (broadcastInDim S5x1x2000 ![0, 2] bcast_S5x2000_S5x1x2000_0_2 (itemInv m c)))
/-- The encoded users. -/
def userEnc : FVec Ideal S2000x256 .f32 := maximumf (addf (Host.dotGeneral dot_S2000x640_S640x256_S2000x256_1_0_0_1_n_n none (concatenate S2000x640 1 [⟨S2000x512, (arg0 m c)⟩, ⟨S2000x128, (arg2 m c)⟩] concatenates_S2000x512_S2000x128_S2000x640_d1) (arg4 m c)) (broadcastInDim S2000x256 ![0, 1] bcast_S1x256_S2000x256_0_1 (broadcastInDim S1x256 ![1] bcast_S256_S1x256_1 (arg5 m c)))) (broadcastInDim S2000x256 ![] bcast_S_S2000x256 (constant S_ .f32 0x00000000#32))
/-- The encoded items. -/
def itemEnc : FVec Ideal S2000x256 .f32 := maximumf (addf (Host.dotGeneral dot_S2000x640_S640x256_S2000x256_1_0_0_1_n_n none (concatenate S2000x640 1 [⟨S2000x512, (arg1 m c)⟩, ⟨S2000x128, (arg3 m c)⟩] concatenates_S2000x512_S2000x128_S2000x640_d1) (arg6 m c)) (broadcastInDim S2000x256 ![0, 1] bcast_S1x256_S2000x256_0_1 (broadcastInDim S1x256 ![1] bcast_S256_S1x256_1 (arg7 m c)))) (broadcastInDim S2000x256 ![] bcast_S_S2000x256 (constant S_ .f32 0x00000000#32))
/-- The running sums of the weights for the items' messages. -/
def itemWeights : FVec Ideal S5x256x256 .f32 := Host.reduceWindowAdd ![5, 1, 1] ![1, 1, 1] ![4, 0, 0] ![0, 0, 0] (shapeCast _ (extractStridedSlice S1x5x256x256 ![0, 0, 0, 0] (arg8 m c) slices_S2x5x256x256_S1x5x256x256_0_0_0_0) shapeCasts_S1x5x256x256_S5x256x256) (broadcastInDim S_ ![] bcast_S_S_ (constant S_ .f32 0x00000000#32)) reduceWindows_S5x256x256_S5x256x256_w5s1p4_0_w1s1p0_0_w1s1p0_0 h_S_
/-- The running sums of the weights for the users' messages. -/
def userWeights : FVec Ideal S5x256x256 .f32 := Host.reduceWindowAdd ![5, 1, 1] ![1, 1, 1] ![4, 0, 0] ![0, 0, 0] (shapeCast _ (extractStridedSlice S1x5x256x256 ![1, 0, 0, 0] (arg8 m c) slices_S2x5x256x256_S1x5x256x256_1_0_0_0) shapeCasts_S1x5x256x256_S5x256x256) (broadcastInDim S_ ![] bcast_S_S_ (constant S_ .f32 0x00000000#32)) reduceWindows_S5x256x256_S5x256x256_w5s1p4_0_w1s1p0_0_w1s1p0_0 h_S_
/-- The users' final vectors. -/
def userVec : FVec Ideal S2000x128 .f32 := addf (Host.dotGeneral dot_S2000x256_S256x128_S2000x128_1_0_0_1_n_n none (Host.tanh (addf (Host.dotGeneral dot_S5x2000x2000_S5x2000x256_S2000x256_02_01_1_2_n_n none (norm m c) (transpose S5x2000x256 [0, 2, 1] (Host.dotGeneral dot_S5x256x256_S2000x256_S5x256x2000_1_1_02_0_n_n none (itemWeights m c) (itemEnc m c)) transposes_S5x256x2000_S5x2000x256_0_2_1)) (broadcastInDim S2000x256 ![0, 1] bcast_S1x256_S2000x256_0_1 (broadcastInDim S1x256 ![1] bcast_S256_S1x256_1 (arg9 m c))))) (arg11 m c)) (broadcastInDim S2000x128 ![0, 1] bcast_S1x128_S2000x128_0_1 (broadcastInDim S1x128 ![1] bcast_S128_S1x128_1 (arg12 m c)))
/-- The items' final vectors. -/
def itemVec : FVec Ideal S2000x128 .f32 := addf (Host.dotGeneral dot_S2000x256_S256x128_S2000x128_1_0_0_1_n_n none (Host.tanh (addf (Host.dotGeneral dot_S5x2000x2000_S5x2000x256_S2000x256_01_01_2_2_n_n none (norm m c) (transpose S5x2000x256 [0, 2, 1] (Host.dotGeneral dot_S5x256x256_S2000x256_S5x256x2000_1_1_02_0_n_n none (userWeights m c) (userEnc m c)) transposes_S5x256x2000_S5x2000x256_0_2_1)) (broadcastInDim S2000x256 ![0, 1] bcast_S1x256_S2000x256_0_1 (broadcastInDim S1x256 ![1] bcast_S256_S1x256_1 (arg10 m c))))) (arg13 m c)) (broadcastInDim S2000x128 ![0, 1] bcast_S1x128_S2000x128_0_1 (broadcastInDim S1x128 ![1] bcast_S128_S1x128_1 (arg14 m c)))
/-- The logits. -/
def logits : FVec Ideal S5x2000x2000 .f32 := Host.dotGeneral dot_S5x2_S2x2000x2000_S5x2000x2000_1_0_0_12_n_n none (arg16 m c) (Host.dotGeneral dot_S2x128x2000_S2000x128_S2x2000x2000_1_1_02_0_n_n none (Host.dotGeneral dot_S2x128x128_S2000x128_S2x128x2000_1_1_02_0_n_n none (arg15 m c) (userVec m c)) (itemVec m c))
/-- One where a pair is rated, zero elsewhere. -/
def observed : FVec Ideal S2000x2000 .f32 := uitofp .f32 (cmpf .ogt (Host.reduceAdd (arg17 m c) (constant S_ .f32 0x00000000#32) reducesTo_S5x2000x2000_S2000x2000_d0 h_S_) (broadcastInDim S2000x2000 ![] bcast_S_S2000x2000 (constant S_ .f32 0x00000000#32)))
/-- The number of rated pairs, at least one. -/
def count : FVec Ideal S_ .f32 := maximumf (Host.reduceAdd (observed m c) (constant S_ .f32 0x00000000#32) reducesTo_S2000x2000_S_d0_1 h_S_) (constant S_ .f32 0x3F800000#32)
/-- The logits less the largest of their pair. -/
def shifted : FVec Ideal S5x2000x2000 .f32 := subf (logits m c) (broadcastInDim S5x2000x2000 ![0, 1, 2] bcast_S1x2000x2000_S5x2000x2000_0_1_2 (broadcastInDim S1x2000x2000 ![1, 2] bcast_S2000x2000_S1x2000x2000_1_2 (maximumf (broadcastInDim S2000x2000 ![] bcast_S_S2000x2000 (constant S_ .f32 0xFF800000#32)) (Host.reduce FloatOps.maximumf (logits m c) (constant S_ .f32 0xFF800000#32) reducesTo_S5x2000x2000_S2000x2000_d0 h_S_))))
/-- Their exponentials. -/
def expo : FVec Ideal S5x2000x2000 .f32 := Host.exp (shifted m c)
/-- The sum of the exponentials of a pair. -/
def expoSum : FVec Ideal S2000x2000 .f32 := Host.reduceAdd (expo m c) (constant S_ .f32 0x00000000#32) reducesTo_S5x2000x2000_S2000x2000_d0 h_S_
/-- The log likelihood of a pair. -/
def logLik : FVec Ideal S2000x2000 .f32 := Host.reduceAdd (mulf (arg17 m c) (subf (shifted m c) (broadcastInDim S5x2000x2000 ![0, 1, 2] bcast_S1x2000x2000_S5x2000x2000_0_1_2 (Host.log (broadcastInDim S1x2000x2000 ![1, 2] bcast_S2000x2000_S1x2000x2000_1_2 (expoSum m c)))))) (constant S_ .f32 0x00000000#32) reducesTo_S5x2000x2000_S2000x2000_d0 h_S_
/-- The class numbers 1 to 5. -/
def classNo : FVec Ideal S5 .f32 := addf (sitofp .f32 (iotaInDim S5 32 0)) (broadcastInDim S5 ![] bcast_S_S5 (constant S_ .f32 0x3F800000#32))
/-- The expected rating of a pair. -/
def mean : FVec Ideal S2000x2000 .f32 := Host.dotGeneral dot_S5_S5x2000x2000_S2000x2000_0_0_n_12_n_n none classNo (Host.divf (expo m c) (broadcastInDim S5x2000x2000 ![0, 1, 2] bcast_S1x2000x2000_S5x2000x2000_0_1_2 (broadcastInDim S1x2000x2000 ![1, 2] bcast_S2000x2000_S1x2000x2000_1_2 (expoSum m c))))
/-- The rating of a pair. -/
def target : FVec Ideal S2000x2000 .f32 := Host.dotGeneral dot_S5_S5x2000x2000_S2000x2000_0_0_n_12_n_n none classNo (arg17 m c)
/-- The loss. -/
def loss : FVec Ideal S_ .f32 := Host.divf (Host.negf (Host.reduceAdd (mulf (logLik m c) (observed m c)) (constant S_ .f32 0x00000000#32) reducesTo_S2000x2000_S_d0_1 h_S_)) (count m c)
/-- The root mean squared error. -/
def rmse : FVec Ideal S_ .f32 := Host.sqrt (Host.divf (Host.reduceAdd (mulf (mulf (subf (mean m c) (target m c)) (subf (mean m c) (target m c))) (observed m c)) (constant S_ .f32 0x00000000#32) reducesTo_S2000x2000_S_d0_1 h_S_) (count m c))

theorem logits_eq : res_main_v70 m c = logits m c := rfl
theorem loss_eq : res_main_v95 m c = loss m c := rfl
theorem rmse_eq : res_main_v102 m c = rmse m c := rfl

end Cert.ReferenceIdeal.Value
end
-- ==== Proof.Value.Stages.lean ====
module

public import proofs.«01_k».proof.Proof.Value.Reference
public import proofs.«01_k».proof.Proof.Value.Scalar

/-! # The reference's stages up to the logits, entry by entry -/

@[expose] public section

set_option maxRecDepth 16384

noncomputable section

namespace Cert.ReferenceIdeal.Value

open Cert.ReferenceIdeal Cert.ReferenceIdeal.Gen Cert.Value
open Idealize.ShloMosaic Idealize.ShloMosaic.TcCoe Idealize.ShloMosaic.Tactic

variable (m : (ℓ : Loc nD τ sig) → Buf (Elt Ideal) ℓ) (c : Dev nD)

theorem userDeg_at (k : Fin 5) (u : Fin 2000) : userDeg m c (ix2 k u) = ∑ v, arg17 m c (ix3 k u v) := by pointwise [userDeg]
theorem itemDeg_at (k : Fin 5) (v : Fin 2000) : itemDeg m c (ix2 k v) = ∑ u, arg17 m c (ix3 k u v) := by pointwise [itemDeg]

/-- One over the square root, as the reference writes a scale factor. -/
def refInv (x : EReal) : EReal := if 0 < x then Ideal.div 1 (Ideal.sqrt (max x (Ideal.ofBits FTy.f32 841731191#32))) else 0

theorem zero_spread (k : Fin 5) (u : Fin 2000) : (id (constant S_ .f32 0x00000000#32) : FVec Ideal S_ .f32) ix0 = 0 :=
  show Ideal.ofBits .f32 0x00000000#32 = 0 by pointwise

theorem userInv_at (k : Fin 5) (u : Fin 2000) : userInv m c (ix2 k u) = refInv (userDeg m c (ix2 k u)) := by
  pointwise [userInv, refInv]
  rw [zero_spread k u]
theorem itemInv_at (k : Fin 5) (u : Fin 2000) : itemInv m c (ix2 k u) = refInv (itemDeg m c (ix2 k u)) := by
  pointwise [itemInv, refInv]
  rw [zero_spread k u]

theorem norm_at (k : Fin 5) (u v : Fin 2000) :
    norm m c (ix3 k u v) = arg17 m c (ix3 k u v) * userInv m c (ix2 k u) * itemInv m c (ix2 k v) := by pointwise [norm]

theorem userEnc_at (u : Fin 2000) (e : Fin 256) : userEnc m c (ix2 u e)
    = max (∑ x : Fin 512, arg0 m c (ix2 u x) * arg4 m c (ix2 ⟨x.val, by omega⟩ e) + ∑ x : Fin 128, arg2 m c (ix2 u x) * arg4 m c (ix2 ⟨512 + x.val, by omega⟩ e)
        + arg5 m c (ix1 e)) 0 := by pointwise [userEnc]
theorem itemEnc_at (u : Fin 2000) (e : Fin 256) : itemEnc m c (ix2 u e)
    = max (∑ x : Fin 512, arg1 m c (ix2 u x) * arg6 m c (ix2 ⟨x.val, by omega⟩ e) + ∑ x : Fin 128, arg3 m c (ix2 u x) * arg6 m c (ix2 ⟨512 + x.val, by omega⟩ e)
        + arg7 m c (ix1 e)) 0 := by pointwise [itemEnc]

theorem userVec_at (u : Fin 2000) (e : Fin 128) : userVec m c (ix2 u e)
    = ∑ h, Ideal.tanh ((∑ k, ∑ v, norm m c (ix3 k u v) * ∑ d, itemWeights m c (ix3 k d h) * itemEnc m c (ix2 v d)) + arg9 m c (ix1 h)) * arg11 m c (ix2 h e)
      + arg12 m c (ix1 e) := by pointwise [userVec]
theorem itemVec_at (v : Fin 2000) (e : Fin 128) : itemVec m c (ix2 v e)
    = ∑ h, Ideal.tanh ((∑ k, ∑ u, norm m c (ix3 k u v) * ∑ d, userWeights m c (ix3 k d h) * userEnc m c (ix2 u d)) + arg10 m c (ix1 h)) * arg13 m c (ix2 h e)
      + arg14 m c (ix1 e) := by pointwise [itemVec]
theorem logits_at (k : Fin 5) (u v : Fin 2000) : logits m c (ix3 k u v)
    = ∑ r, arg16 m c (ix2 k r) * ∑ e, (∑ d, arg15 m c (ix3 r d e) * userVec m c (ix2 u d)) * itemVec m c (ix2 v e) := by pointwise [logits]

/-! ## Running sums -/

/-- The window a running sum over five classes slides. -/
abbrev W5 : Shape := ⟨3, ![5, 1, 1]⟩

theorem W5_at : ∀ n : Fin W5.numel, (W5.rowMajor.symm n 0).val = n.val ∧ (W5.rowMajor.symm n 1).val = 0 ∧ (W5.rowMajor.symm n 2).val = 0 := by
  decide +kernel

theorem W5_list : List.finRange W5.numel = [⟨0, by decide⟩, ⟨1, by decide⟩, ⟨2, by decide⟩, ⟨3, by decide⟩, ⟨4, by decide⟩] := by decide +kernel

theorem fold5 (g : Fin W5.numel → EReal) (z : EReal) (f : Fin 5 → EReal) (h : ∀ n, g n = f n) :
    (List.finRange W5.numel).foldl (fun r n => r + g n) z = z + f 0 + f 1 + f 2 + f 3 + f 4 := by
  rw [W5_list]
  simp only [List.foldl, h]
  rfl

theorem cumsum_at (x : FVec Ideal S5x256x256 .f32) (z : FVec Ideal S_ .f32) (hz : ∀ i, z i = 0) (k : Fin 5) (d h : Fin 256) :
    Host.reduceWindowAdd ![5, 1, 1] ![1, 1, 1] ![4, 0, 0] ![0, 0, 0] x z reduceWindows_S5x256x256_S5x256x256_w5s1p4_0_w1s1p0_0_w1s1p0_0 h_S_ (ix3 k d h)
      = ∑ j : Fin 5, if j ≤ k then x (ix3 j d h) else 0 := by
  unfold Host.reduceWindowAdd
  rw [Ideal.hostReduceWindowAdd_def]
  unfold Ideal.hostReduceWindowAdd Host.reduceWindow
  refine (fold5 _ _ (fun n => if hn : 4 ≤ k.val + n.val then x (ix3 ⟨k.val + n.val - 4, by have := k.isLt; have : n.val < 5 := n.isLt; omega⟩ d h) else 0) ?_).trans ?_
  · dsimp only
    intro n
    obtain ⟨h0, h1, h2⟩ := W5_at n
    have hn5 : n.val < 5 := n.isLt
    by_cases hn : 4 ≤ k.val + n.val
    · rw [dif_pos hn, dif_pos]
      · congr 1
        funext a; apply Fin.ext
        fin_cases a
        · show k.val * 1 + (W5.rowMajor.symm n 0).val - 4 = _; rw [h0]; show _ = k.val + n.val - 4; omega
        · show d.val * 1 + (W5.rowMajor.symm n 1).val - 0 = _; rw [h1]; show _ = d.val; omega
        · show h.val * 1 + (W5.rowMajor.symm n 2).val - 0 = _; rw [h2]; show _ = h.val; omega
      · intro a
        fin_cases a
        · show 4 ≤ k.val * 1 + (W5.rowMajor.symm n 0).val ∧ k.val * 1 + (W5.rowMajor.symm n 0).val - 4 < 5; rw [h0]; have := k.isLt; omega
        · show 0 ≤ d.val * 1 + (W5.rowMajor.symm n 1).val ∧ d.val * 1 + (W5.rowMajor.symm n 1).val - 0 < 256; rw [h1]; have := d.isLt; omega
        · show 0 ≤ h.val * 1 + (W5.rowMajor.symm n 2).val ∧ h.val * 1 + (W5.rowMajor.symm n 2).val - 0 < 256; rw [h2]; have := h.isLt; omega
    · rw [dif_neg hn, dif_neg, hz]
      intro hin
      have : 4 ≤ k.val * 1 + (W5.rowMajor.symm n 0).val := (hin 0).1
      rw [h0] at this; omega
  · rw [hz]
    fin_cases k <;> simp [Fin.sum_univ_succ, add_assoc] <;> rfl

theorem itemWeights_at (k : Fin 5) (d h : Fin 256) : itemWeights m c (ix3 k d h) = ∑ j : Fin 5, if j ≤ k then arg8 m c (ix4 0 j d h) else 0 := by
  refine (cumsum_at _ _ (fun i => by pointwise) k d h).trans ?_
  refine Finset.sum_congr rfl fun j _ => ?_
  have e : (shapeCast S5x256x256 (extractStridedSlice S1x5x256x256 ![0, 0, 0, 0] (arg8 m c) slices_S2x5x256x256_S1x5x256x256_0_0_0_0) shapeCasts_S1x5x256x256_S5x256x256) (ix3 j d h)
      = arg8 m c (ix4 0 j d h) := by pointwise
  rw [← e]
theorem userWeights_at (k : Fin 5) (d h : Fin 256) : userWeights m c (ix3 k d h) = ∑ j : Fin 5, if j ≤ k then arg8 m c (ix4 1 j d h) else 0 := by
  refine (cumsum_at _ _ (fun i => by pointwise) k d h).trans ?_
  refine Finset.sum_congr rfl fun j _ => ?_
  have e : (shapeCast S5x256x256 (extractStridedSlice S1x5x256x256 ![1, 0, 0, 0] (arg8 m c) slices_S2x5x256x256_S1x5x256x256_1_0_0_0) shapeCasts_S1x5x256x256_S5x256x256) (ix3 j d h)
      = arg8 m c (ix4 1 j d h) := by pointwise
  rw [← e]

end Cert.ReferenceIdeal.Value
end
-- ==== Proof.Value.Real.lean ====
module

public import proofs.«01_k».proof.Proof.Value.Stats
public import proofs.«01_k».proof.Proof.Value.Layers
public import proofs.«01_k».proof.Proof.Value.Decode
public import proofs.«01_k».proof.Proof.Value.Stages

/-!
# Arithmetic of the two programs

The two spellings of a degree's scale factor, sums times a finite factor, pairs rated at most once, and the
finite quantities computed as real numbers.
-/

@[expose] public section

set_option maxRecDepth 16384

noncomputable section

namespace Cert.Value

open Idealize.ShloMosaic

/-! ## Constants -/

theorem two32 : Ideal.ofBits .f32 1073741824#32 = ((2 : ℝ) : EReal) := by simp [Ideal.ofBits, Ideal.ieee, -EReal.coe_mul]; norm_num
theorem three32 : Ideal.ofBits .f32 1077936128#32 = ((3 : ℝ) : EReal) := by simp [Ideal.ofBits, Ideal.ieee, -EReal.coe_mul]; norm_num
theorem four32 : Ideal.ofBits .f32 1082130432#32 = ((4 : ℝ) : EReal) := by simp [Ideal.ofBits, Ideal.ieee, -EReal.coe_mul]; norm_num
theorem five32 : Ideal.ofBits .f32 1084227584#32 = ((5 : ℝ) : EReal) := by simp [Ideal.ofBits, Ideal.ieee, -EReal.coe_mul]; norm_num
theorem one16 : Ideal.ofBits .bf16 16256#16 = ((1 : ℝ) : EReal) := by simp [Ideal.ofBits, Ideal.ieee, -EReal.coe_mul]; norm_num
theorem two16 : Ideal.ofBits .bf16 16384#16 = ((2 : ℝ) : EReal) := by simp [Ideal.ofBits, Ideal.ieee, -EReal.coe_mul]; norm_num
theorem three16 : Ideal.ofBits .bf16 16448#16 = ((3 : ℝ) : EReal) := by simp [Ideal.ofBits, Ideal.ieee, -EReal.coe_mul]; norm_num
theorem four16 : Ideal.ofBits .bf16 16512#16 = ((4 : ℝ) : EReal) := by simp [Ideal.ofBits, Ideal.ieee, -EReal.coe_mul]; norm_num
theorem five16 : Ideal.ofBits .bf16 16544#16 = ((5 : ℝ) : EReal) := by simp [Ideal.ofBits, Ideal.ieee, -EReal.coe_mul]; norm_num
theorem low32 : Ideal.ofBits .f32 0xFF800000#32 = ⊥ := by simp [Ideal.ofBits, Ideal.ieee]
theorem high32 : Ideal.ofBits .f32 0x7F800000#32 = ⊤ := by simp [Ideal.ofBits, Ideal.ieee]
theorem eps_pos : 0 < Ideal.ofBits .f32 841731191#32 := by
  simp [Ideal.ofBits, Ideal.ieee, -EReal.coe_mul]

/-! ## Scale factors -/

theorem rsqrt_eq {y : EReal} (h : 0 < y) : Ideal.rsqrt y = Ideal.div 1 (Ideal.sqrt y) := by
  induction y with
  | bot => exact absurd h (by simp)
  | top =>
      have e : Ideal.sqrt ⊤ = ⊤ := rfl
      rw [e]; simp [Ideal.div]
  | coe r =>
      have hr : 0 < r := by exact_mod_cast h
      have hs : 0 < Real.sqrt r := Real.sqrt_pos.mpr hr
      have e : Ideal.sqrt (r : EReal) = ((Real.sqrt r : ℝ) : EReal) := if_neg (not_lt.mpr hr.le)
      have hne : ((Real.sqrt r : ℝ) : EReal) ≠ 0 := by exact_mod_cast hs.ne'
      rw [e, Ideal.rsqrt_coe, if_neg (not_lt.mpr hr.le), if_neg hr.ne', Ideal.div, if_neg hne, one_mul, EReal.coe_inv]

theorem degInv_eq (x : EReal) : degInv x = Cert.ReferenceIdeal.Value.refInv x := by
  unfold degInv Cert.ReferenceIdeal.Value.refInv
  by_cases h : 0 < x
  · rw [if_pos h, if_pos h]; exact rsqrt_eq (lt_max_of_lt_left h)
  · rw [if_neg h, if_neg h]

/-- A scale factor is a real number, not negative. -/
theorem degInv_real (x : EReal) : ∃ r : ℝ, 0 ≤ r ∧ degInv x = (r : EReal) := by
  unfold degInv
  by_cases h : 0 < x
  · rw [if_pos h]
    have hy : 0 < max x (Ideal.ofBits .f32 0x322BCC77#32) := lt_max_of_lt_left h
    generalize max x (Ideal.ofBits .f32 0x322BCC77#32) = y at hy
    induction y with
    | bot => exact absurd hy (by simp)
    | top => exact ⟨0, le_refl _, by simp⟩
    | coe r =>
        have hr : 0 < r := by exact_mod_cast hy
        exact ⟨(Real.sqrt r)⁻¹, inv_nonneg.mpr (Real.sqrt_nonneg r), by rw [Ideal.rsqrt_coe, if_neg (not_lt.mpr hr.le), if_neg hr.ne']⟩
  · rw [if_neg h]; exact ⟨0, le_refl _, by simp⟩

/-- A finite factor, not negative, goes into a sum. -/
theorem sum_mul_real {ι : Type} (s : Finset ι) (f : ι → EReal) {c : ℝ} (h : 0 ≤ c) : (∑ i ∈ s, f i) * (c : EReal) = ∑ i ∈ s, f i * (c : EReal) := by
  classical
  induction s using Finset.induction_on with
  | empty => simp
  | insert a s ha ih =>
      rw [Finset.sum_insert ha, Finset.sum_insert ha, ← ih]
      exact EReal.right_distrib_of_nonneg_of_ne_top (by exact_mod_cast h) (EReal.coe_ne_top c) _ _

/-! ## Pairs rated at most once -/

/-- Each entry is zero or one, and they add up to at most one. -/
def Once (r : Fin 5 → EReal) : Prop := (∀ k, r k = 0 ∨ r k = 1) ∧ ∑ k, r k ≤ 1

theorem once_cases {r : Fin 5 → EReal} (h : Once r) : (r = fun _ => 0) ∨ ∃ j, r = fun k => if k = j then 1 else 0 := by
  by_cases h0 : ∀ k, r k = 0
  · exact .inl (funext h0)
  · right
    push Not at h0
    obtain ⟨j, hj⟩ := h0
    have hj1 : r j = 1 := (h.1 j).resolve_left hj
    refine ⟨j, funext fun k => ?_⟩
    by_cases hk : k = j
    · rw [if_pos hk, hk, hj1]
    · rw [if_neg hk]
      refine (h.1 k).resolve_right fun hk1 => ?_
      have hs : ∑ i ∈ ({k, j} : Finset (Fin 5)), r i ≤ ∑ i, r i :=
        Finset.sum_le_sum_of_subset_of_nonneg (Finset.subset_univ _) fun i _ _ => by rcases h.1 i with e | e <;> rw [e] <;> simp
      rw [Finset.sum_pair hk, hk1, hj1] at hs
      have h2 : (1 : EReal) + 1 ≤ 1 := hs.trans h.2
      have h3 : ((1 + 1 : ℝ) : EReal) ≤ ((1 : ℝ) : EReal) := by exact_mod_cast h2
      have h4 : (1 + 1 : ℝ) ≤ 1 := by exact_mod_cast h3
      norm_num at h4

/-! ## Real numbers among the extended ones -/

/-- Being a real number. -/
def Fini (x : EReal) : Prop := ∃ r : ℝ, x = (r : EReal)

theorem Fini.add {x y : EReal} : Fini x → Fini y → Fini (x + y) := by
  rintro ⟨a, rfl⟩ ⟨b, rfl⟩; exact ⟨a + b, (EReal.coe_add a b).symm⟩
theorem Fini.mul {x y : EReal} : Fini x → Fini y → Fini (x * y) := by
  rintro ⟨a, rfl⟩ ⟨b, rfl⟩; exact ⟨a * b, (EReal.coe_mul a b).symm⟩
theorem Fini.max {x y : EReal} (hx : Fini x) (hy : Fini y) : Fini (max x y) := by
  rcases max_choice x y with e | e <;> rw [e] <;> assumption
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]
theorem Fini.sum {ι : Type} (s : Finset ι) {f : ι → EReal} (h : ∀ i, Fini (f i)) : Fini (∑ i ∈ s, f i) := by
  choose g hg using h
  exact ⟨∑ i ∈ s, g i, by rw [coe_sum]; exact Finset.sum_congr rfl fun i _ => hg i⟩
theorem Fini.tanh (x : EReal) : Fini (Ideal.tanh x) := by
  induction x with
  | bot => exact ⟨-1, by simp⟩
  | top => exact ⟨1, by simp⟩
  | coe r => exact ⟨Real.tanh r, rfl⟩
theorem fini_of_abs {x : EReal} (h : Max.max x (-x) < ⊤) : Fini x := by
  induction x with
  | bot => exact absurd h (by simp)
  | top => exact absurd h (by simp)
  | coe r => exact ⟨r, rfl⟩

/-- The two orders of the last products. -/
theorem bilinear (x z : Fin 128 → EReal) (p : Fin 2 → Fin 128 → Fin 128 → EReal) (a : Fin 2 → EReal)
    (hx : ∀ d, Fini (x d)) (hz : ∀ e, Fini (z e)) (hp : ∀ r d e, Fini (p r d e)) (ha : ∀ r, Fini (a r)) :
    ∑ e, ((∑ d, x d * p 0 d e) * a 0 + (∑ d, x d * p 1 d e) * a 1) * z e = ∑ r, a r * ∑ e, (∑ d, p r d e * x d) * z e := by
  choose x' hx using hx
  choose z' hz using hz
  choose p' hp using hp
  choose a' ha using ha
  simp only [hx, hz, hp, ha, ← EReal.coe_mul, ← coe_sum, ← EReal.coe_add]
  congr 1
  rw [Fin.sum_univ_two, Finset.mul_sum, Finset.mul_sum, ← Finset.sum_add_distrib]
  refine Finset.sum_congr rfl fun e _ => ?_
  have c : ∀ r, ∑ d, p' r d e * x' d = ∑ d, x' d * p' r d e := fun r => Finset.sum_congr rfl fun d _ => mul_comm _ _
  rw [c, c]; ring

end Cert.Value

namespace Cert.KernelIdeal.Value

open Idealize.ShloMosaic Cert.Value Cert.KernelIdeal.Run

theorem classVal_eq (k : Fin 5) : classVal k = (((k.val : ℝ) + 1 : ℝ) : EReal) := by
  fin_cases k
  · exact one16.trans (by norm_num)
  · exact two16.trans (by norm_num)
  · exact three16.trans (by norm_num)
  · exact four16.trans (by norm_num)
  · exact five16.trans (by norm_num)

theorem rating_none : rating (fun _ => 0) = 0 := by simp [rating]

theorem rating_one (j : Fin 5) : rating (fun k => if k = j then 1 else 0) = (((j.val : ℝ) + 1 : ℝ) : EReal) := by
  unfold rating
  rw [two32, three32, four32, five32]
  fin_cases j <;> simp <;> norm_cast

theorem class_inj (j k : Fin 5) : ((((j.val : ℝ) + 1 : ℝ) : EReal) = (((k.val : ℝ) + 1 : ℝ) : EReal)) ↔ k = j := by
  rw [EReal.coe_eq_coe_iff]
  constructor
  · intro h
    have h' : (j.val : ℝ) = (k.val : ℝ) := by linarith
    exact (Fin.ext (by exact_mod_cast h')).symm
  · rintro rfl; rfl

theorem class_ne_zero (k : Fin 5) : ((((k.val : ℝ) + 1 : ℝ) : EReal)) ≠ 0 := by
  have : (0 : ℝ) < (k.val : ℝ) + 1 := by positivity
  exact_mod_cast this.ne'

/-- Whether a rating is of a class, read off the number it was packed into. -/
theorem rated_iff {r : Fin 5 → EReal} (h : Once r) (k : Fin 5) (d : EReal) : (if rating r = classVal k then d else 0) = r k * d := by
  rw [classVal_eq]
  rcases once_cases h with rfl | ⟨j, rfl⟩
  · rw [rating_none, if_neg (class_ne_zero k).symm, zero_mul]
  · rw [rating_one]
    by_cases hk : k = j
    · rw [if_pos ((class_inj j k).mpr hk)]; simp [hk]
    · rw [if_neg (fun e => hk ((class_inj j k).mp e))]; simp [hk]

end Cert.KernelIdeal.Value
end
-- ==== Proof.Value.Outputs.lean ====
module

public import proofs.«01_k».proof.Proof.Value.Host
public import proofs.«01_k».proof.Proof.Value.Real

/-!
# The logits of the two programs

Launched with the same arguments, on ratings given at most once and finite last weights, the two programs compute
the same final vectors and the same logits.
-/

@[expose] public section

set_option maxRecDepth 16384

noncomputable section

namespace Cert.KernelIdeal.Value

open Cert.KernelIdeal Cert.KernelIdeal.Gen Cert.KernelIdeal.Run Cert.Value
open Idealize.ShloMosaic Idealize.ShloMosaic.TcCoe

variable (m : (ℓ : Loc nD τ sig) → Buf (Elt Ideal) ℓ) (ρ : Dev nD → PrngReg) (c : Dev nD)
variable (m' : (ℓ : Loc Cert.ReferenceIdeal.nD Cert.ReferenceIdeal.τ Cert.ReferenceIdeal.sig) → Buf (Elt Ideal) ℓ)

/-- The reference is launched with the kernel's arguments. -/
structure Same : Prop where
  a0 : Cert.ReferenceIdeal.Value.arg0 m' c = karg0 m c
  a1 : Cert.ReferenceIdeal.Value.arg1 m' c = karg1 m c
  a2 : Cert.ReferenceIdeal.Value.arg2 m' c = karg2 m c
  a3 : Cert.ReferenceIdeal.Value.arg3 m' c = karg3 m c
  a4 : Cert.ReferenceIdeal.Value.arg4 m' c = karg4 m c
  a5 : Cert.ReferenceIdeal.Value.arg5 m' c = karg5 m c
  a6 : Cert.ReferenceIdeal.Value.arg6 m' c = karg6 m c
  a7 : Cert.ReferenceIdeal.Value.arg7 m' c = karg7 m c
  a8 : Cert.ReferenceIdeal.Value.arg8 m' c = karg8 m c
  a9 : Cert.ReferenceIdeal.Value.arg9 m' c = karg9 m c
  a10 : Cert.ReferenceIdeal.Value.arg10 m' c = karg10 m c
  a11 : Cert.ReferenceIdeal.Value.arg11 m' c = karg11 m c
  a12 : Cert.ReferenceIdeal.Value.arg12 m' c = karg12 m c
  a13 : Cert.ReferenceIdeal.Value.arg13 m' c = karg13 m c
  a14 : Cert.ReferenceIdeal.Value.arg14 m' c = karg14 m c
  a15 : Cert.ReferenceIdeal.Value.arg15 m' c = karg15 m c
  a16 : Cert.ReferenceIdeal.Value.arg16 m' c = karg16 m c
  a17 : Cert.ReferenceIdeal.Value.arg17 m' c = karg17 m c

/-- The arguments the claim is about. -/
structure Good : Prop where
  once : ∀ u v, Once fun k => karg17 m c (ix3 k u v)
  f11 : ∀ i, Fini (karg11 m c i)
  f12 : ∀ i, Fini (karg12 m c i)
  f13 : ∀ i, Fini (karg13 m c i)
  f14 : ∀ i, Fini (karg14 m c i)
  f15 : ∀ i, Fini (karg15 m c i)
  f16 : ∀ i, Fini (karg16 m c i)

section
variable {m c m'} (S : Same m c m') (G : Good m c)
include S

theorem enc_user (u : Fin 2000) (d : Fin 256) :
    enc (uf1 (V2 m ρ) c) (us1 (V2 m ρ) c) (wu1a1 (V2 m ρ) c) (wu1b1 (V2 m ρ) c) (bu11 (V2 m ρ) c) u d = Cert.ReferenceIdeal.Value.userEnc m' c (ix2 u d) := by
  rw [Cert.ReferenceIdeal.Value.userEnc_at, S.a0, S.a2, S.a4, S.a5]
  exact congrArg₂ max (congrArg₂ (· + ·) (congrArg₂ (· + ·)
      (Finset.sum_congr rfl fun x _ => congrArg₂ (· * ·) (congrFun (uf1_eq m ρ c) _) (wu1a1_at m ρ c x d))
      (Finset.sum_congr rfl fun x _ => congrArg₂ (· * ·) (congrFun (us1_eq m ρ c) _) (wu1b1_at m ρ c x d))) (bu11_at m ρ c d)) rfl

theorem enc_item (v : Fin 2000) (d : Fin 256) :
    enc (vf1 (V2 m ρ) c) (vs1 (V2 m ρ) c) (wv1a1 (V2 m ρ) c) (wv1b1 (V2 m ρ) c) (bv11 (V2 m ρ) c) v d = Cert.ReferenceIdeal.Value.itemEnc m' c (ix2 v d) := by
  rw [Cert.ReferenceIdeal.Value.itemEnc_at, S.a1, S.a3, S.a6, S.a7]
  exact congrArg₂ max (congrArg₂ (· + ·) (congrArg₂ (· + ·)
      (Finset.sum_congr rfl fun x _ => congrArg₂ (· * ·) (congrFun (vf1_eq m ρ c) _) (wv1a1_at m ρ c x d))
      (Finset.sum_congr rfl fun x _ => congrArg₂ (· * ·) (congrFun (vs1_eq m ρ c) _) (wv1b1_at m ρ c x d))) (bv11_at m ρ c d)) rfl

theorem cum_item (k : Fin 5) (d h : Fin 256) : cum (gwu1 (V2 m ρ) c) k d h = Cert.ReferenceIdeal.Value.itemWeights m' c (ix3 k d h) := by
  rw [Cert.ReferenceIdeal.Value.itemWeights_at, S.a8]
  exact Finset.sum_congr rfl fun j _ => congrArg (fun x => if j ≤ k then x else 0) (gwu1_at m ρ c j d h)

theorem cum_user (k : Fin 5) (d h : Fin 256) : cum (gwv1 (V2 m ρ) c) k d h = Cert.ReferenceIdeal.Value.userWeights m' c (ix3 k d h) := by
  rw [Cert.ReferenceIdeal.Value.userWeights_at, S.a8]
  exact Finset.sum_congr rfl fun j _ => congrArg (fun x => if j ≤ k then x else 0) (gwv1_at m ρ c j d h)

theorem users_scale (k : Fin 5) (u : Fin 2000) : Cert.ReferenceIdeal.Value.userInv m' c (ix2 k u) = du1 (V2 m ρ) c (ix2 u k) := by
  rw [Cert.ReferenceIdeal.Value.userInv_at, Cert.ReferenceIdeal.Value.userDeg_at, S.a17, du1_at, degInv_eq]

theorem items_scale (k : Fin 5) (v : Fin 2000) : Cert.ReferenceIdeal.Value.itemInv m' c (ix2 k v) = dv1 (V2 m ρ) c (ix2 v k) := by
  rw [Cert.ReferenceIdeal.Value.itemInv_at, Cert.ReferenceIdeal.Value.itemDeg_at, S.a17, dv1_at, degInv_eq]

theorem itemMsgs_eq (k : Fin 5) (v : Fin 2000) (h : Fin 256) : itemMsgs (V2 m ρ) c k v h
    = (∑ d, Cert.ReferenceIdeal.Value.itemWeights m' c (ix3 k d h) * Cert.ReferenceIdeal.Value.itemEnc m' c (ix2 v d)) * dv1 (V2 m ρ) c (ix2 v k) := by
  unfold itemMsgs
  refine congrArg (· * _) (Finset.sum_congr rfl fun d _ => ?_)
  rw [enc_item ρ S, cum_item ρ S, mul_comm]

theorem userMsgs_eq (k : Fin 5) (u : Fin 2000) (h : Fin 256) : userMsgs (V2 m ρ) c k u h
    = ∑ d, Cert.ReferenceIdeal.Value.userWeights m' c (ix3 k d h) * Cert.ReferenceIdeal.Value.userEnc m' c (ix2 u d) := by
  unfold userMsgs
  refine Finset.sum_congr rfl fun d _ => ?_
  rw [enc_user ρ S, cum_user ρ S, mul_comm]

include G

theorem norm_eq (k : Fin 5) (u v : Fin 2000) : Cert.ReferenceIdeal.Value.norm m' c (ix3 k u v) = edge (V2 m ρ) c k u v * dv1 (V2 m ρ) c (ix2 v k) := by
  rw [Cert.ReferenceIdeal.Value.norm_at, S.a17, users_scale ρ S, items_scale ρ S]
  unfold edge
  rw [val1_at, rated_iff (G.once u v)]

theorem userHidden_eq (u : Fin 2000) (e : Fin 128) : userHidden (V2 m ρ) c u e = Cert.ReferenceIdeal.Value.userVec m' c (ix2 u e) := by
  rw [Cert.ReferenceIdeal.Value.userVec_at, S.a9, S.a11, S.a12]
  unfold userHidden
  rw [bu21_at, wu21_eq]
  refine congrArg (· + _) (Finset.sum_congr rfl fun h _ => ?_)
  rw [gbu1_at]
  refine congrArg (fun x => Ideal.tanh (x + _) * _) (Finset.sum_congr rfl fun k _ => Finset.sum_congr rfl fun v _ => ?_)
  rw [norm_eq ρ S G, itemMsgs_eq ρ S, mul_comm _ (dv1 (V2 m ρ) c (ix2 v k)), mul_assoc]

theorem itemHidden_eq (v : Fin 2000) (e : Fin 128) : itemHidden (V2 m ρ) c v e = Cert.ReferenceIdeal.Value.itemVec m' c (ix2 v e) := by
  rw [Cert.ReferenceIdeal.Value.itemVec_at, S.a10, S.a13, S.a14]
  unfold itemHidden
  rw [bv21_at, wv21_eq]
  refine congrArg (· + _) (Finset.sum_congr rfl fun h _ => ?_)
  rw [gbv1_at]
  refine congrArg (fun x => Ideal.tanh (x + _) * _) (Finset.sum_congr rfl fun k _ => ?_)
  obtain ⟨r, hr, e⟩ := degInv_real (∑ u, karg17 m c (ix3 k u v))
  have e' : dv1 (V2 m ρ) c (ix2 v k) = (r : EReal) := (dv1_at m ρ c v k).trans e
  rw [e', sum_mul_real _ _ hr]
  refine Finset.sum_congr rfl fun u _ => ?_
  rw [norm_eq ρ S G, userMsgs_eq ρ S, e', mul_right_comm]

omit S in
theorem userHidden_fini (u : Fin 2000) (e : Fin 128) : Fini (userHidden (V2 m ρ) c u e) := by
  unfold userHidden
  rw [bu21_at, wu21_eq]
  exact (Fini.sum _ fun h => (Fini.tanh _).mul (G.f11 _)).add (G.f12 _)

omit S in
theorem itemHidden_fini (v : Fin 2000) (e : Fin 128) : Fini (itemHidden (V2 m ρ) c v e) := by
  unfold itemHidden
  rw [bv21_at, wv21_eq]
  exact (Fini.sum _ fun h => (Fini.tanh _).mul (G.f13 _)).add (G.f14 _)

theorem logit_eq (k : Fin 5) (u v : Fin 2000) : logitV (V3 m ρ) c k u v = Cert.ReferenceIdeal.Value.logits m' c (ix3 k u v) := by
  rw [Cert.ReferenceIdeal.Value.logits_at, S.a15, S.a16]
  simp only [← userHidden_eq ρ S G, ← itemHidden_eq ρ S G]
  refine (Finset.sum_congr rfl fun e _ => congrArg₂ (· * ·) (quer2_at m ρ c k u e) (item2_at m ρ c v e)).trans ?_
  unfold query
  rw [p1_eq, a1_eq]
  exact bilinear (fun d => userHidden (V2 m ρ) c u d) (fun e => itemHidden (V2 m ρ) c v e) (fun r d e => karg15 m c (ix3 r d e)) (fun r => karg16 m c (ix2 k r))
    (fun d => userHidden_fini ρ G u d) (fun e => itemHidden_fini ρ G v e) (fun r d e => G.f15 _) (fun r => G.f16 _)

omit S in
theorem logit_fini (k : Fin 5) (u v : Fin 2000) : Fini (logitV (V3 m ρ) c k u v) := by
  unfold logitV
  refine Fini.sum _ fun e => ?_
  rw [quer2_at, item2_at]
  unfold query
  rw [p1_eq, a1_eq]
  exact (((Fini.sum _ fun d => (userHidden_fini ρ G u d).mul (G.f15 _)).mul (G.f16 _)).add
    ((Fini.sum _ fun d => (userHidden_fini ρ G u d).mul (G.f15 _)).mul (G.f16 _))).mul (itemHidden_fini ρ G v e)

/-- The two programs' logits. -/
theorem outputs_eq : B5 m ρ c (Proc.devRef .tc main_v16_0) = Cert.ReferenceIdeal.Value.logits m' c :=
  (out_logits m ρ c).trans (funext fun i => (logit_eq ρ S G (i 0) (i 1) (i 2)).trans (congrArg _ (eq_ix3 i).symm))

end

end Cert.KernelIdeal.Value
end
-- ==== Proof.Value.Condition.lean ====
module

public import proofs.«01_k».proof.Defs
public import proofs.«01_k».proof.Proof.Value.Outputs

/-! # What the precondition says of the arguments -/

@[expose] public section

set_option maxRecDepth 16384

noncomputable section

namespace Cert.Pre_rated_once

open Cert.Pre_rated_once Cert.Value
open Idealize.ShloMosaic Idealize.ShloMosaic.TcCoe Idealize.ShloMosaic.Tactic

/-- The precondition's shapes fit. -/
theorem shapes : Facts where
  bcast_S_S5x2000x2000 := by decide
  reducesTo_S5x2000x2000_S2000x2000_d0 := by decide
  h_S_ := by decide
  bcast_S_S2000x2000 := by decide
  bcast_S_S256x128 := by decide
  bcast_S_S128 := by decide
  bcast_S_S2x128x128 := by decide
  bcast_S_S5x2 := by decide

section
variable [Facts]
open Facts

/-- A comparison that comes out true. -/
theorem holds_of {p : Prop} [Decidable p] (h : BitVec.ofBool (decide p) = 1#1) : p := by
  by_contra hp; rw [decide_eq_false hp] at h; exact absurd h (by decide)
theorem either_of {p q : Prop} [Decidable p] [Decidable q] (h : BitVec.ofBool (decide p) ||| BitVec.ofBool (decide q) = 1#1) : p ∨ q := by
  by_contra hpq
  rw [not_or] at hpq
  rw [decide_eq_false hpq.1, decide_eq_false hpq.2] at h; exact absurd h (by decide)

theorem mark_of (x : FVec Ideal S5x2000x2000 .f32)
    (h : ori (cmpf .oeq x (broadcastInDim S5x2000x2000 ![] bcast_S_S5x2000x2000 (constant S_ .f32 0x00000000#32)))
      (cmpf .oeq x (broadcastInDim S5x2000x2000 ![] bcast_S_S5x2000x2000 (constant S_ .f32 0x3F800000#32))) = fun _ => 1#1) (k : Fin 5) (u v : Fin 2000) :
    x (ix3 k u v) = 0 ∨ x (ix3 k u v) = 1 := by
  have e : (ori (cmpf .oeq x (broadcastInDim S5x2000x2000 ![] bcast_S_S5x2000x2000 (constant S_ .f32 0x00000000#32)))
      (cmpf .oeq x (broadcastInDim S5x2000x2000 ![] bcast_S_S5x2000x2000 (constant S_ .f32 0x3F800000#32)))) (ix3 k u v)
      = BitVec.ofBool (decide (x (ix3 k u v) = 0)) ||| BitVec.ofBool (decide (x (ix3 k u v) = 1)) := by
    pointwise
    rfl
  exact either_of (e.symm.trans (congrFun h _))

theorem single_of (x : FVec Ideal S5x2000x2000 .f32)
    (h : cmpf .ole (Host.reduceAdd x (constant S_ .f32 0x00000000#32) reducesTo_S5x2000x2000_S2000x2000_d0 h_S_)
      (broadcastInDim S2000x2000 ![] bcast_S_S2000x2000 (constant S_ .f32 0x3F800000#32)) = fun _ => 1#1) (u v : Fin 2000) :
    ∑ k, x (ix3 k u v) ≤ 1 := by
  have e : (cmpf .ole (Host.reduceAdd x (constant S_ .f32 0x00000000#32) reducesTo_S5x2000x2000_S2000x2000_d0 h_S_)
      (broadcastInDim S2000x2000 ![] bcast_S_S2000x2000 (constant S_ .f32 0x3F800000#32))) (ix2 u v) = BitVec.ofBool (decide (∑ k, x (ix3 k u v) ≤ 1)) := by pointwise
  exact holds_of (e.symm.trans (congrFun h _))

theorem finite_of {S : Shape} (b : S_.BroadcastsInDim S (![] : Fin 0 → Fin S.rank)) (x : FVec Ideal S .f32)
    (h : cmpf .olt (Host.absf x) (broadcastInDim S ![] b (constant S_ .f32 0x7F800000#32)) = fun _ => 1#1) (i : S.Idx) : Fini (x i) := by
  have e : (cmpf .olt (Host.absf x) (broadcastInDim S ![] b (constant S_ .f32 0x7F800000#32))) i
      = BitVec.ofBool (decide (max (x i) (-(x i)) < Ideal.ofBits .f32 0x7F800000#32)) := rfl
  have h' := holds_of (e.symm.trans (congrFun h i))
  rw [high32] at h'
  exact fini_of_abs h'
end

/-- Arguments meeting the precondition. -/
theorem good (m : (ℓ : Loc Cert.KernelIdeal.nD Cert.KernelIdeal.τ Cert.KernelIdeal.sig) → Buf (Elt Ideal) ℓ)
    (h : Cert.Pre_KernelIdeal_rated_once (hPre_rated_once := shapes) m) (c : Dev Cert.KernelIdeal.nD) : Cert.KernelIdeal.Value.Good m c := by
  obtain ⟨h0, h1, h2, h3, h4, h5, h6, h7⟩ := h c
  haveI := shapes
  exact ⟨fun u v => ⟨fun k => mark_of _ h0 k u v, single_of _ h1 u v⟩, finite_of _ _ h2, finite_of _ _ h3, finite_of _ _ h4, finite_of _ _ h5, finite_of _ _ h6, finite_of _ _ h7⟩

end Cert.Pre_rated_once
end
-- ==== Proof.Value.Pairs.lean ====
module

public import proofs.«01_k».proof.Proof.Value.Real

/-!
# One pair's share of the loss and of the error

For a pair rated at most once and finite logits, the decoder's terms are the reference's.
-/

@[expose] public section

set_option maxRecDepth 16384

noncomputable section

namespace Cert.Value

open Idealize.ShloMosaic Cert.KernelIdeal.Run Cert.KernelIdeal.Value

/-- One where the ratings of a pair add up to more than zero, as the reference counts it. -/
def obsR (r : Fin 5 → EReal) : EReal := FloatOps.uitofp (F := Ideal) FTy.f32 (BitVec.ofBool (decide (0 < ∑ k, r k)))
/-- The log likelihood of a pair, as the reference sums it. -/
def logR (l r : Fin 5 → EReal) : EReal := ∑ k, r k * (l k - peakP l - Ideal.log (sumP l))
/-- A class number, counted from one. -/
def classR (k : Fin 5) : EReal := FloatOps.sitofp (F := Ideal) FTy.f32 (BitVec.ofNat 32 k.val) + 1
/-- The expected rating of a pair. -/
def meanR (l : Fin 5 → EReal) : EReal := ∑ k, classR k * Ideal.div (expoP l k) (sumP l)
/-- The rating of a pair. -/
def targetR (r : Fin 5 → EReal) : EReal := ∑ k, classR k * r k

theorem classR_eq (k : Fin 5) : classR k = (((k.val : ℝ) + 1 : ℝ) : EReal) := by
  have h : (BitVec.ofNat 32 k.val).toInt = (k.val : ℤ) := by fin_cases k <;> rfl
  show (((BitVec.ofNat 32 k.val).toInt : ℝ) : EReal) + 1 = _
  rw [h]; push_cast; rfl

theorem obsR_of {b : Bool} : (FloatOps.uitofp (F := Ideal) FTy.f32 (BitVec.ofBool b) : EReal) = if b then 1 else 0 := by
  show (((BitVec.ofBool b).toNat : ℝ) : EReal) = _
  cases b <;> simp
theorem obsP_of {b : Bool} : (FloatOps.sitofp (F := Ideal) FTy.f32 (BitVec.setWidth 32 (BitVec.ofBool b)) : EReal) = if b then 1 else 0 := by
  show (((BitVec.setWidth 32 (BitVec.ofBool b)).toInt : ℝ) : EReal) = _
  cases b <;> simp

theorem obsP_zero : obsP 0 = 0 := by unfold obsP; rw [obsP_of]; simp
theorem obsP_class (j : Fin 5) : obsP (((j.val : ℝ) + 1 : ℝ) : EReal) = 1 := by
  have h : (0 : EReal) < (((j.val : ℝ) + 1 : ℝ) : EReal) := by exact_mod_cast (by positivity : (0 : ℝ) < (j.val : ℝ) + 1)
  unfold obsP; rw [obsP_of, decide_eq_true h]; rfl
theorem obsR_zero : obsR (fun _ => 0) = 0 := by unfold obsR; rw [obsR_of]; simp
theorem obsR_one (j : Fin 5) : obsR (fun k => if k = j then 1 else 0) = 1 := by
  unfold obsR; rw [obsR_of]; simp

theorem obs_pair {r : Fin 5 → EReal} (h : Once r) : obsP (rating r) = obsR r := by
  rcases once_cases h with rfl | ⟨j, rfl⟩
  · rw [rating_none, obsP_zero, obsR_zero]
  · rw [rating_one, obsP_class, obsR_one]

/-- The quantities of a pair as real numbers. -/
theorem pair_real {l : Fin 5 → EReal} (hl : ∀ k, Fini (l k)) : ∃ (x e : Fin 5 → ℝ) (M S : ℝ), S ≠ 0 ∧ (∀ k, l k = (x k : EReal)) ∧ peakP l = (M : EReal)
    ∧ (∀ k, expoP l k = (e k : EReal)) ∧ sumP l = (S : EReal) ∧ Ideal.log (sumP l) = (Real.log S : EReal) := by
  choose x hx using hl
  obtain ⟨M, hM⟩ : Fini (peakP l) := (((Fini.max ⟨_, hx 0⟩ ⟨_, hx 1⟩).max ⟨_, hx 2⟩).max (Fini.max ⟨_, hx 3⟩ ⟨_, hx 4⟩))
  have he : ∀ k, expoP l k = ((Real.exp (x k - M) : ℝ) : EReal) := fun k => by
    unfold expoP; rw [hx, hM, ← EReal.coe_sub, Ideal.exp_coe]
  have hs : sumP l = ((Real.exp (x 0 - M) + Real.exp (x 1 - M) + Real.exp (x 2 - M) + Real.exp (x 3 - M) + Real.exp (x 4 - M) : ℝ) : EReal) := by
    unfold sumP; simp only [he, ← EReal.coe_add]
  have hp : 0 < Real.exp (x 0 - M) + Real.exp (x 1 - M) + Real.exp (x 2 - M) + Real.exp (x 3 - M) + Real.exp (x 4 - M) := by positivity
  refine ⟨x, _, M, _, hp.ne', hx, hM, he, hs, ?_⟩
  rw [hs]
  exact if_neg (not_le.mpr hp)

theorem pick_class (l : Fin 5 → EReal) (j : Fin 5) : pickP l (((j.val : ℝ) + 1 : ℝ) : EReal) = l j := by
  have c : ∀ k : Fin 5, ((((j.val : ℝ) + 1 : ℝ) : EReal) = (((k.val : ℝ) + 1 : ℝ) : EReal)) ↔ k = j := class_inj j
  have c0 : ((((j.val : ℝ) + 1 : ℝ) : EReal) = 1) ↔ (0 : Fin 5) = j := by rw [← c]; simp
  have c1 : ((((j.val : ℝ) + 1 : ℝ) : EReal) = Ideal.ofBits FTy.bf16 16384#16) ↔ (1 : Fin 5) = j := by rw [← c, two16]; norm_num
  have c2 : ((((j.val : ℝ) + 1 : ℝ) : EReal) = Ideal.ofBits FTy.bf16 16448#16) ↔ (2 : Fin 5) = j := by rw [← c, three16]; norm_num
  have c3 : ((((j.val : ℝ) + 1 : ℝ) : EReal) = Ideal.ofBits FTy.bf16 16512#16) ↔ (3 : Fin 5) = j := by rw [← c, four16]; norm_num
  have c4 : ((((j.val : ℝ) + 1 : ℝ) : EReal) = Ideal.ofBits FTy.bf16 16544#16) ↔ (4 : Fin 5) = j := by rw [← c, five16]; norm_num
  unfold pickP
  simp only [c0, c1, c2, c3, c4]
  fin_cases j <;> simp

theorem loss_pair {l r : Fin 5 → EReal} (h : Once r) (hl : ∀ k, Fini (l k)) : lossP l (rating r) = logR l r * obsR r := by
  unfold lossP
  rcases once_cases h with rfl | ⟨j, rfl⟩
  · rw [rating_none, obsP_zero, obsR_zero, zero_mul, mul_zero]
  · rw [rating_one, obsP_class, obsR_one, one_mul, mul_one, pick_class]
    obtain ⟨x, e, M, S, -, hx, hM, -, -, hlog⟩ := pair_real hl
    have s : logR l (fun k => if k = j then 1 else 0) = l j - peakP l - Ideal.log (sumP l) := by
      unfold logR; simp
    rw [s, hlog, hM, hx, ← EReal.coe_add, ← EReal.coe_sub, ← EReal.coe_sub, ← EReal.coe_sub]
    congr 1; ring

theorem mean_eq {l : Fin 5 → EReal} (hl : ∀ k, Fini (l k)) : Ideal.div (momentP l) (sumP l) = meanR l := by
  obtain ⟨x, e, M, S, h0, -, -, he, hs, -⟩ := pair_real hl
  have d : ∀ a : ℝ, Ideal.div (a : EReal) (S : EReal) = ((a * S⁻¹ : ℝ) : EReal) := fun a => by
    rw [Ideal.div, if_neg (by exact_mod_cast h0), EReal.coe_mul, EReal.coe_inv]
  unfold momentP meanR
  simp only [classR_eq, he, hs, d, two32, three32, four32, five32, ← EReal.coe_mul, ← EReal.coe_add, ← coe_sum]
  congr 1
  rw [Fin.sum_univ_five]
  push_cast
  norm_num
  ring

theorem target_eq {r : Fin 5 → EReal} (h : Once r) : targetR r = rating r := by
  unfold targetR
  rcases once_cases h with rfl | ⟨j, rfl⟩
  · rw [rating_none]; simp
  · rw [rating_one]; simp [classR_eq]

theorem err_pair {l r : Fin 5 → EReal} (h : Once r) (hl : ∀ k, Fini (l k)) :
    errP l (rating r) = (meanR l - targetR r) * (meanR l - targetR r) * obsR r := by
  unfold errP
  rw [obs_pair h, mean_eq hl, target_eq h, mul_comm]

end Cert.Value
end
-- ==== Proof.Value.Scores.lean ====
module

public import proofs.«01_k».proof.Proof.Value.Pairs

/-! # The reference's loss and error, as sums over all pairs -/

@[expose] public section

set_option maxRecDepth 16384

noncomputable section

namespace Cert.ReferenceIdeal.Value

open Cert.ReferenceIdeal Cert.ReferenceIdeal.Gen Cert.Value
open Idealize.ShloMosaic Idealize.ShloMosaic.TcCoe Idealize.ShloMosaic.Tactic

variable (m : (ℓ : Loc nD τ sig) → Buf (Elt Ideal) ℓ) (c : Dev nD)

/-- The ratings of a pair, class by class. -/
abbrev rates (u v : Fin 2000) : Fin 5 → EReal := fun k => arg17 m c (ix3 k u v)
/-- The logits of a pair, class by class. -/
abbrev scores (u v : Fin 2000) : Fin 5 → EReal := fun k => logits m c (ix3 k u v)

theorem largest_at (x : FVec Ideal S5x2000x2000 .f32) (z : FVec Ideal S_ .f32) (u v : Fin 2000) :
    Host.reduce FloatOps.maximumf x z reducesTo_S5x2000x2000_S2000x2000_d0 h_S_ (ix2 u v)
      = Finset.fold max (z (Shape.Idx.first h_S_)) (fun k => x (ix3 k u v)) Finset.univ := by pointwise

theorem total_at (x : FVec Ideal S2000x2000 .f32) (z : FVec Ideal S_ .f32) :
    Host.reduceAdd x z reducesTo_S2000x2000_S_d0_1 h_S_ ix0 = z (Shape.Idx.first h_S_) + ∑ u, ∑ v, x (ix2 u v) := by pointwise

theorem less_at (x : FVec Ideal S5x2000x2000 .f32) (w y : FVec Ideal S2000x2000 .f32) (k : Fin 5) (u v : Fin 2000) :
    subf x (broadcastInDim S5x2000x2000 ![0, 1, 2] bcast_S1x2000x2000_S5x2000x2000_0_1_2
      (broadcastInDim S1x2000x2000 ![1, 2] bcast_S2000x2000_S1x2000x2000_1_2 (maximumf w y))) (ix3 k u v)
      = x (ix3 k u v) - max (w (ix2 u v)) (y (ix2 u v)) := by pointwise

theorem spread_at (z : FVec Ideal S_ .f32) (u v : Fin 2000) : broadcastInDim S2000x2000 ![] bcast_S_S2000x2000 z (ix2 u v) = z ix0 := by pointwise

theorem fold_max (l : Fin 5 → EReal) : Finset.fold max ⊥ l Finset.univ = peakP l := by
  refine eq_of_forall_ge_iff fun c => ?_
  rw [Finset.fold_max_le]
  unfold peakP
  simp only [max_le_iff]
  constructor
  · rintro ⟨-, h⟩
    exact ⟨⟨⟨h 0 (Finset.mem_univ _), h 1 (Finset.mem_univ _)⟩, h 2 (Finset.mem_univ _)⟩, h 3 (Finset.mem_univ _), h 4 (Finset.mem_univ _)⟩
  · rintro ⟨⟨⟨h0, h1⟩, h2⟩, h3, h4⟩
    refine ⟨bot_le, fun k _ => ?_⟩
    fin_cases k <;> assumption

theorem low_at (i : S_.Idx) : constant (F := Ideal) S_ .f32 0xFF800000#32 i = (⊥ : EReal) := low32

theorem shifted_at (k : Fin 5) (u v : Fin 2000) : shifted m c (ix3 k u v) = scores m c u v k - peakP (scores m c u v) := by
  unfold shifted
  rw [less_at, largest_at, spread_at, low_at, low_at, fold_max, max_eq_right bot_le]

theorem expo_at (k : Fin 5) (u v : Fin 2000) : expo m c (ix3 k u v) = expoP (scores m c u v) k :=
  congrArg Ideal.exp (shifted_at m c k u v)

theorem expoSum_at (u v : Fin 2000) : expoSum m c (ix2 u v) = sumP (scores m c u v) := by
  have h : expoSum m c (ix2 u v) = ∑ k, expo m c (ix3 k u v) := by pointwise [expoSum]
  rw [h, Fin.sum_univ_five]
  simp only [expo_at]
  rfl

theorem logLik_at (u v : Fin 2000) : logLik m c (ix2 u v) = logR (scores m c u v) (rates m c u v) := by
  have h : logLik m c (ix2 u v) = ∑ k, arg17 m c (ix3 k u v) * (shifted m c (ix3 k u v) - Ideal.log (expoSum m c (ix2 u v))) := by pointwise [logLik]
  rw [h, expoSum_at]
  simp only [shifted_at]
  rfl

theorem classNo_at (k : Fin 5) : classNo (ix1 k) = classR k := by pointwise [classNo, classR]

theorem mean_at (u v : Fin 2000) : mean m c (ix2 u v) = meanR (scores m c u v) := by
  have h : mean m c (ix2 u v) = ∑ k, classNo (ix1 k) * Ideal.div (expo m c (ix3 k u v)) (expoSum m c (ix2 u v)) := by pointwise [mean]
  rw [h, expoSum_at]
  simp only [expo_at, classNo_at]
  rfl

theorem target_at (u v : Fin 2000) : target m c (ix2 u v) = targetR (rates m c u v) := by
  have h : target m c (ix2 u v) = ∑ k, classNo (ix1 k) * arg17 m c (ix3 k u v) := by pointwise [target]
  rw [h]
  simp only [classNo_at]
  rfl

theorem observed_at (u v : Fin 2000) : observed m c (ix2 u v) = obsR (rates m c u v) := by pointwise [observed, obsR]

theorem zero_at (i : S_.Idx) : constant (F := Ideal) S_ .f32 0x00000000#32 i = (0 : EReal) := by
  show Ideal.ofBits .f32 0x00000000#32 = 0; pointwise
theorem one_at (i : S_.Idx) : constant (F := Ideal) S_ .f32 0x3F800000#32 i = (1 : EReal) := by
  show Ideal.ofBits .f32 0x3F800000#32 = 1; pointwise

theorem most_at (x : FVec Ideal S2000x2000 .f32) (z o : FVec Ideal S_ .f32) :
    maximumf (Host.reduceAdd x z reducesTo_S2000x2000_S_d0_1 h_S_) o ix0 = max (z (Shape.Idx.first h_S_) + ∑ u, ∑ v, x (ix2 u v)) (o ix0) := by pointwise
theorem lossOf_at (x y : FVec Ideal S2000x2000 .f32) (z n : FVec Ideal S_ .f32) :
    Host.divf (Host.negf (Host.reduceAdd (mulf x y) z reducesTo_S2000x2000_S_d0_1 h_S_)) n ix0
      = Ideal.div (-(z (Shape.Idx.first h_S_) + ∑ u, ∑ v, x (ix2 u v) * y (ix2 u v))) (n ix0) := by pointwise
theorem rmseOf_at (x t y : FVec Ideal S2000x2000 .f32) (z n : FVec Ideal S_ .f32) :
    Host.sqrt (Host.divf (Host.reduceAdd (mulf (mulf (subf x t) (subf x t)) y) z reducesTo_S2000x2000_S_d0_1 h_S_) n) ix0
      = Ideal.sqrt (Ideal.div (z (Shape.Idx.first h_S_) + ∑ u, ∑ v, (x (ix2 u v) - t (ix2 u v)) * (x (ix2 u v) - t (ix2 u v)) * y (ix2 u v)) (n ix0)) := by pointwise

theorem count_at : count m c ix0 = max (∑ u, ∑ v, obsR (rates m c u v)) 1 := by
  unfold count
  generalize hx : observed m c = x
  rw [most_at, zero_at, zero_add, one_at]
  subst hx
  simp only [observed_at]

theorem loss_at : loss m c ix0 = Ideal.div (-∑ u, ∑ v, logR (scores m c u v) (rates m c u v) * obsR (rates m c u v)) (max (∑ u, ∑ v, obsR (rates m c u v)) 1) := by
  unfold loss
  rw [← count_at]
  simp only [← observed_at, ← logLik_at]
  generalize observed m c = y
  generalize logLik m c = x
  generalize count m c = n
  rw [lossOf_at, zero_at, zero_add]

theorem rmse_at : rmse m c ix0 = Ideal.sqrt (Ideal.div (∑ u, ∑ v, (meanR (scores m c u v) - targetR (rates m c u v)) * (meanR (scores m c u v) - targetR (rates m c u v))
    * obsR (rates m c u v)) (max (∑ u, ∑ v, obsR (rates m c u v)) 1)) := by
  unfold rmse
  rw [← count_at]
  simp only [← observed_at, ← mean_at, ← target_at]
  generalize observed m c = y
  generalize mean m c = x
  generalize target m c = t
  generalize count m c = n
  rw [rmseOf_at, zero_at, zero_add]

end Cert.ReferenceIdeal.Value
end
-- ==== Proof.Value.Totals.lean ====
module

public import proofs.«01_k».proof.Proof.Value.Outputs
public import proofs.«01_k».proof.Proof.Value.Scores

/-! # The loss and the error of the two programs -/

@[expose] public section

set_option maxRecDepth 16384

noncomputable section

namespace Cert.KernelIdeal.Value

open Cert.KernelIdeal Cert.KernelIdeal.Gen Cert.KernelIdeal.Run Cert.Value
open Idealize.ShloMosaic Idealize.ShloMosaic.TcCoe
open Cert.ReferenceIdeal.Value (rates scores)

variable {m : (ℓ : Loc nD τ sig) → Buf (Elt Ideal) ℓ} (ρ : Dev nD → PrngReg) {c : Dev nD}
variable {m' : (ℓ : Loc Cert.ReferenceIdeal.nD Cert.ReferenceIdeal.τ Cert.ReferenceIdeal.sig) → Buf (Elt Ideal) ℓ}
variable (S : Same m c m') (G : Good m c)
include S G

theorem rates_once (u v : Fin 2000) : Once (rates m' c u v) := by
  have h := G.once u v
  rw [← S.a17] at h
  exact h

theorem scores_eq (u v : Fin 2000) : (fun k => logitV (V3 m ρ) c k u v) = scores m' c u v := funext fun k => logit_eq ρ S G k u v

include ρ in
theorem scores_fini (u v : Fin 2000) (k : Fin 5) : Fini (scores m' c u v k) := by
  rw [← scores_eq ρ S G]
  exact logit_fini ρ G k u v

theorem rating_eq (u v : Fin 2000) : val2 (V3 m ρ) c (ix2 u v) = rating (rates m' c u v) := by
  refine (val2_at m ρ c u v).trans ?_
  rw [← S.a17]

theorem total_loss : totalV (V3 m ρ) c 0 = ∑ u, ∑ v, logR (scores m' c u v) (rates m' c u v) * obsR (rates m' c u v) := by
  refine Finset.sum_congr rfl fun u _ => Finset.sum_congr rfl fun v _ => ?_
  rw [← loss_pair (rates_once S G u v) (scores_fini ρ S G u v)]
  exact congrArg₂ lossP (scores_eq ρ S G u v) (rating_eq ρ S G u v)

theorem total_err : totalV (V3 m ρ) c 1 = ∑ u, ∑ v, (meanR (scores m' c u v) - targetR (rates m' c u v)) * (meanR (scores m' c u v) - targetR (rates m' c u v))
    * obsR (rates m' c u v) := by
  refine Finset.sum_congr rfl fun u _ => Finset.sum_congr rfl fun v _ => ?_
  rw [← err_pair (rates_once S G u v) (scores_fini ρ S G u v)]
  exact congrArg₂ errP (scores_eq ρ S G u v) (rating_eq ρ S G u v)

theorem total_obs : totalV (V3 m ρ) c 2 = ∑ u, ∑ v, obsR (rates m' c u v) := by
  refine Finset.sum_congr rfl fun u _ => Finset.sum_congr rfl fun v _ => ?_
  rw [← obs_pair (rates_once S G u v)]
  exact congrArg obsP (rating_eq ρ S G u v)

omit S G in
theorem eq_ix0 (i : S_.Idx) : i = ix0 := funext fun a => a.elim0

/-- The two programs' losses. -/
theorem loss_eq : (B5 m ρ c (Proc.devRef .tc main_v23) : FVec Ideal S_ .f32) = Cert.ReferenceIdeal.Value.loss m' c := funext fun i => by
  rw [eq_ix0 i]
  refine (out_loss m ρ c).trans ?_
  rw [total_loss ρ S G, total_obs ρ S G]
  exact (Cert.ReferenceIdeal.Value.loss_at m' c).symm

/-- The two programs' errors. -/
theorem rmse_eq : (B5 m ρ c (Proc.devRef .tc main_v27) : FVec Ideal S_ .f32) = Cert.ReferenceIdeal.Value.rmse m' c := funext fun i => by
  rw [eq_ix0 i]
  refine (out_rmse m ρ c).trans ?_
  rw [total_err ρ S G, total_obs ρ S G]
  exact (Cert.ReferenceIdeal.Value.rmse_at m' c).symm

end Cert.KernelIdeal.Value
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run.Transport
public import proofs.«01_k».proof.Proof.Value.Condition
public import proofs.«01_k».proof.Proof.Value.Totals

@[expose] public section

noncomputable section

namespace Cert.Proof

open Idealize.ShloMosaic Idealize.SL.Sem Cert.Kernel

/-- The reference ends with its arguments as launched and every semaphore at zero. -/
theorem reference_frame : Cert.quiescent_ReferenceIdeal (hReferenceIdeal := Cert.ReferenceIdeal.Gen.facts) := fun m ρ _ =>
  (θ_run _ _ _).mono (fun r h => ⟨fun c => (h c).2.2.2, funext fun g => nomatch g.2⟩) (Cert.ReferenceIdeal.Value.run m ρ)

/-- The logits, the loss and the error of the kernel are the reference's. -/
theorem same_results : Cert.algebraic_KernelIdeal_ReferenceIdeal_pre_rated_once (hKernelIdeal := Cert.KernelIdeal.Gen.facts)
    (hReferenceIdeal := Cert.ReferenceIdeal.Gen.facts) (hPre_rated_once := Cert.Pre_rated_once.shapes) := by
  intro m ρ m' ρ' hp ha
  have G := Cert.Pre_rated_once.good m hp
  have S : ∀ c, Cert.KernelIdeal.Value.Same m c m' := fun c => by
    obtain ⟨h0, h1, h2, h3, h4, h5, h6, h7, h8, h9, h10, h11, h12, h13, h14, h15, h16, h17⟩ := ha c
    exact ⟨h0, h1, h2, h3, h4, h5, h6, h7, h8, h9, h10, h11, h12, h13, h14, h15, h16, h17⟩
  refine ⟨fun c => Cert.ReferenceIdeal.Value.logits m' c, fun c => Cert.ReferenceIdeal.Value.loss m' c, fun c => Cert.ReferenceIdeal.Value.rmse m' c, ?_, ?_⟩
  · refine (θ_run _ _ _).mono (fun r h c => ?_) (Cert.KernelIdeal.Run.run m ρ)
    have arg : ∀ a ∈ Cert.KernelIdeal.Run.argRefs, r.2.mem ((c.tc : Thread Cert.KernelIdeal.nD Cert.KernelIdeal.τ).loc a)
        = m ((c.tc : Thread Cert.KernelIdeal.nD Cert.KernelIdeal.τ).loc a) := fun a ha =>
      (h.1 c _ (Cert.KernelIdeal.Run.mem_uc a (by revert a; decide))).trans (Cert.KernelIdeal.Run.B5_args m ρ c a ha)
    refine ⟨(h.1 c _ (Cert.KernelIdeal.Run.mem_uc _ (by decide))).trans (Cert.KernelIdeal.Value.outputs_eq ρ (S c) (G c)),
      (h.1 c _ (Cert.KernelIdeal.Run.mem_uc _ (by decide))).trans (Cert.KernelIdeal.Value.loss_eq ρ (S c) (G c)),
      (h.1 c _ (Cert.KernelIdeal.Run.mem_uc _ (by decide))).trans (Cert.KernelIdeal.Value.rmse_eq ρ (S c) (G c)), ?_⟩
    refine ⟨arg Cert.KernelIdeal.main_arg0 (by decide), arg Cert.KernelIdeal.main_arg1 (by decide), arg Cert.KernelIdeal.main_arg2 (by decide), arg Cert.KernelIdeal.main_arg3 (by decide), arg Cert.KernelIdeal.main_arg4 (by decide), arg Cert.KernelIdeal.main_arg5 (by decide), arg Cert.KernelIdeal.main_arg6 (by decide), arg Cert.KernelIdeal.main_arg7 (by decide), arg Cert.KernelIdeal.main_arg8 (by decide), arg Cert.KernelIdeal.main_arg9 (by decide), arg Cert.KernelIdeal.main_arg10 (by decide), arg Cert.KernelIdeal.main_arg11 (by decide), arg Cert.KernelIdeal.main_arg12 (by decide), arg Cert.KernelIdeal.main_arg13 (by decide), arg Cert.KernelIdeal.main_arg14 (by decide), arg Cert.KernelIdeal.main_arg15 (by decide), arg Cert.KernelIdeal.main_arg16 (by decide), arg Cert.KernelIdeal.main_arg17 (by decide)⟩
  · exact (θ_run _ _ _).mono (fun r h c => h c) (Cert.ReferenceIdeal.Value.run m' ρ')

theorem claim : Cert.Claim := ⟨Cert.Kernel.Gen.facts, Cert.KernelIdeal.Gen.facts, Cert.ReferenceIdeal.Gen.facts, Cert.Pre_rated_once.shapes,
  fun m ρ _ => Cert.Transport.frame _ m ρ, fun m ρ _ => Cert.KernelIdeal.Run.frame m ρ, fun m ρ _ => Cert.KernelIdeal.Run.frame m ρ, reference_frame,
  fun m ρ _ => reference_frame m ρ trivial, trivial, same_results⟩

end Cert.Proof

end
